-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_labels_in_vocabulary [hPre_labels_in_vocabulary : Cert.Pre_labels_in_vocabulary.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_labels_in_vocabulary.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3)) (m ((c.tc : Thread Cert.ForwardIdeal.nD Cert.ForwardIdeal.τ).loc Cert.ForwardIdeal.main_arg4)) (m ((c.tc : Thread Cert.ForwardIdeal.nD Cert.ForwardIdeal.τ).loc Cert.ForwardIdeal.main_arg5)) (m ((c.tc : Thread Cert.ForwardIdeal.nD Cert.ForwardIdeal.τ).loc Cert.ForwardIdeal.main_arg6))) = (fun _ => 1#1)

def Pre_ForwardRefIdeal (m : (ℓ : Loc Cert.ForwardRefIdeal.nD Cert.ForwardRefIdeal.τ Cert.ForwardRefIdeal.sig) → Buf (Elt Ideal) ℓ) : Prop :=
  True

def Pre_ForwardRefIdeal_labels_in_vocabulary [hPre_labels_in_vocabulary : Cert.Pre_labels_in_vocabulary.Facts] (m : (ℓ : Loc Cert.ForwardRefIdeal.nD Cert.ForwardRefIdeal.τ Cert.ForwardRefIdeal.sig) → Buf (Elt Ideal) ℓ) : Prop :=
  ∀ c : Dev Cert.ForwardRefIdeal.nD,
    (Cert.Pre_labels_in_vocabulary.fn (F := Ideal) (m ((c.tc : Thread Cert.ForwardRefIdeal.nD Cert.ForwardRefIdeal.τ).loc Cert.ForwardRefIdeal.main_arg0)) (m ((c.tc : Thread Cert.ForwardRefIdeal.nD Cert.ForwardRefIdeal.τ).loc Cert.ForwardRefIdeal.main_arg1)) (m ((c.tc : Thread Cert.ForwardRefIdeal.nD Cert.ForwardRefIdeal.τ).loc Cert.ForwardRefIdeal.main_arg2)) (m ((c.tc : Thread Cert.ForwardRefIdeal.nD Cert.ForwardRefIdeal.τ).loc Cert.ForwardRefIdeal.main_arg3)) (m ((c.tc : Thread Cert.ForwardRefIdeal.nD Cert.ForwardRefIdeal.τ).loc Cert.ForwardRefIdeal.main_arg4)) (m ((c.tc : Thread Cert.ForwardRefIdeal.nD Cert.ForwardRefIdeal.τ).loc Cert.ForwardRefIdeal.main_arg5)) (m ((c.tc : Thread Cert.ForwardRefIdeal.nD Cert.ForwardRefIdeal.τ).loc Cert.ForwardRefIdeal.main_arg6))) = (fun _ => 1#1)

def Pre_Backward (m : (ℓ : Loc Cert.Backward.nD Cert.Backward.τ Cert.Backward.sig) → Buf (Elt Bits) ℓ) : Prop :=
  True

def Pre_BackwardIdeal (m : (ℓ : Loc Cert.BackwardIdeal.nD Cert.BackwardIdeal.τ Cert.BackwardIdeal.sig) → Buf (Elt Ideal) ℓ) : Prop :=
  True

def Pre_BackwardIdeal_scale_nonzero [hPre_scale_nonzero : Cert.Pre_scale_nonzero.Facts] (m : (ℓ : Loc Cert.BackwardIdeal.nD Cert.BackwardIdeal.τ Cert.BackwardIdeal.sig) → Buf (Elt Ideal) ℓ) : Prop :=
  ∀ c : Dev Cert.BackwardIdeal.nD,
    (Cert.Pre_scale_nonzero.fn (F := Ideal) (m ((c.tc : Thread Cert.BackwardIdeal.nD Cert.BackwardIdeal.τ).loc Cert.BackwardIdeal.main_arg0)) (m ((c.tc : Thread Cert.BackwardIdeal.nD Cert.BackwardIdeal.τ).loc Cert.BackwardIdeal.main_arg1)) (m ((c.tc : Thread Cert.BackwardIdeal.nD Cert.BackwardIdeal.τ).loc Cert.BackwardIdeal.main_arg2)) (m ((c.tc : Thread Cert.BackwardIdeal.nD Cert.BackwardIdeal.τ).loc Cert.BackwardIdeal.main_arg3)) (m ((c.tc : Thread Cert.BackwardIdeal.nD Cert.BackwardIdeal.τ).loc Cert.BackwardIdeal.main_arg4)) (m ((c.tc : Thread Cert.BackwardIdeal.nD Cert.BackwardIdeal.τ).loc Cert.BackwardIdeal.main_arg5)) (m ((c.tc : Thread Cert.BackwardIdeal.nD Cert.BackwardIdeal.τ).loc Cert.BackwardIdeal.main_arg6)) (m ((c.tc : Thread Cert.BackwardIdeal.nD Cert.BackwardIdeal.τ).loc Cert.BackwardIdeal.main_arg7)) (m ((c.tc : Thread Cert.BackwardIdeal.nD Cert.BackwardIdeal.τ).loc Cert.BackwardIdeal.main_arg8))) = (fun _ => 1#1)

def Pre_BackwardRefIdeal (m : (ℓ : Loc Cert.BackwardRefIdeal.nD Cert.BackwardRefIdeal.τ Cert.BackwardRefIdeal.sig) → Buf (Elt Ideal) ℓ) : Prop :=
  True

def Pre_BackwardRefIdeal_scale_nonzero [hPre_scale_nonzero : Cert.Pre_scale_nonzero.Facts] (m : (ℓ : Loc Cert.BackwardRefIdeal.nD Cert.BackwardRefIdeal.τ Cert.BackwardRefIdeal.sig) → Buf (Elt Ideal) ℓ) : Prop :=
  ∀ c : Dev Cert.BackwardRefIdeal.nD,
    (Cert.Pre_scale_nonzero.fn (F := Ideal) (m ((c.tc : Thread Cert.BackwardRefIdeal.nD Cert.BackwardRefIdeal.τ).loc Cert.BackwardRefIdeal.main_arg0)) (m ((c.tc : Thread Cert.BackwardRefIdeal.nD Cert.BackwardRefIdeal.τ).loc Cert.BackwardRefIdeal.main_arg1)) (m ((c.tc : Thread Cert.BackwardRefIdeal.nD Cert.BackwardRefIdeal.τ).loc Cert.BackwardRefIdeal.main_arg2)) (m ((c.tc : Thread Cert.BackwardRefIdeal.nD Cert.BackwardRefIdeal.τ).loc Cert.BackwardRefIdeal.main_arg3)) (m ((c.tc : Thread Cert.BackwardRefIdeal.nD Cert.BackwardRefIdeal.τ).loc Cert.BackwardRefIdeal.main_arg4)) (m ((c.tc : Thread Cert.BackwardRefIdeal.nD Cert.BackwardRefIdeal.τ).loc Cert.BackwardRefIdeal.main_arg5)) (m ((c.tc : Thread Cert.BackwardRefIdeal.nD Cert.BackwardRefIdeal.τ).loc Cert.BackwardRefIdeal.main_arg6)) (m ((c.tc : Thread Cert.BackwardRefIdeal.nD Cert.BackwardRefIdeal.τ).loc Cert.BackwardRefIdeal.main_arg7)) (m ((c.tc : Thread Cert.BackwardRefIdeal.nD Cert.BackwardRefIdeal.τ).loc Cert.BackwardRefIdeal.main_arg8))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Pairs (m : (ℓ : Loc Cert.Pairs.nD Cert.Pairs.τ Cert.Pairs.sig) → Buf (Elt Bits) ℓ) : Prop :=
  True

def Pre_PairsIdeal (m : (ℓ : Loc Cert.PairsIdeal.nD Cert.PairsIdeal.τ Cert.PairsIdeal.sig) → Buf (Elt Ideal) ℓ) : Prop :=
  True

def Pre_PairsIdeal_segments_distinct [hPre_segments_distinct : Cert.Pre_segments_distinct.Facts] (m : (ℓ : Loc Cert.PairsIdeal.nD Cert.PairsIdeal.τ Cert.PairsIdeal.sig) → Buf (Elt Ideal) ℓ) : Prop :=
  ∀ c : Dev Cert.PairsIdeal.nD,
    (Cert.Pre_segments_distinct.fn (F := Ideal) (m ((c.tc : Thread Cert.PairsIdeal.nD Cert.PairsIdeal.τ).loc Cert.PairsIdeal.main_arg0)) (m ((c.tc : Thread Cert.PairsIdeal.nD Cert.PairsIdeal.τ).loc Cert.PairsIdeal.main_arg1)) (m ((c.tc : Thread Cert.PairsIdeal.nD Cert.PairsIdeal.τ).loc Cert.PairsIdeal.main_arg2)) (m ((c.tc : Thread Cert.PairsIdeal.nD Cert.PairsIdeal.τ).loc Cert.PairsIdeal.main_arg3)) (m ((c.tc : Thread Cert.PairsIdeal.nD Cert.PairsIdeal.τ).loc Cert.PairsIdeal.main_arg4)) (m ((c.tc : Thread Cert.PairsIdeal.nD Cert.PairsIdeal.τ).loc Cert.PairsIdeal.main_arg5))) = (fun _ => 1#1)

def Pre_PairsRefIdeal (m : (ℓ : Loc Cert.PairsRefIdeal.nD Cert.PairsRefIdeal.τ Cert.PairsRefIdeal.sig) → Buf (Elt Ideal) ℓ) : Prop :=
  True

def Pre_PairsRefIdeal_segments_distinct [hPre_segments_distinct : Cert.Pre_segments_distinct.Facts] (m : (ℓ : Loc Cert.PairsRefIdeal.nD Cert.PairsRefIdeal.τ Cert.PairsRefIdeal.sig) → Buf (Elt Ideal) ℓ) : Prop :=
  ∀ c : Dev Cert.PairsRefIdeal.nD,
    (Cert.Pre_segments_distinct.fn (F := Ideal) (m ((c.tc : Thread Cert.PairsRefIdeal.nD Cert.PairsRefIdeal.τ).loc Cert.PairsRefIdeal.main_arg0)) (m ((c.tc : Thread Cert.PairsRefIdeal.nD Cert.PairsRefIdeal.τ).loc Cert.PairsRefIdeal.main_arg1)) (m ((c.tc : Thread Cert.PairsRefIdeal.nD Cert.PairsRefIdeal.τ).loc Cert.PairsRefIdeal.main_arg2)) (m ((c.tc : Thread Cert.PairsRefIdeal.nD Cert.PairsRefIdeal.τ).loc Cert.PairsRefIdeal.main_arg3)) (m ((c.tc : Thread Cert.PairsRefIdeal.nD Cert.PairsRefIdeal.τ).loc Cert.PairsRefIdeal.main_arg4)) (m ((c.tc : Thread Cert.PairsRefIdeal.nD Cert.PairsRefIdeal.τ).loc Cert.PairsRefIdeal.main_arg5))) = (fun _ => 1#1)

def Pre_LoraB (m : (ℓ : Loc Cert.LoraB.nD Cert.LoraB.τ Cert.LoraB.sig) → Buf (Elt Bits) ℓ) : Prop :=
  True

def Pre_LoraBIdeal (m : (ℓ : Loc Cert.LoraBIdeal.nD Cert.LoraBIdeal.τ Cert.LoraBIdeal.sig) → Buf (Elt Ideal) ℓ) : Prop :=
  True

def Pre_LoraBRefIdeal (m : (ℓ : Loc Cert.LoraBRefIdeal.nD Cert.LoraBRefIdeal.τ Cert.LoraBRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4)
      ∧ r.2.mem ((c.tc : Thread Cert.Forward.nD Cert.Forward.τ).loc Cert.Forward.main_arg5) = m ((c.tc : Thread Cert.Forward.nD Cert.Forward.τ).loc Cert.Forward.main_arg5)
      ∧ r.2.mem ((c.tc : Thread Cert.Forward.nD Cert.Forward.τ).loc Cert.Forward.main_arg6) = m ((c.tc : Thread Cert.Forward.nD Cert.Forward.τ).loc Cert.Forward.main_arg6))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6))
      ∧ r.2.sem = fun _ => 0)

def quiescent_ForwardIdeal_pre_labels_in_vocabulary [hForwardIdeal : Cert.ForwardIdeal.Facts] [hPre_labels_in_vocabulary : Cert.Pre_labels_in_vocabulary.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_labels_in_vocabulary m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6))
      ∧ r.2.sem = fun _ => 0)

def quiescent_ForwardRefIdeal [hForwardRefIdeal : Cert.ForwardRefIdeal.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3)
      ∧ r.2.mem ((c.tc : Thread Cert.ForwardRefIdeal.nD Cert.ForwardRefIdeal.τ).loc Cert.ForwardRefIdeal.main_arg4) = m ((c.tc : Thread Cert.ForwardRefIdeal.nD Cert.ForwardRefIdeal.τ).loc Cert.ForwardRefIdeal.main_arg4)
      ∧ r.2.mem ((c.tc : Thread Cert.ForwardRefIdeal.nD Cert.ForwardRefIdeal.τ).loc Cert.ForwardRefIdeal.main_arg5) = m ((c.tc : Thread Cert.ForwardRefIdeal.nD Cert.ForwardRefIdeal.τ).loc Cert.ForwardRefIdeal.main_arg5)
      ∧ r.2.mem ((c.tc : Thread Cert.ForwardRefIdeal.nD Cert.ForwardRefIdeal.τ).loc Cert.ForwardRefIdeal.main_arg6) = m ((c.tc : Thread Cert.ForwardRefIdeal.nD Cert.ForwardRefIdeal.τ).loc Cert.ForwardRefIdeal.main_arg6))
      ∧ r.2.sem = fun _ => 0)

def quiescent_ForwardRefIdeal_pre_labels_in_vocabulary [hForwardRefIdeal : Cert.ForwardRefIdeal.Facts] [hPre_labels_in_vocabulary : Cert.Pre_labels_in_vocabulary.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal_labels_in_vocabulary m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3)
      ∧ r.2.mem ((c.tc : Thread Cert.ForwardRefIdeal.nD Cert.ForwardRefIdeal.τ).loc Cert.ForwardRefIdeal.main_arg4) = m ((c.tc : Thread Cert.ForwardRefIdeal.nD Cert.ForwardRefIdeal.τ).loc Cert.ForwardRefIdeal.main_arg4)
      ∧ r.2.mem ((c.tc : Thread Cert.ForwardRefIdeal.nD Cert.ForwardRefIdeal.τ).loc Cert.ForwardRefIdeal.main_arg5) = m ((c.tc : Thread Cert.ForwardRefIdeal.nD Cert.ForwardRefIdeal.τ).loc Cert.ForwardRefIdeal.main_arg5)
      ∧ r.2.mem ((c.tc : Thread Cert.ForwardRefIdeal.nD Cert.ForwardRefIdeal.τ).loc Cert.ForwardRefIdeal.main_arg6) = m ((c.tc : Thread Cert.ForwardRefIdeal.nD Cert.ForwardRefIdeal.τ).loc Cert.ForwardRefIdeal.main_arg6))
      ∧ r.2.sem = fun _ => 0)

def quiescent_Backward [hBackward : Cert.Backward.Facts] : Prop :=
  ∀ (m : (ℓ : Loc Cert.Backward.nD Cert.Backward.τ Cert.Backward.sig) → Buf (Elt Bits) ℓ) (g : Dev Cert.Backward.nD → PrngReg), Pre_Backward m →
    θ_run (Cert.Backward.defs (F := Bits)) (onTc (τ := Cert.Backward.τ) (Cert.Backward.main (F := Bits))) ⟨m, fun _ => 0, g⟩ (fun r => (∀ c : Dev Cert.Backward.nD,
      r.2.mem ((c.tc : Thread Cert.Backward.nD Cert.Backward.τ).loc Cert.Backward.main_arg0) = m ((c.tc : Thread Cert.Backward.nD Cert.Backward.τ).loc Cert.Backward.main_arg0)
      ∧ r.2.mem ((c.tc : Thread Cert.Backward.nD Cert.Backward.τ).loc Cert.Backward.main_arg1) = m ((c.tc : Thread Cert.Backward.nD Cert.Backward.τ).loc Cert.Backward.main_arg1)
      ∧ r.2.mem ((c.tc : Thread Cert.Backward.nD Cert.Backward.τ).loc Cert.Backward.main_arg2) = m ((c.tc : Thread Cert.Backward.nD Cert.Backward.τ).loc Cert.Backward.main_arg2)
      ∧ r.2.mem ((c.tc : Thread Cert.Backward.nD Cert.Backward.τ).loc Cert.Backward.main_arg3) = m ((c.tc : Thread Cert.Backward.nD Cert.Backward.τ).loc Cert.Backward.main_arg3)
      ∧ r.2.mem ((c.tc : Thread Cert.Backward.nD Cert.Backward.τ).loc Cert.Backward.main_arg4) = m ((c.tc : Thread Cert.Backward.nD Cert.Backward.τ).loc Cert.Backward.main_arg4)
      ∧ r.2.mem ((c.tc : Thread Cert.Backward.nD Cert.Backward.τ).loc Cert.Backward.main_arg5) = m ((c.tc : Thread Cert.Backward.nD Cert.Backward.τ).loc Cert.Backward.main_arg5)
      ∧ r.2.mem ((c.tc : Thread Cert.Backward.nD Cert.Backward.τ).loc Cert.Backward.main_arg6) = m ((c.tc : Thread Cert.Backward.nD Cert.Backward.τ).loc Cert.Backward.main_arg6)
      ∧ r.2.mem ((c.tc : Thread Cert.Backward.nD Cert.Backward.τ).loc Cert.Backward.main_arg7) = m ((c.tc : Thread Cert.Backward.nD Cert.Backward.τ).loc Cert.Backward.main_arg7)
      ∧ r.2.mem ((c.tc : Thread Cert.Backward.nD Cert.Backward.τ).loc Cert.Backward.main_arg8) = m ((c.tc : Thread Cert.Backward.nD Cert.Backward.τ).loc Cert.Backward.main_arg8))
      ∧ r.2.sem = fun _ => 0)

def quiescent_BackwardIdeal [hBackwardIdeal : Cert.BackwardIdeal.Facts] : Prop :=
  ∀ (m : (ℓ : Loc Cert.BackwardIdeal.nD Cert.BackwardIdeal.τ Cert.BackwardIdeal.sig) → Buf (Elt Ideal) ℓ) (g : Dev Cert.BackwardIdeal.nD → PrngReg), Pre_BackwardIdeal m →
    θ_run (Cert.BackwardIdeal.defs (F := Ideal)) (onTc (τ := Cert.BackwardIdeal.τ) (Cert.BackwardIdeal.main (F := Ideal))) ⟨m, fun _ => 0, g⟩ (fun r => (∀ c : Dev Cert.BackwardIdeal.nD,
      r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
      ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
      ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
      ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3)
      ∧ r.2.mem ((c.tc : Thread Cert.BackwardIdeal.nD Cert.BackwardIdeal.τ).loc Cert.BackwardIdeal.main_arg4) = m ((c.tc : Thread Cert.BackwardIdeal.nD Cert.BackwardIdeal.τ).loc Cert.BackwardIdeal.main_arg4)
      ∧ r.2.mem ((c.tc : Thread Cert.BackwardIdeal.nD Cert.BackwardIdeal.τ).loc Cert.BackwardIdeal.main_arg5) = m ((c.tc : Thread Cert.BackwardIdeal.nD Cert.BackwardIdeal.τ).loc Cert.BackwardIdeal.main_arg5)
      ∧ r.2.mem ((c.tc : Thread Cert.BackwardIdeal.nD Cert.BackwardIdeal.τ).loc Cert.BackwardIdeal.main_arg6) = m ((c.tc : Thread Cert.BackwardIdeal.nD Cert.BackwardIdeal.τ).loc Cert.BackwardIdeal.main_arg6)
      ∧ r.2.mem ((c.tc : Thread Cert.BackwardIdeal.nD Cert.BackwardIdeal.τ).loc Cert.BackwardIdeal.main_arg7) = m ((c.tc : Thread Cert.BackwardIdeal.nD Cert.BackwardIdeal.τ).loc Cert.BackwardIdeal.main_arg7)
      ∧ r.2.mem ((c.tc : Thread Cert.BackwardIdeal.nD Cert.BackwardIdeal.τ).loc Cert.BackwardIdeal.main_arg8) = m ((c.tc : Thread Cert.BackwardIdeal.nD Cert.BackwardIdeal.τ).loc Cert.BackwardIdeal.main_arg8))
      ∧ r.2.sem = fun _ => 0)

def quiescent_BackwardIdeal_pre_scale_nonzero [hBackwardIdeal : Cert.BackwardIdeal.Facts] [hPre_scale_nonzero : Cert.Pre_scale_nonzero.Facts] : Prop :=
  ∀ (m : (ℓ : Loc Cert.BackwardIdeal.nD Cert.BackwardIdeal.τ Cert.BackwardIdeal.sig) → Buf (Elt Ideal) ℓ) (g : Dev Cert.BackwardIdeal.nD → PrngReg), Pre_BackwardIdeal_scale_nonzero m →
    θ_run (Cert.BackwardIdeal.defs (F := Ideal)) (onTc (τ := Cert.BackwardIdeal.τ) (Cert.BackwardIdeal.main (F := Ideal))) ⟨m, fun _ => 0, g⟩ (fun r => (∀ c : Dev Cert.BackwardIdeal.nD,
      r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
      ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
      ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
      ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3)
      ∧ r.2.mem ((c.tc : Thread Cert.BackwardIdeal.nD Cert.BackwardIdeal.τ).loc Cert.BackwardIdeal.main_arg4) = m ((c.tc : Thread Cert.BackwardIdeal.nD Cert.BackwardIdeal.τ).loc Cert.BackwardIdeal.main_arg4)
      ∧ r.2.mem ((c.tc : Thread Cert.BackwardIdeal.nD Cert.BackwardIdeal.τ).loc Cert.BackwardIdeal.main_arg5) = m ((c.tc : Thread Cert.BackwardIdeal.nD Cert.BackwardIdeal.τ).loc Cert.BackwardIdeal.main_arg5)
      ∧ r.2.mem ((c.tc : Thread Cert.BackwardIdeal.nD Cert.BackwardIdeal.τ).loc Cert.BackwardIdeal.main_arg6) = m ((c.tc : Thread Cert.BackwardIdeal.nD Cert.BackwardIdeal.τ).loc Cert.BackwardIdeal.main_arg6)
      ∧ r.2.mem ((c.tc : Thread Cert.BackwardIdeal.nD Cert.BackwardIdeal.τ).loc Cert.BackwardIdeal.main_arg7) = m ((c.tc : Thread Cert.BackwardIdeal.nD Cert.BackwardIdeal.τ).loc Cert.BackwardIdeal.main_arg7)
      ∧ r.2.mem ((c.tc : Thread Cert.BackwardIdeal.nD Cert.BackwardIdeal.τ).loc Cert.BackwardIdeal.main_arg8) = m ((c.tc : Thread Cert.BackwardIdeal.nD Cert.BackwardIdeal.τ).loc Cert.BackwardIdeal.main_arg8))
      ∧ r.2.sem = fun _ => 0)

def quiescent_BackwardRefIdeal [hBackwardRefIdeal : Cert.BackwardRefIdeal.Facts] : Prop :=
  ∀ (m : (ℓ : Loc Cert.BackwardRefIdeal.nD Cert.BackwardRefIdeal.τ Cert.BackwardRefIdeal.sig) → Buf (Elt Ideal) ℓ) (g : Dev Cert.BackwardRefIdeal.nD → PrngReg), Pre_BackwardRefIdeal m →
    θ_run (Cert.BackwardRefIdeal.defs (F := Ideal)) (onTc (τ := Cert.BackwardRefIdeal.τ) (Cert.BackwardRefIdeal.main (F := Ideal))) ⟨m, fun _ => 0, g⟩ (fun r => (∀ c : Dev Cert.BackwardRefIdeal.nD,
      r.2.mem ((c.tc : Thread Cert.BackwardRefIdeal.nD Cert.BackwardRefIdeal.τ).loc Cert.BackwardRefIdeal.main_arg0) = m ((c.tc : Thread Cert.BackwardRefIdeal.nD Cert.BackwardRefIdeal.τ).loc Cert.BackwardRefIdeal.main_arg0)
      ∧ r.2.mem ((c.tc : Thread Cert.BackwardRefIdeal.nD Cert.BackwardRefIdeal.τ).loc Cert.BackwardRefIdeal.main_arg1) = m ((c.tc : Thread Cert.BackwardRefIdeal.nD Cert.BackwardRefIdeal.τ).loc Cert.BackwardRefIdeal.main_arg1)
      ∧ r.2.mem ((c.tc : Thread Cert.BackwardRefIdeal.nD Cert.BackwardRefIdeal.τ).loc Cert.BackwardRefIdeal.main_arg2) = m ((c.tc : Thread Cert.BackwardRefIdeal.nD Cert.BackwardRefIdeal.τ).loc Cert.BackwardRefIdeal.main_arg2)
      ∧ r.2.mem ((c.tc : Thread Cert.BackwardRefIdeal.nD Cert.BackwardRefIdeal.τ).loc Cert.BackwardRefIdeal.main_arg3) = m ((c.tc : Thread Cert.BackwardRefIdeal.nD Cert.BackwardRefIdeal.τ).loc Cert.BackwardRefIdeal.main_arg3)
      ∧ r.2.mem ((c.tc : Thread Cert.BackwardRefIdeal.nD Cert.BackwardRefIdeal.τ).loc Cert.BackwardRefIdeal.main_arg4) = m ((c.tc : Thread Cert.BackwardRefIdeal.nD Cert.BackwardRefIdeal.τ).loc Cert.BackwardRefIdeal.main_arg4)
      ∧ r.2.mem ((c.tc : Thread Cert.BackwardRefIdeal.nD Cert.BackwardRefIdeal.τ).loc Cert.BackwardRefIdeal.main_arg5) = m ((c.tc : Thread Cert.BackwardRefIdeal.nD Cert.BackwardRefIdeal.τ).loc Cert.BackwardRefIdeal.main_arg5)
      ∧ r.2.mem ((c.tc : Thread Cert.BackwardRefIdeal.nD Cert.BackwardRefIdeal.τ).loc Cert.BackwardRefIdeal.main_arg6) = m ((c.tc : Thread Cert.BackwardRefIdeal.nD Cert.BackwardRefIdeal.τ).loc Cert.BackwardRefIdeal.main_arg6)
      ∧ r.2.mem ((c.tc : Thread Cert.BackwardRefIdeal.nD Cert.BackwardRefIdeal.τ).loc Cert.BackwardRefIdeal.main_arg7) = m ((c.tc : Thread Cert.BackwardRefIdeal.nD Cert.BackwardRefIdeal.τ).loc Cert.BackwardRefIdeal.main_arg7)
      ∧ r.2.mem ((c.tc : Thread Cert.BackwardRefIdeal.nD Cert.BackwardRefIdeal.τ).loc Cert.BackwardRefIdeal.main_arg8) = m ((c.tc : Thread Cert.BackwardRefIdeal.nD Cert.BackwardRefIdeal.τ).loc Cert.BackwardRefIdeal.main_arg8))
      ∧ r.2.sem = fun _ => 0)

def quiescent_BackwardRefIdeal_pre_scale_nonzero [hBackwardRefIdeal : Cert.BackwardRefIdeal.Facts] [hPre_scale_nonzero : Cert.Pre_scale_nonzero.Facts] : Prop :=
  ∀ (m : (ℓ : Loc Cert.BackwardRefIdeal.nD Cert.BackwardRefIdeal.τ Cert.BackwardRefIdeal.sig) → Buf (Elt Ideal) ℓ) (g : Dev Cert.BackwardRefIdeal.nD → PrngReg), Pre_BackwardRefIdeal_scale_nonzero m →
    θ_run (Cert.BackwardRefIdeal.defs (F := Ideal)) (onTc (τ := Cert.BackwardRefIdeal.τ) (Cert.BackwardRefIdeal.main (F := Ideal))) ⟨m, fun _ => 0, g⟩ (fun r => (∀ c : Dev Cert.BackwardRefIdeal.nD,
      r.2.mem ((c.tc : Thread Cert.BackwardRefIdeal.nD Cert.BackwardRefIdeal.τ).loc Cert.BackwardRefIdeal.main_arg0) = m ((c.tc : Thread Cert.BackwardRefIdeal.nD Cert.BackwardRefIdeal.τ).loc Cert.BackwardRefIdeal.main_arg0)
      ∧ r.2.mem ((c.tc : Thread Cert.BackwardRefIdeal.nD Cert.BackwardRefIdeal.τ).loc Cert.BackwardRefIdeal.main_arg1) = m ((c.tc : Thread Cert.BackwardRefIdeal.nD Cert.BackwardRefIdeal.τ).loc Cert.BackwardRefIdeal.main_arg1)
      ∧ r.2.mem ((c.tc : Thread Cert.BackwardRefIdeal.nD Cert.BackwardRefIdeal.τ).loc Cert.BackwardRefIdeal.main_arg2) = m ((c.tc : Thread Cert.BackwardRefIdeal.nD Cert.BackwardRefIdeal.τ).loc Cert.BackwardRefIdeal.main_arg2)
      ∧ r.2.mem ((c.tc : Thread Cert.BackwardRefIdeal.nD Cert.BackwardRefIdeal.τ).loc Cert.BackwardRefIdeal.main_arg3) = m ((c.tc : Thread Cert.BackwardRefIdeal.nD Cert.BackwardRefIdeal.τ).loc Cert.BackwardRefIdeal.main_arg3)
      ∧ r.2.mem ((c.tc : Thread Cert.BackwardRefIdeal.nD Cert.BackwardRefIdeal.τ).loc Cert.BackwardRefIdeal.main_arg4) = m ((c.tc : Thread Cert.BackwardRefIdeal.nD Cert.BackwardRefIdeal.τ).loc Cert.BackwardRefIdeal.main_arg4)
      ∧ r.2.mem ((c.tc : Thread Cert.BackwardRefIdeal.nD Cert.BackwardRefIdeal.τ).loc Cert.BackwardRefIdeal.main_arg5) = m ((c.tc : Thread Cert.BackwardRefIdeal.nD Cert.BackwardRefIdeal.τ).loc Cert.BackwardRefIdeal.main_arg5)
      ∧ r.2.mem ((c.tc : Thread Cert.BackwardRefIdeal.nD Cert.BackwardRefIdeal.τ).loc Cert.BackwardRefIdeal.main_arg6) = m ((c.tc : Thread Cert.BackwardRefIdeal.nD Cert.BackwardRefIdeal.τ).loc Cert.BackwardRefIdeal.main_arg6)
      ∧ r.2.mem ((c.tc : Thread Cert.BackwardRefIdeal.nD Cert.BackwardRefIdeal.τ).loc Cert.BackwardRefIdeal.main_arg7) = m ((c.tc : Thread Cert.BackwardRefIdeal.nD Cert.BackwardRefIdeal.τ).loc Cert.BackwardRefIdeal.main_arg7)
      ∧ r.2.mem ((c.tc : Thread Cert.BackwardRefIdeal.nD Cert.BackwardRefIdeal.τ).loc Cert.BackwardRefIdeal.main_arg8) = m ((c.tc : Thread Cert.BackwardRefIdeal.nD Cert.BackwardRefIdeal.τ).loc Cert.BackwardRefIdeal.main_arg8))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6)
      ∧ r.2.mem ((c.tc : Thread Cert.Final.nD Cert.Final.τ).loc Cert.Final.main_arg7) = m ((c.tc : Thread Cert.Final.nD Cert.Final.τ).loc Cert.Final.main_arg7))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5)
      ∧ r.2.mem ((c.tc : Thread Cert.FinalRefIdeal.nD Cert.FinalRefIdeal.τ).loc Cert.FinalRefIdeal.main_arg6) = m ((c.tc : Thread Cert.FinalRefIdeal.nD Cert.FinalRefIdeal.τ).loc Cert.FinalRefIdeal.main_arg6)
      ∧ r.2.mem ((c.tc : Thread Cert.FinalRefIdeal.nD Cert.FinalRefIdeal.τ).loc Cert.FinalRefIdeal.main_arg7) = m ((c.tc : Thread Cert.FinalRefIdeal.nD Cert.FinalRefIdeal.τ).loc Cert.FinalRefIdeal.main_arg7))
      ∧ r.2.sem = fun _ => 0)

def quiescent_Pairs [hPairs : Cert.Pairs.Facts] : Prop :=
  ∀ (m : (ℓ : Loc Cert.Pairs.nD Cert.Pairs.τ Cert.Pairs.sig) → Buf (Elt Bits) ℓ) (g : Dev Cert.Pairs.nD → PrngReg), Pre_Pairs m →
    θ_run (Cert.Pairs.defs (F := Bits)) (onTc (τ := Cert.Pairs.τ) (Cert.Pairs.main (F := Bits))) ⟨m, fun _ => 0, g⟩ (fun r => (∀ c : Dev Cert.Pairs.nD,
      r.2.mem ((c.tc : Thread Cert.Pairs.nD Cert.Pairs.τ).loc Cert.Pairs.main_arg0) = m ((c.tc : Thread Cert.Pairs.nD Cert.Pairs.τ).loc Cert.Pairs.main_arg0)
      ∧ r.2.mem ((c.tc : Thread Cert.Pairs.nD Cert.Pairs.τ).loc Cert.Pairs.main_arg1) = m ((c.tc : Thread Cert.Pairs.nD Cert.Pairs.τ).loc Cert.Pairs.main_arg1)
      ∧ r.2.mem ((c.tc : Thread Cert.Pairs.nD Cert.Pairs.τ).loc Cert.Pairs.main_arg2) = m ((c.tc : Thread Cert.Pairs.nD Cert.Pairs.τ).loc Cert.Pairs.main_arg2)
      ∧ r.2.mem ((c.tc : Thread Cert.Pairs.nD Cert.Pairs.τ).loc Cert.Pairs.main_arg3) = m ((c.tc : Thread Cert.Pairs.nD Cert.Pairs.τ).loc Cert.Pairs.main_arg3)
      ∧ r.2.mem ((c.tc : Thread Cert.Pairs.nD Cert.Pairs.τ).loc Cert.Pairs.main_arg4) = m ((c.tc : Thread Cert.Pairs.nD Cert.Pairs.τ).loc Cert.Pairs.main_arg4)
      ∧ r.2.mem ((c.tc : Thread Cert.Pairs.nD Cert.Pairs.τ).loc Cert.Pairs.main_arg5) = m ((c.tc : Thread Cert.Pairs.nD Cert.Pairs.τ).loc Cert.Pairs.main_arg5))
      ∧ r.2.sem = fun _ => 0)

def quiescent_PairsIdeal [hPairsIdeal : Cert.PairsIdeal.Facts] : Prop :=
  ∀ (m : (ℓ : Loc Cert.PairsIdeal.nD Cert.PairsIdeal.τ Cert.PairsIdeal.sig) → Buf (Elt Ideal) ℓ) (g : Dev Cert.PairsIdeal.nD → PrngReg), Pre_PairsIdeal m →
    θ_run (Cert.PairsIdeal.defs (F := Ideal)) (onTc (τ := Cert.PairsIdeal.τ) (Cert.PairsIdeal.main (F := Ideal))) ⟨m, fun _ => 0, g⟩ (fun r => (∀ c : Dev Cert.PairsIdeal.nD,
      r.2.mem ((c.tc : Thread Cert.PairsIdeal.nD Cert.PairsIdeal.τ).loc Cert.PairsIdeal.main_arg0) = m ((c.tc : Thread Cert.PairsIdeal.nD Cert.PairsIdeal.τ).loc Cert.PairsIdeal.main_arg0)
      ∧ r.2.mem ((c.tc : Thread Cert.PairsIdeal.nD Cert.PairsIdeal.τ).loc Cert.PairsIdeal.main_arg1) = m ((c.tc : Thread Cert.PairsIdeal.nD Cert.PairsIdeal.τ).loc Cert.PairsIdeal.main_arg1)
      ∧ r.2.mem ((c.tc : Thread Cert.PairsIdeal.nD Cert.PairsIdeal.τ).loc Cert.PairsIdeal.main_arg2) = m ((c.tc : Thread Cert.PairsIdeal.nD Cert.PairsIdeal.τ).loc Cert.PairsIdeal.main_arg2)
      ∧ r.2.mem ((c.tc : Thread Cert.PairsIdeal.nD Cert.PairsIdeal.τ).loc Cert.PairsIdeal.main_arg3) = m ((c.tc : Thread Cert.PairsIdeal.nD Cert.PairsIdeal.τ).loc Cert.PairsIdeal.main_arg3)
      ∧ r.2.mem ((c.tc : Thread Cert.PairsIdeal.nD Cert.PairsIdeal.τ).loc Cert.PairsIdeal.main_arg4) = m ((c.tc : Thread Cert.PairsIdeal.nD Cert.PairsIdeal.τ).loc Cert.PairsIdeal.main_arg4)
      ∧ r.2.mem ((c.tc : Thread Cert.PairsIdeal.nD Cert.PairsIdeal.τ).loc Cert.PairsIdeal.main_arg5) = m ((c.tc : Thread Cert.PairsIdeal.nD Cert.PairsIdeal.τ).loc Cert.PairsIdeal.main_arg5))
      ∧ r.2.sem = fun _ => 0)

def quiescent_PairsIdeal_pre_segments_distinct [hPairsIdeal : Cert.PairsIdeal.Facts] [hPre_segments_distinct : Cert.Pre_segments_distinct.Facts] : Prop :=
  ∀ (m : (ℓ : Loc Cert.PairsIdeal.nD Cert.PairsIdeal.τ Cert.PairsIdeal.sig) → Buf (Elt Ideal) ℓ) (g : Dev Cert.PairsIdeal.nD → PrngReg), Pre_PairsIdeal_segments_distinct m →
    θ_run (Cert.PairsIdeal.defs (F := Ideal)) (onTc (τ := Cert.PairsIdeal.τ) (Cert.PairsIdeal.main (F := Ideal))) ⟨m, fun _ => 0, g⟩ (fun r => (∀ c : Dev Cert.PairsIdeal.nD,
      r.2.mem ((c.tc : Thread Cert.PairsIdeal.nD Cert.PairsIdeal.τ).loc Cert.PairsIdeal.main_arg0) = m ((c.tc : Thread Cert.PairsIdeal.nD Cert.PairsIdeal.τ).loc Cert.PairsIdeal.main_arg0)
      ∧ r.2.mem ((c.tc : Thread Cert.PairsIdeal.nD Cert.PairsIdeal.τ).loc Cert.PairsIdeal.main_arg1) = m ((c.tc : Thread Cert.PairsIdeal.nD Cert.PairsIdeal.τ).loc Cert.PairsIdeal.main_arg1)
      ∧ r.2.mem ((c.tc : Thread Cert.PairsIdeal.nD Cert.PairsIdeal.τ).loc Cert.PairsIdeal.main_arg2) = m ((c.tc : Thread Cert.PairsIdeal.nD Cert.PairsIdeal.τ).loc Cert.PairsIdeal.main_arg2)
      ∧ r.2.mem ((c.tc : Thread Cert.PairsIdeal.nD Cert.PairsIdeal.τ).loc Cert.PairsIdeal.main_arg3) = m ((c.tc : Thread Cert.PairsIdeal.nD Cert.PairsIdeal.τ).loc Cert.PairsIdeal.main_arg3)
      ∧ r.2.mem ((c.tc : Thread Cert.PairsIdeal.nD Cert.PairsIdeal.τ).loc Cert.PairsIdeal.main_arg4) = m ((c.tc : Thread Cert.PairsIdeal.nD Cert.PairsIdeal.τ).loc Cert.PairsIdeal.main_arg4)
      ∧ r.2.mem ((c.tc : Thread Cert.PairsIdeal.nD Cert.PairsIdeal.τ).loc Cert.PairsIdeal.main_arg5) = m ((c.tc : Thread Cert.PairsIdeal.nD Cert.PairsIdeal.τ).loc Cert.PairsIdeal.main_arg5))
      ∧ r.2.sem = fun _ => 0)

def quiescent_PairsRefIdeal [hPairsRefIdeal : Cert.PairsRefIdeal.Facts] : Prop :=
  ∀ (m : (ℓ : Loc Cert.PairsRefIdeal.nD Cert.PairsRefIdeal.τ Cert.PairsRefIdeal.sig) → Buf (Elt Ideal) ℓ) (g : Dev Cert.PairsRefIdeal.nD → PrngReg), Pre_PairsRefIdeal m →
    θ_run (Cert.PairsRefIdeal.defs (F := Ideal)) (onTc (τ := Cert.PairsRefIdeal.τ) (Cert.PairsRefIdeal.main (F := Ideal))) ⟨m, fun _ => 0, g⟩ (fun r => (∀ c : Dev Cert.PairsRefIdeal.nD,
      r.2.mem ((c.tc : Thread Cert.PairsRefIdeal.nD Cert.PairsRefIdeal.τ).loc Cert.PairsRefIdeal.main_arg0) = m ((c.tc : Thread Cert.PairsRefIdeal.nD Cert.PairsRefIdeal.τ).loc Cert.PairsRefIdeal.main_arg0)
      ∧ r.2.mem ((c.tc : Thread Cert.PairsRefIdeal.nD Cert.PairsRefIdeal.τ).loc Cert.PairsRefIdeal.main_arg1) = m ((c.tc : Thread Cert.PairsRefIdeal.nD Cert.PairsRefIdeal.τ).loc Cert.PairsRefIdeal.main_arg1)
      ∧ r.2.mem ((c.tc : Thread Cert.PairsRefIdeal.nD Cert.PairsRefIdeal.τ).loc Cert.PairsRefIdeal.main_arg2) = m ((c.tc : Thread Cert.PairsRefIdeal.nD Cert.PairsRefIdeal.τ).loc Cert.PairsRefIdeal.main_arg2)
      ∧ r.2.mem ((c.tc : Thread Cert.PairsRefIdeal.nD Cert.PairsRefIdeal.τ).loc Cert.PairsRefIdeal.main_arg3) = m ((c.tc : Thread Cert.PairsRefIdeal.nD Cert.PairsRefIdeal.τ).loc Cert.PairsRefIdeal.main_arg3)
      ∧ r.2.mem ((c.tc : Thread Cert.PairsRefIdeal.nD Cert.PairsRefIdeal.τ).loc Cert.PairsRefIdeal.main_arg4) = m ((c.tc : Thread Cert.PairsRefIdeal.nD Cert.PairsRefIdeal.τ).loc Cert.PairsRefIdeal.main_arg4)
      ∧ r.2.mem ((c.tc : Thread Cert.PairsRefIdeal.nD Cert.PairsRefIdeal.τ).loc Cert.PairsRefIdeal.main_arg5) = m ((c.tc : Thread Cert.PairsRefIdeal.nD Cert.PairsRefIdeal.τ).loc Cert.PairsRefIdeal.main_arg5))
      ∧ r.2.sem = fun _ => 0)

def quiescent_PairsRefIdeal_pre_segments_distinct [hPairsRefIdeal : Cert.PairsRefIdeal.Facts] [hPre_segments_distinct : Cert.Pre_segments_distinct.Facts] : Prop :=
  ∀ (m : (ℓ : Loc Cert.PairsRefIdeal.nD Cert.PairsRefIdeal.τ Cert.PairsRefIdeal.sig) → Buf (Elt Ideal) ℓ) (g : Dev Cert.PairsRefIdeal.nD → PrngReg), Pre_PairsRefIdeal_segments_distinct m →
    θ_run (Cert.PairsRefIdeal.defs (F := Ideal)) (onTc (τ := Cert.PairsRefIdeal.τ) (Cert.PairsRefIdeal.main (F := Ideal))) ⟨m, fun _ => 0, g⟩ (fun r => (∀ c : Dev Cert.PairsRefIdeal.nD,
      r.2.mem ((c.tc : Thread Cert.PairsRefIdeal.nD Cert.PairsRefIdeal.τ).loc Cert.PairsRefIdeal.main_arg0) = m ((c.tc : Thread Cert.PairsRefIdeal.nD Cert.PairsRefIdeal.τ).loc Cert.PairsRefIdeal.main_arg0)
      ∧ r.2.mem ((c.tc : Thread Cert.PairsRefIdeal.nD Cert.PairsRefIdeal.τ).loc Cert.PairsRefIdeal.main_arg1) = m ((c.tc : Thread Cert.PairsRefIdeal.nD Cert.PairsRefIdeal.τ).loc Cert.PairsRefIdeal.main_arg1)
      ∧ r.2.mem ((c.tc : Thread Cert.PairsRefIdeal.nD Cert.PairsRefIdeal.τ).loc Cert.PairsRefIdeal.main_arg2) = m ((c.tc : Thread Cert.PairsRefIdeal.nD Cert.PairsRefIdeal.τ).loc Cert.PairsRefIdeal.main_arg2)
      ∧ r.2.mem ((c.tc : Thread Cert.PairsRefIdeal.nD Cert.PairsRefIdeal.τ).loc Cert.PairsRefIdeal.main_arg3) = m ((c.tc : Thread Cert.PairsRefIdeal.nD Cert.PairsRefIdeal.τ).loc Cert.PairsRefIdeal.main_arg3)
      ∧ r.2.mem ((c.tc : Thread Cert.PairsRefIdeal.nD Cert.PairsRefIdeal.τ).loc Cert.PairsRefIdeal.main_arg4) = m ((c.tc : Thread Cert.PairsRefIdeal.nD Cert.PairsRefIdeal.τ).loc Cert.PairsRefIdeal.main_arg4)
      ∧ r.2.mem ((c.tc : Thread Cert.PairsRefIdeal.nD Cert.PairsRefIdeal.τ).loc Cert.PairsRefIdeal.main_arg5) = m ((c.tc : Thread Cert.PairsRefIdeal.nD Cert.PairsRefIdeal.τ).loc Cert.PairsRefIdeal.main_arg5))
      ∧ r.2.sem = fun _ => 0)

def quiescent_LoraB [hLoraB : Cert.LoraB.Facts] : Prop :=
  ∀ (m : (ℓ : Loc Cert.LoraB.nD Cert.LoraB.τ Cert.LoraB.sig) → Buf (Elt Bits) ℓ) (g : Dev Cert.LoraB.nD → PrngReg), Pre_LoraB m →
    θ_run (Cert.LoraB.defs (F := Bits)) (onTc (τ := Cert.LoraB.τ) (Cert.LoraB.main (F := Bits))) ⟨m, fun _ => 0, g⟩ (fun r => (∀ c : Dev Cert.LoraB.nD,
      r.2.mem ((c.tc : Thread Cert.LoraB.nD Cert.LoraB.τ).loc Cert.LoraB.main_arg0) = m ((c.tc : Thread Cert.LoraB.nD Cert.LoraB.τ).loc Cert.LoraB.main_arg0)
      ∧ r.2.mem ((c.tc : Thread Cert.LoraB.nD Cert.LoraB.τ).loc Cert.LoraB.main_arg1) = m ((c.tc : Thread Cert.LoraB.nD Cert.LoraB.τ).loc Cert.LoraB.main_arg1))
      ∧ r.2.sem = fun _ => 0)

def quiescent_LoraBIdeal [hLoraBIdeal : Cert.LoraBIdeal.Facts] : Prop :=
  ∀ (m : (ℓ : Loc Cert.LoraBIdeal.nD Cert.LoraBIdeal.τ Cert.LoraBIdeal.sig) → Buf (Elt Ideal) ℓ) (g : Dev Cert.LoraBIdeal.nD → PrngReg), Pre_LoraBIdeal m →
    θ_run (Cert.LoraBIdeal.defs (F := Ideal)) (onTc (τ := Cert.LoraBIdeal.τ) (Cert.LoraBIdeal.main (F := Ideal))) ⟨m, fun _ => 0, g⟩ (fun r => (∀ c : Dev Cert.LoraBIdeal.nD,
      r.2.mem ((c.tc : Thread Cert.LoraBIdeal.nD Cert.LoraBIdeal.τ).loc Cert.LoraBIdeal.main_arg0) = m ((c.tc : Thread Cert.LoraBIdeal.nD Cert.LoraBIdeal.τ).loc Cert.LoraBIdeal.main_arg0)
      ∧ r.2.mem ((c.tc : Thread Cert.LoraBIdeal.nD Cert.LoraBIdeal.τ).loc Cert.LoraBIdeal.main_arg1) = m ((c.tc : Thread Cert.LoraBIdeal.nD Cert.LoraBIdeal.τ).loc Cert.LoraBIdeal.main_arg1))
      ∧ r.2.sem = fun _ => 0)

def quiescent_LoraBRefIdeal [hLoraBRefIdeal : Cert.LoraBRefIdeal.Facts] : Prop :=
  ∀ (m : (ℓ : Loc Cert.LoraBRefIdeal.nD Cert.LoraBRefIdeal.τ Cert.LoraBRefIdeal.sig) → Buf (Elt Ideal) ℓ) (g : Dev Cert.LoraBRefIdeal.nD → PrngReg), Pre_LoraBRefIdeal m →
    θ_run (Cert.LoraBRefIdeal.defs (F := Ideal)) (onTc (τ := Cert.LoraBRefIdeal.τ) (Cert.LoraBRefIdeal.main (F := Ideal))) ⟨m, fun _ => 0, g⟩ (fun r => (∀ c : Dev Cert.LoraBRefIdeal.nD,
      r.2.mem ((c.tc : Thread Cert.LoraBRefIdeal.nD Cert.LoraBRefIdeal.τ).loc Cert.LoraBRefIdeal.main_arg0) = m ((c.tc : Thread Cert.LoraBRefIdeal.nD Cert.LoraBRefIdeal.τ).loc Cert.LoraBRefIdeal.main_arg0)
      ∧ r.2.mem ((c.tc : Thread Cert.LoraBRefIdeal.nD Cert.LoraBRefIdeal.τ).loc Cert.LoraBRefIdeal.main_arg1) = m ((c.tc : Thread Cert.LoraBRefIdeal.nD Cert.LoraBRefIdeal.τ).loc Cert.LoraBRefIdeal.main_arg1))
      ∧ r.2.sem = fun _ => 0)

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v0_0) = v0 c
          ∧ r.2.mem ((c.tc : Thread Cert.NormRefIdeal.nD Cert.NormRefIdeal.τ).loc Cert.NormRefIdeal.main_v0_1) = v1 c
          ∧ r.2.mem ((c.tc : Thread Cert.NormRefIdeal.nD Cert.NormRefIdeal.τ).loc Cert.NormRefIdeal.main_v0_2) = v2 c
          ∧ r.2.mem ((c.tc : Thread Cert.NormRefIdeal.nD Cert.NormRefIdeal.τ).loc Cert.NormRefIdeal.main_v0_3) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Forward_ForwardIdeal : Prop :=
  IdealRules.named_const.Statement Cert.ForwardIdeal.κ "mask" .f32 0xF149F2CA#32 ⊥

def algebraic_ForwardIdeal_ForwardRefIdeal_pre_labels_in_vocabulary [hForwardIdeal : Cert.ForwardIdeal.Facts] [hForwardRefIdeal : Cert.ForwardRefIdeal.Facts] [hPre_labels_in_vocabulary : Cert.Pre_labels_in_vocabulary.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardRefIdeal.nD Cert.ForwardRefIdeal.τ Cert.ForwardRefIdeal.sig) → Buf (Elt Ideal) ℓ) (g' : Dev Cert.ForwardRefIdeal.nD → PrngReg), Pre_ForwardIdeal_labels_in_vocabulary m →
    (∀ c : Dev Cert.ForwardIdeal.nD,
      m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)
      ∧ m' ((c.tc : Thread Cert.ForwardRefIdeal.nD Cert.ForwardRefIdeal.τ).loc Cert.ForwardRefIdeal.main_arg3) = m ((c.tc : Thread Cert.ForwardIdeal.nD Cert.ForwardIdeal.τ).loc Cert.ForwardIdeal.main_arg3)
      ∧ m' ((c.tc : Thread Cert.ForwardRefIdeal.nD Cert.ForwardRefIdeal.τ).loc Cert.ForwardRefIdeal.main_arg4) = m ((c.tc : Thread Cert.ForwardIdeal.nD Cert.ForwardIdeal.τ).loc Cert.ForwardIdeal.main_arg4)
      ∧ m' ((c.tc : Thread Cert.ForwardRefIdeal.nD Cert.ForwardRefIdeal.τ).loc Cert.ForwardRefIdeal.main_arg5) = m ((c.tc : Thread Cert.ForwardIdeal.nD Cert.ForwardIdeal.τ).loc Cert.ForwardIdeal.main_arg5)
      ∧ m' ((c.tc : Thread Cert.ForwardRefIdeal.nD Cert.ForwardRefIdeal.τ).loc Cert.ForwardRefIdeal.main_arg6) = m ((c.tc : Thread Cert.ForwardIdeal.nD Cert.ForwardIdeal.τ).loc Cert.ForwardIdeal.main_arg6)) →
    ∃ (v0 : (c : Dev Cert.ForwardIdeal.nD) → Buf (Elt Ideal) ((c.tc : Thread Cert.ForwardIdeal.nD Cert.ForwardIdeal.τ).loc Cert.ForwardIdeal.main_v0_0)) (v1 : (c : Dev Cert.ForwardIdeal.nD) → Buf (Elt Ideal) ((c.tc : Thread Cert.ForwardIdeal.nD Cert.ForwardIdeal.τ).loc Cert.ForwardIdeal.main_v0_1)) (v2 : (c : Dev Cert.ForwardIdeal.nD) → Buf (Elt Ideal) ((c.tc : Thread Cert.ForwardIdeal.nD Cert.ForwardIdeal.τ).loc Cert.ForwardIdeal.main_v0_2)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v0_0) = v0 c
          ∧ r.2.mem ((c.tc : Thread Cert.ForwardIdeal.nD Cert.ForwardIdeal.τ).loc Cert.ForwardIdeal.main_v0_1) = v1 c
          ∧ r.2.mem ((c.tc : Thread Cert.ForwardIdeal.nD Cert.ForwardIdeal.τ).loc Cert.ForwardIdeal.main_v0_2) = v2 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
          ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
          ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6))
      ∧ θ_run (Cert.ForwardRefIdeal.defs (F := Ideal)) (onTc (τ := Cert.ForwardRefIdeal.τ) (Cert.ForwardRefIdeal.main (F := Ideal))) ⟨m', fun _ => 0, g'⟩ (fun r => ∀ c : Dev Cert.ForwardRefIdeal.nD,
          r.2.mem ((c.tc : Thread Cert.ForwardRefIdeal.nD Cert.ForwardRefIdeal.τ).loc Cert.ForwardRefIdeal.main_v0_0) = v0 c
          ∧ r.2.mem ((c.tc : Thread Cert.ForwardRefIdeal.nD Cert.ForwardRefIdeal.τ).loc Cert.ForwardRefIdeal.main_v0_1) = v1 c
          ∧ r.2.mem ((c.tc : Thread Cert.ForwardRefIdeal.nD Cert.ForwardRefIdeal.τ).loc Cert.ForwardRefIdeal.main_v0_2) = v2 c
          ∧ r.2.mem ((c.tc : Thread Cert.ForwardRefIdeal.nD Cert.ForwardRefIdeal.τ).loc Cert.ForwardRefIdeal.main_arg0) = m' ((c.tc : Thread Cert.ForwardRefIdeal.nD Cert.ForwardRefIdeal.τ).loc Cert.ForwardRefIdeal.main_arg0)
          ∧ r.2.mem ((c.tc : Thread Cert.ForwardRefIdeal.nD Cert.ForwardRefIdeal.τ).loc Cert.ForwardRefIdeal.main_arg1) = m' ((c.tc : Thread Cert.ForwardRefIdeal.nD Cert.ForwardRefIdeal.τ).loc Cert.ForwardRefIdeal.main_arg1)
          ∧ r.2.mem ((c.tc : Thread Cert.ForwardRefIdeal.nD Cert.ForwardRefIdeal.τ).loc Cert.ForwardRefIdeal.main_arg2) = m' ((c.tc : Thread Cert.ForwardRefIdeal.nD Cert.ForwardRefIdeal.τ).loc Cert.ForwardRefIdeal.main_arg2)
          ∧ r.2.mem ((c.tc : Thread Cert.ForwardRefIdeal.nD Cert.ForwardRefIdeal.τ).loc Cert.ForwardRefIdeal.main_arg3) = m' ((c.tc : Thread Cert.ForwardRefIdeal.nD Cert.ForwardRefIdeal.τ).loc Cert.ForwardRefIdeal.main_arg3)
          ∧ r.2.mem ((c.tc : Thread Cert.ForwardRefIdeal.nD Cert.ForwardRefIdeal.τ).loc Cert.ForwardRefIdeal.main_arg4) = m' ((c.tc : Thread Cert.ForwardRefIdeal.nD Cert.ForwardRefIdeal.τ).loc Cert.ForwardRefIdeal.main_arg4)
          ∧ r.2.mem ((c.tc : Thread Cert.ForwardRefIdeal.nD Cert.ForwardRefIdeal.τ).loc Cert.ForwardRefIdeal.main_arg5) = m' ((c.tc : Thread Cert.ForwardRefIdeal.nD Cert.ForwardRefIdeal.τ).loc Cert.ForwardRefIdeal.main_arg5)
          ∧ r.2.mem ((c.tc : Thread Cert.ForwardRefIdeal.nD Cert.ForwardRefIdeal.τ).loc Cert.ForwardRefIdeal.main_arg6) = m' ((c.tc : Thread Cert.ForwardRefIdeal.nD Cert.ForwardRefIdeal.τ).loc Cert.ForwardRefIdeal.main_arg6))

def preserves_Backward_BackwardIdeal : Prop :=
  True

def algebraic_BackwardIdeal_BackwardRefIdeal_pre_scale_nonzero [hBackwardIdeal : Cert.BackwardIdeal.Facts] [hBackwardRefIdeal : Cert.BackwardRefIdeal.Facts] [hPre_scale_nonzero : Cert.Pre_scale_nonzero.Facts] : Prop :=
  ∀ (m : (ℓ : Loc Cert.BackwardIdeal.nD Cert.BackwardIdeal.τ Cert.BackwardIdeal.sig) → Buf (Elt Ideal) ℓ) (g : Dev Cert.BackwardIdeal.nD → PrngReg)
    (m' : (ℓ : Loc Cert.BackwardRefIdeal.nD Cert.BackwardRefIdeal.τ Cert.BackwardRefIdeal.sig) → Buf (Elt Ideal) ℓ) (g' : Dev Cert.BackwardRefIdeal.nD → PrngReg), Pre_BackwardIdeal_scale_nonzero m →
    (∀ c : Dev Cert.BackwardIdeal.nD,
      m' ((c.tc : Thread Cert.BackwardRefIdeal.nD Cert.BackwardRefIdeal.τ).loc Cert.BackwardRefIdeal.main_arg0) = m ((c.tc : Thread Cert.BackwardIdeal.nD Cert.BackwardIdeal.τ).loc Cert.BackwardIdeal.main_arg0)
      ∧ m' ((c.tc : Thread Cert.BackwardRefIdeal.nD Cert.BackwardRefIdeal.τ).loc Cert.BackwardRefIdeal.main_arg1) = m ((c.tc : Thread Cert.BackwardIdeal.nD Cert.BackwardIdeal.τ).loc Cert.BackwardIdeal.main_arg1)
      ∧ m' ((c.tc : Thread Cert.BackwardRefIdeal.nD Cert.BackwardRefIdeal.τ).loc Cert.BackwardRefIdeal.main_arg2) = m ((c.tc : Thread Cert.BackwardIdeal.nD Cert.BackwardIdeal.τ).loc Cert.BackwardIdeal.main_arg2)
      ∧ m' ((c.tc : Thread Cert.BackwardRefIdeal.nD Cert.BackwardRefIdeal.τ).loc Cert.BackwardRefIdeal.main_arg3) = m ((c.tc : Thread Cert.BackwardIdeal.nD Cert.BackwardIdeal.τ).loc Cert.BackwardIdeal.main_arg3)
      ∧ m' ((c.tc : Thread Cert.BackwardRefIdeal.nD Cert.BackwardRefIdeal.τ).loc Cert.BackwardRefIdeal.main_arg4) = m ((c.tc : Thread Cert.BackwardIdeal.nD Cert.BackwardIdeal.τ).loc Cert.BackwardIdeal.main_arg4)
      ∧ m' ((c.tc : Thread Cert.BackwardRefIdeal.nD Cert.BackwardRefIdeal.τ).loc Cert.BackwardRefIdeal.main_arg5) = m ((c.tc : Thread Cert.BackwardIdeal.nD Cert.BackwardIdeal.τ).loc Cert.BackwardIdeal.main_arg5)
      ∧ m' ((c.tc : Thread Cert.BackwardRefIdeal.nD Cert.BackwardRefIdeal.τ).loc Cert.BackwardRefIdeal.main_arg6) = m ((c.tc : Thread Cert.BackwardIdeal.nD Cert.BackwardIdeal.τ).loc Cert.BackwardIdeal.main_arg6)
      ∧ m' ((c.tc : Thread Cert.BackwardRefIdeal.nD Cert.BackwardRefIdeal.τ).loc Cert.BackwardRefIdeal.main_arg7) = m ((c.tc : Thread Cert.BackwardIdeal.nD Cert.BackwardIdeal.τ).loc Cert.BackwardIdeal.main_arg7)
      ∧ m' ((c.tc : Thread Cert.BackwardRefIdeal.nD Cert.BackwardRefIdeal.τ).loc Cert.BackwardRefIdeal.main_arg8) = m ((c.tc : Thread Cert.BackwardIdeal.nD Cert.BackwardIdeal.τ).loc Cert.BackwardIdeal.main_arg8)) →
    ∃ (v0 : (c : Dev Cert.BackwardIdeal.nD) → Buf (Elt Ideal) ((c.tc : Thread Cert.BackwardIdeal.nD Cert.BackwardIdeal.τ).loc Cert.BackwardIdeal.main_v0_0)) (v1 : (c : Dev Cert.BackwardIdeal.nD) → Buf (Elt Ideal) ((c.tc : Thread Cert.BackwardIdeal.nD Cert.BackwardIdeal.τ).loc Cert.BackwardIdeal.main_v0_1)) (v2 : (c : Dev Cert.BackwardIdeal.nD) → Buf (Elt Ideal) ((c.tc : Thread Cert.BackwardIdeal.nD Cert.BackwardIdeal.τ).loc Cert.BackwardIdeal.main_v0_2)) (v3 : (c : Dev Cert.BackwardIdeal.nD) → Buf (Elt Ideal) ((c.tc : Thread Cert.BackwardIdeal.nD Cert.BackwardIdeal.τ).loc Cert.BackwardIdeal.main_v0_3)),
      θ_run (Cert.BackwardIdeal.defs (F := Ideal)) (onTc (τ := Cert.BackwardIdeal.τ) (Cert.BackwardIdeal.main (F := Ideal))) ⟨m, fun _ => 0, g⟩ (fun r => ∀ c : Dev Cert.BackwardIdeal.nD,
          r.2.mem ((c.tc : Thread Cert.BackwardIdeal.nD Cert.BackwardIdeal.τ).loc Cert.BackwardIdeal.main_v0_0) = v0 c
          ∧ r.2.mem ((c.tc : Thread Cert.BackwardIdeal.nD Cert.BackwardIdeal.τ).loc Cert.BackwardIdeal.main_v0_1) = v1 c
          ∧ r.2.mem ((c.tc : Thread Cert.BackwardIdeal.nD Cert.BackwardIdeal.τ).loc Cert.BackwardIdeal.main_v0_2) = v2 c
          ∧ r.2.mem ((c.tc : Thread Cert.BackwardIdeal.nD Cert.BackwardIdeal.τ).loc Cert.BackwardIdeal.main_v0_3) = v3 c
          ∧ r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
          ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
          ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
          ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3)
          ∧ r.2.mem ((c.tc : Thread Cert.BackwardIdeal.nD Cert.BackwardIdeal.τ).loc Cert.BackwardIdeal.main_arg4) = m ((c.tc : Thread Cert.BackwardIdeal.nD Cert.BackwardIdeal.τ).loc Cert.BackwardIdeal.main_arg4)
          ∧ r.2.mem ((c.tc : Thread Cert.BackwardIdeal.nD Cert.BackwardIdeal.τ).loc Cert.BackwardIdeal.main_arg5) = m ((c.tc : Thread Cert.BackwardIdeal.nD Cert.BackwardIdeal.τ).loc Cert.BackwardIdeal.main_arg5)
          ∧ r.2.mem ((c.tc : Thread Cert.BackwardIdeal.nD Cert.BackwardIdeal.τ).loc Cert.BackwardIdeal.main_arg6) = m ((c.tc : Thread Cert.BackwardIdeal.nD Cert.BackwardIdeal.τ).loc Cert.BackwardIdeal.main_arg6)
          ∧ r.2.mem ((c.tc : Thread Cert.BackwardIdeal.nD Cert.BackwardIdeal.τ).loc Cert.BackwardIdeal.main_arg7) = m ((c.tc : Thread Cert.BackwardIdeal.nD Cert.BackwardIdeal.τ).loc Cert.BackwardIdeal.main_arg7)
          ∧ r.2.mem ((c.tc : Thread Cert.BackwardIdeal.nD Cert.BackwardIdeal.τ).loc Cert.BackwardIdeal.main_arg8) = m ((c.tc : Thread Cert.BackwardIdeal.nD Cert.BackwardIdeal.τ).loc Cert.BackwardIdeal.main_arg8))
      ∧ θ_run (Cert.BackwardRefIdeal.defs (F := Ideal)) (onTc (τ := Cert.BackwardRefIdeal.τ) (Cert.BackwardRefIdeal.main (F := Ideal))) ⟨m', fun _ => 0, g'⟩ (fun r => ∀ c : Dev Cert.BackwardRefIdeal.nD,
          r.2.mem ((c.tc : Thread Cert.BackwardRefIdeal.nD Cert.BackwardRefIdeal.τ).loc Cert.BackwardRefIdeal.main_v2_0) = v0 c
          ∧ r.2.mem ((c.tc : Thread Cert.BackwardRefIdeal.nD Cert.BackwardRefIdeal.τ).loc Cert.BackwardRefIdeal.main_v2_1) = v1 c
          ∧ r.2.mem ((c.tc : Thread Cert.BackwardRefIdeal.nD Cert.BackwardRefIdeal.τ).loc Cert.BackwardRefIdeal.main_v2_2) = v2 c
          ∧ r.2.mem ((c.tc : Thread Cert.BackwardRefIdeal.nD Cert.BackwardRefIdeal.τ).loc Cert.BackwardRefIdeal.main_v2_3) = v3 c
          ∧ r.2.mem ((c.tc : Thread Cert.BackwardRefIdeal.nD Cert.BackwardRefIdeal.τ).loc Cert.BackwardRefIdeal.main_arg0) = m' ((c.tc : Thread Cert.BackwardRefIdeal.nD Cert.BackwardRefIdeal.τ).loc Cert.BackwardRefIdeal.main_arg0)
          ∧ r.2.mem ((c.tc : Thread Cert.BackwardRefIdeal.nD Cert.BackwardRefIdeal.τ).loc Cert.BackwardRefIdeal.main_arg1) = m' ((c.tc : Thread Cert.BackwardRefIdeal.nD Cert.BackwardRefIdeal.τ).loc Cert.BackwardRefIdeal.main_arg1)
          ∧ r.2.mem ((c.tc : Thread Cert.BackwardRefIdeal.nD Cert.BackwardRefIdeal.τ).loc Cert.BackwardRefIdeal.main_arg2) = m' ((c.tc : Thread Cert.BackwardRefIdeal.nD Cert.BackwardRefIdeal.τ).loc Cert.BackwardRefIdeal.main_arg2)
          ∧ r.2.mem ((c.tc : Thread Cert.BackwardRefIdeal.nD Cert.BackwardRefIdeal.τ).loc Cert.BackwardRefIdeal.main_arg3) = m' ((c.tc : Thread Cert.BackwardRefIdeal.nD Cert.BackwardRefIdeal.τ).loc Cert.BackwardRefIdeal.main_arg3)
          ∧ r.2.mem ((c.tc : Thread Cert.BackwardRefIdeal.nD Cert.BackwardRefIdeal.τ).loc Cert.BackwardRefIdeal.main_arg4) = m' ((c.tc : Thread Cert.BackwardRefIdeal.nD Cert.BackwardRefIdeal.τ).loc Cert.BackwardRefIdeal.main_arg4)
          ∧ r.2.mem ((c.tc : Thread Cert.BackwardRefIdeal.nD Cert.BackwardRefIdeal.τ).loc Cert.BackwardRefIdeal.main_arg5) = m' ((c.tc : Thread Cert.BackwardRefIdeal.nD Cert.BackwardRefIdeal.τ).loc Cert.BackwardRefIdeal.main_arg5)
          ∧ r.2.mem ((c.tc : Thread Cert.BackwardRefIdeal.nD Cert.BackwardRefIdeal.τ).loc Cert.BackwardRefIdeal.main_arg6) = m' ((c.tc : Thread Cert.BackwardRefIdeal.nD Cert.BackwardRefIdeal.τ).loc Cert.BackwardRefIdeal.main_arg6)
          ∧ r.2.mem ((c.tc : Thread Cert.BackwardRefIdeal.nD Cert.BackwardRefIdeal.τ).loc Cert.BackwardRefIdeal.main_arg7) = m' ((c.tc : Thread Cert.BackwardRefIdeal.nD Cert.BackwardRefIdeal.τ).loc Cert.BackwardRefIdeal.main_arg7)
          ∧ r.2.mem ((c.tc : Thread Cert.BackwardRefIdeal.nD Cert.BackwardRefIdeal.τ).loc Cert.BackwardRefIdeal.main_arg8) = m' ((c.tc : Thread Cert.BackwardRefIdeal.nD Cert.BackwardRefIdeal.τ).loc Cert.BackwardRefIdeal.main_arg8))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)
      ∧ m' ((c.tc : Thread Cert.FinalRefIdeal.nD Cert.FinalRefIdeal.τ).loc Cert.FinalRefIdeal.main_arg5) = m ((c.tc : Thread Cert.FinalIdeal.nD Cert.FinalIdeal.τ).loc Cert.FinalIdeal.main_arg5)
      ∧ m' ((c.tc : Thread Cert.FinalRefIdeal.nD Cert.FinalRefIdeal.τ).loc Cert.FinalRefIdeal.main_arg6) = m ((c.tc : Thread Cert.FinalIdeal.nD Cert.FinalIdeal.τ).loc Cert.FinalIdeal.main_arg6)
      ∧ m' ((c.tc : Thread Cert.FinalRefIdeal.nD Cert.FinalRefIdeal.τ).loc Cert.FinalRefIdeal.main_arg7) = m ((c.tc : Thread Cert.FinalIdeal.nD Cert.FinalIdeal.τ).loc Cert.FinalIdeal.main_arg7)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
          ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v37) = v0 c
          ∧ r.2.mem ((c.tc : Thread Cert.FinalRefIdeal.nD Cert.FinalRefIdeal.τ).loc Cert.FinalRefIdeal.main_v19) = v1 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5)
          ∧ r.2.mem ((c.tc : Thread Cert.FinalRefIdeal.nD Cert.FinalRefIdeal.τ).loc Cert.FinalRefIdeal.main_arg6) = m' ((c.tc : Thread Cert.FinalRefIdeal.nD Cert.FinalRefIdeal.τ).loc Cert.FinalRefIdeal.main_arg6)
          ∧ r.2.mem ((c.tc : Thread Cert.FinalRefIdeal.nD Cert.FinalRefIdeal.τ).loc Cert.FinalRefIdeal.main_arg7) = m' ((c.tc : Thread Cert.FinalRefIdeal.nD Cert.FinalRefIdeal.τ).loc Cert.FinalRefIdeal.main_arg7))

def preserves_Pairs_PairsIdeal : Prop :=
  True

def algebraic_PairsIdeal_PairsRefIdeal_pre_segments_distinct [hPairsIdeal : Cert.PairsIdeal.Facts] [hPairsRefIdeal : Cert.PairsRefIdeal.Facts] [hPre_segments_distinct : Cert.Pre_segments_distinct.Facts] : Prop :=
  ∀ (m : (ℓ : Loc Cert.PairsIdeal.nD Cert.PairsIdeal.τ Cert.PairsIdeal.sig) → Buf (Elt Ideal) ℓ) (g : Dev Cert.PairsIdeal.nD → PrngReg)
    (m' : (ℓ : Loc Cert.PairsRefIdeal.nD Cert.PairsRefIdeal.τ Cert.PairsRefIdeal.sig) → Buf (Elt Ideal) ℓ) (g' : Dev Cert.PairsRefIdeal.nD → PrngReg), Pre_PairsIdeal_segments_distinct m →
    (∀ c : Dev Cert.PairsIdeal.nD,
      m' ((c.tc : Thread Cert.PairsRefIdeal.nD Cert.PairsRefIdeal.τ).loc Cert.PairsRefIdeal.main_arg0) = m ((c.tc : Thread Cert.PairsIdeal.nD Cert.PairsIdeal.τ).loc Cert.PairsIdeal.main_arg0)
      ∧ m' ((c.tc : Thread Cert.PairsRefIdeal.nD Cert.PairsRefIdeal.τ).loc Cert.PairsRefIdeal.main_arg1) = m ((c.tc : Thread Cert.PairsIdeal.nD Cert.PairsIdeal.τ).loc Cert.PairsIdeal.main_arg1)
      ∧ m' ((c.tc : Thread Cert.PairsRefIdeal.nD Cert.PairsRefIdeal.τ).loc Cert.PairsRefIdeal.main_arg2) = m ((c.tc : Thread Cert.PairsIdeal.nD Cert.PairsIdeal.τ).loc Cert.PairsIdeal.main_arg2)
      ∧ m' ((c.tc : Thread Cert.PairsRefIdeal.nD Cert.PairsRefIdeal.τ).loc Cert.PairsRefIdeal.main_arg3) = m ((c.tc : Thread Cert.PairsIdeal.nD Cert.PairsIdeal.τ).loc Cert.PairsIdeal.main_arg3)
      ∧ m' ((c.tc : Thread Cert.PairsRefIdeal.nD Cert.PairsRefIdeal.τ).loc Cert.PairsRefIdeal.main_arg4) = m ((c.tc : Thread Cert.PairsIdeal.nD Cert.PairsIdeal.τ).loc Cert.PairsIdeal.main_arg4)
      ∧ m' ((c.tc : Thread Cert.PairsRefIdeal.nD Cert.PairsRefIdeal.τ).loc Cert.PairsRefIdeal.main_arg5) = m ((c.tc : Thread Cert.PairsIdeal.nD Cert.PairsIdeal.τ).loc Cert.PairsIdeal.main_arg5)) →
    ∃ (v0 : (c : Dev Cert.PairsIdeal.nD) → Buf (Elt Ideal) ((c.tc : Thread Cert.PairsIdeal.nD Cert.PairsIdeal.τ).loc Cert.PairsIdeal.main_v0_0)) (v1 : (c : Dev Cert.PairsIdeal.nD) → Buf (Elt Ideal) ((c.tc : Thread Cert.PairsIdeal.nD Cert.PairsIdeal.τ).loc Cert.PairsIdeal.main_v0_1)) (v2 : (c : Dev Cert.PairsIdeal.nD) → Buf (Elt Ideal) ((c.tc : Thread Cert.PairsIdeal.nD Cert.PairsIdeal.τ).loc Cert.PairsIdeal.main_v0_2)) (v3 : (c : Dev Cert.PairsIdeal.nD) → Buf (Elt Ideal) ((c.tc : Thread Cert.PairsIdeal.nD Cert.PairsIdeal.τ).loc Cert.PairsIdeal.main_v0_3)),
      θ_run (Cert.PairsIdeal.defs (F := Ideal)) (onTc (τ := Cert.PairsIdeal.τ) (Cert.PairsIdeal.main (F := Ideal))) ⟨m, fun _ => 0, g⟩ (fun r => ∀ c : Dev Cert.PairsIdeal.nD,
          r.2.mem ((c.tc : Thread Cert.PairsIdeal.nD Cert.PairsIdeal.τ).loc Cert.PairsIdeal.main_v0_0) = v0 c
          ∧ r.2.mem ((c.tc : Thread Cert.PairsIdeal.nD Cert.PairsIdeal.τ).loc Cert.PairsIdeal.main_v0_1) = v1 c
          ∧ r.2.mem ((c.tc : Thread Cert.PairsIdeal.nD Cert.PairsIdeal.τ).loc Cert.PairsIdeal.main_v0_2) = v2 c
          ∧ r.2.mem ((c.tc : Thread Cert.PairsIdeal.nD Cert.PairsIdeal.τ).loc Cert.PairsIdeal.main_v0_3) = v3 c
          ∧ r.2.mem ((c.tc : Thread Cert.PairsIdeal.nD Cert.PairsIdeal.τ).loc Cert.PairsIdeal.main_arg0) = m ((c.tc : Thread Cert.PairsIdeal.nD Cert.PairsIdeal.τ).loc Cert.PairsIdeal.main_arg0)
          ∧ r.2.mem ((c.tc : Thread Cert.PairsIdeal.nD Cert.PairsIdeal.τ).loc Cert.PairsIdeal.main_arg1) = m ((c.tc : Thread Cert.PairsIdeal.nD Cert.PairsIdeal.τ).loc Cert.PairsIdeal.main_arg1)
          ∧ r.2.mem ((c.tc : Thread Cert.PairsIdeal.nD Cert.PairsIdeal.τ).loc Cert.PairsIdeal.main_arg2) = m ((c.tc : Thread Cert.PairsIdeal.nD Cert.PairsIdeal.τ).loc Cert.PairsIdeal.main_arg2)
          ∧ r.2.mem ((c.tc : Thread Cert.PairsIdeal.nD Cert.PairsIdeal.τ).loc Cert.PairsIdeal.main_arg3) = m ((c.tc : Thread Cert.PairsIdeal.nD Cert.PairsIdeal.τ).loc Cert.PairsIdeal.main_arg3)
          ∧ r.2.mem ((c.tc : Thread Cert.PairsIdeal.nD Cert.PairsIdeal.τ).loc Cert.PairsIdeal.main_arg4) = m ((c.tc : Thread Cert.PairsIdeal.nD Cert.PairsIdeal.τ).loc Cert.PairsIdeal.main_arg4)
          ∧ r.2.mem ((c.tc : Thread Cert.PairsIdeal.nD Cert.PairsIdeal.τ).loc Cert.PairsIdeal.main_arg5) = m ((c.tc : Thread Cert.PairsIdeal.nD Cert.PairsIdeal.τ).loc Cert.PairsIdeal.main_arg5))
      ∧ θ_run (Cert.PairsRefIdeal.defs (F := Ideal)) (onTc (τ := Cert.PairsRefIdeal.τ) (Cert.PairsRefIdeal.main (F := Ideal))) ⟨m', fun _ => 0, g'⟩ (fun r => ∀ c : Dev Cert.PairsRefIdeal.nD,
          r.2.mem ((c.tc : Thread Cert.PairsRefIdeal.nD Cert.PairsRefIdeal.τ).loc Cert.PairsRefIdeal.main_v59) = v0 c
          ∧ r.2.mem ((c.tc : Thread Cert.PairsRefIdeal.nD Cert.PairsRefIdeal.τ).loc Cert.PairsRefIdeal.main_v60) = v1 c
          ∧ r.2.mem ((c.tc : Thread Cert.PairsRefIdeal.nD Cert.PairsRefIdeal.τ).loc Cert.PairsRefIdeal.main_v0) = v2 c
          ∧ r.2.mem ((c.tc : Thread Cert.PairsRefIdeal.nD Cert.PairsRefIdeal.τ).loc Cert.PairsRefIdeal.main_v58) = v3 c
          ∧ r.2.mem ((c.tc : Thread Cert.PairsRefIdeal.nD Cert.PairsRefIdeal.τ).loc Cert.PairsRefIdeal.main_arg0) = m' ((c.tc : Thread Cert.PairsRefIdeal.nD Cert.PairsRefIdeal.τ).loc Cert.PairsRefIdeal.main_arg0)
          ∧ r.2.mem ((c.tc : Thread Cert.PairsRefIdeal.nD Cert.PairsRefIdeal.τ).loc Cert.PairsRefIdeal.main_arg1) = m' ((c.tc : Thread Cert.PairsRefIdeal.nD Cert.PairsRefIdeal.τ).loc Cert.PairsRefIdeal.main_arg1)
          ∧ r.2.mem ((c.tc : Thread Cert.PairsRefIdeal.nD Cert.PairsRefIdeal.τ).loc Cert.PairsRefIdeal.main_arg2) = m' ((c.tc : Thread Cert.PairsRefIdeal.nD Cert.PairsRefIdeal.τ).loc Cert.PairsRefIdeal.main_arg2)
          ∧ r.2.mem ((c.tc : Thread Cert.PairsRefIdeal.nD Cert.PairsRefIdeal.τ).loc Cert.PairsRefIdeal.main_arg3) = m' ((c.tc : Thread Cert.PairsRefIdeal.nD Cert.PairsRefIdeal.τ).loc Cert.PairsRefIdeal.main_arg3)
          ∧ r.2.mem ((c.tc : Thread Cert.PairsRefIdeal.nD Cert.PairsRefIdeal.τ).loc Cert.PairsRefIdeal.main_arg4) = m' ((c.tc : Thread Cert.PairsRefIdeal.nD Cert.PairsRefIdeal.τ).loc Cert.PairsRefIdeal.main_arg4)
          ∧ r.2.mem ((c.tc : Thread Cert.PairsRefIdeal.nD Cert.PairsRefIdeal.τ).loc Cert.PairsRefIdeal.main_arg5) = m' ((c.tc : Thread Cert.PairsRefIdeal.nD Cert.PairsRefIdeal.τ).loc Cert.PairsRefIdeal.main_arg5))

def preserves_LoraB_LoraBIdeal : Prop :=
  True

def algebraic_LoraBIdeal_LoraBRefIdeal [hLoraBIdeal : Cert.LoraBIdeal.Facts] [hLoraBRefIdeal : Cert.LoraBRefIdeal.Facts] : Prop :=
  ∀ (m : (ℓ : Loc Cert.LoraBIdeal.nD Cert.LoraBIdeal.τ Cert.LoraBIdeal.sig) → Buf (Elt Ideal) ℓ) (g : Dev Cert.LoraBIdeal.nD → PrngReg)
    (m' : (ℓ : Loc Cert.LoraBRefIdeal.nD Cert.LoraBRefIdeal.τ Cert.LoraBRefIdeal.sig) → Buf (Elt Ideal) ℓ) (g' : Dev Cert.LoraBRefIdeal.nD → PrngReg), Pre_LoraBIdeal m →
    (∀ c : Dev Cert.LoraBIdeal.nD,
      m' ((c.tc : Thread Cert.LoraBRefIdeal.nD Cert.LoraBRefIdeal.τ).loc Cert.LoraBRefIdeal.main_arg0) = m ((c.tc : Thread Cert.LoraBIdeal.nD Cert.LoraBIdeal.τ).loc Cert.LoraBIdeal.main_arg0)
      ∧ m' ((c.tc : Thread Cert.LoraBRefIdeal.nD Cert.LoraBRefIdeal.τ).loc Cert.LoraBRefIdeal.main_arg1) = m ((c.tc : Thread Cert.LoraBIdeal.nD Cert.LoraBIdeal.τ).loc Cert.LoraBIdeal.main_arg1)) →
    ∃ (v0 : (c : Dev Cert.LoraBIdeal.nD) → Buf (Elt Ideal) ((c.tc : Thread Cert.LoraBIdeal.nD Cert.LoraBIdeal.τ).loc Cert.LoraBIdeal.main_v7)),
      θ_run (Cert.LoraBIdeal.defs (F := Ideal)) (onTc (τ := Cert.LoraBIdeal.τ) (Cert.LoraBIdeal.main (F := Ideal))) ⟨m, fun _ => 0, g⟩ (fun r => ∀ c : Dev Cert.LoraBIdeal.nD,
          r.2.mem ((c.tc : Thread Cert.LoraBIdeal.nD Cert.LoraBIdeal.τ).loc Cert.LoraBIdeal.main_v7) = v0 c
          ∧ r.2.mem ((c.tc : Thread Cert.LoraBIdeal.nD Cert.LoraBIdeal.τ).loc Cert.LoraBIdeal.main_arg0) = m ((c.tc : Thread Cert.LoraBIdeal.nD Cert.LoraBIdeal.τ).loc Cert.LoraBIdeal.main_arg0)
          ∧ r.2.mem ((c.tc : Thread Cert.LoraBIdeal.nD Cert.LoraBIdeal.τ).loc Cert.LoraBIdeal.main_arg1) = m ((c.tc : Thread Cert.LoraBIdeal.nD Cert.LoraBIdeal.τ).loc Cert.LoraBIdeal.main_arg1))
      ∧ θ_run (Cert.LoraBRefIdeal.defs (F := Ideal)) (onTc (τ := Cert.LoraBRefIdeal.τ) (Cert.LoraBRefIdeal.main (F := Ideal))) ⟨m', fun _ => 0, g'⟩ (fun r => ∀ c : Dev Cert.LoraBRefIdeal.nD,
          r.2.mem ((c.tc : Thread Cert.LoraBRefIdeal.nD Cert.LoraBRefIdeal.τ).loc Cert.LoraBRefIdeal.main_v8) = v0 c
          ∧ r.2.mem ((c.tc : Thread Cert.LoraBRefIdeal.nD Cert.LoraBRefIdeal.τ).loc Cert.LoraBRefIdeal.main_arg0) = m' ((c.tc : Thread Cert.LoraBRefIdeal.nD Cert.LoraBRefIdeal.τ).loc Cert.LoraBRefIdeal.main_arg0)
          ∧ r.2.mem ((c.tc : Thread Cert.LoraBRefIdeal.nD Cert.LoraBRefIdeal.τ).loc Cert.LoraBRefIdeal.main_arg1) = m' ((c.tc : Thread Cert.LoraBRefIdeal.nD Cert.LoraBRefIdeal.τ).loc Cert.LoraBRefIdeal.main_arg1))

def Claim : Prop :=
  ∃ (hNorm : Cert.Norm.Facts) (hNormIdeal : Cert.NormIdeal.Facts) (hNormRefIdeal : Cert.NormRefIdeal.Facts) (hForward : Cert.Forward.Facts) (hForwardIdeal : Cert.ForwardIdeal.Facts) (hForwardRefIdeal : Cert.ForwardRefIdeal.Facts) (hBackward : Cert.Backward.Facts) (hBackwardIdeal : Cert.BackwardIdeal.Facts) (hBackwardRefIdeal : Cert.BackwardRefIdeal.Facts) (hFinal : Cert.Final.Facts) (hFinalIdeal : Cert.FinalIdeal.Facts) (hFinalRefIdeal : Cert.FinalRefIdeal.Facts) (hPairs : Cert.Pairs.Facts) (hPairsIdeal : Cert.PairsIdeal.Facts) (hPairsRefIdeal : Cert.PairsRefIdeal.Facts) (hLoraB : Cert.LoraB.Facts) (hLoraBIdeal : Cert.LoraBIdeal.Facts) (hLoraBRefIdeal : Cert.LoraBRefIdeal.Facts) (hPre_labels_in_vocabulary : Cert.Pre_labels_in_vocabulary.Facts) (hPre_scale_nonzero : Cert.Pre_scale_nonzero.Facts) (hPre_segments_distinct : Cert.Pre_segments_distinct.Facts),
    quiescent_Norm (hNorm := hNorm)
    ∧ quiescent_NormIdeal (hNormIdeal := hNormIdeal)
    ∧ quiescent_NormRefIdeal (hNormRefIdeal := hNormRefIdeal)
    ∧ quiescent_Forward (hForward := hForward)
    ∧ quiescent_ForwardIdeal (hForwardIdeal := hForwardIdeal)
    ∧ quiescent_ForwardIdeal_pre_labels_in_vocabulary (hForwardIdeal := hForwardIdeal) (hPre_labels_in_vocabulary := hPre_labels_in_vocabulary)
    ∧ quiescent_ForwardRefIdeal (hForwardRefIdeal := hForwardRefIdeal)
    ∧ quiescent_ForwardRefIdeal_pre_labels_in_vocabulary (hForwardRefIdeal := hForwardRefIdeal) (hPre_labels_in_vocabulary := hPre_labels_in_vocabulary)
    ∧ quiescent_Backward (hBackward := hBackward)
    ∧ quiescent_BackwardIdeal (hBackwardIdeal := hBackwardIdeal)
    ∧ quiescent_BackwardIdeal_pre_scale_nonzero (hBackwardIdeal := hBackwardIdeal) (hPre_scale_nonzero := hPre_scale_nonzero)
    ∧ quiescent_BackwardRefIdeal (hBackwardRefIdeal := hBackwardRefIdeal)
    ∧ quiescent_BackwardRefIdeal_pre_scale_nonzero (hBackwardRefIdeal := hBackwardRefIdeal) (hPre_scale_nonzero := hPre_scale_nonzero)
    ∧ quiescent_Final (hFinal := hFinal)
    ∧ quiescent_FinalIdeal (hFinalIdeal := hFinalIdeal)
    ∧ quiescent_FinalRefIdeal (hFinalRefIdeal := hFinalRefIdeal)
    ∧ quiescent_Pairs (hPairs := hPairs)
    ∧ quiescent_PairsIdeal (hPairsIdeal := hPairsIdeal)
    ∧ quiescent_PairsIdeal_pre_segments_distinct (hPairsIdeal := hPairsIdeal) (hPre_segments_distinct := hPre_segments_distinct)
    ∧ quiescent_PairsRefIdeal (hPairsRefIdeal := hPairsRefIdeal)
    ∧ quiescent_PairsRefIdeal_pre_segments_distinct (hPairsRefIdeal := hPairsRefIdeal) (hPre_segments_distinct := hPre_segments_distinct)
    ∧ quiescent_LoraB (hLoraB := hLoraB)
    ∧ quiescent_LoraBIdeal (hLoraBIdeal := hLoraBIdeal)
    ∧ quiescent_LoraBRefIdeal (hLoraBRefIdeal := hLoraBRefIdeal)
    ∧ preserves_Norm_NormIdeal
    ∧ algebraic_NormIdeal_NormRefIdeal (hNormIdeal := hNormIdeal) (hNormRefIdeal := hNormRefIdeal)
    ∧ preserves_Forward_ForwardIdeal
    ∧ algebraic_ForwardIdeal_ForwardRefIdeal_pre_labels_in_vocabulary (hForwardIdeal := hForwardIdeal) (hForwardRefIdeal := hForwardRefIdeal) (hPre_labels_in_vocabulary := hPre_labels_in_vocabulary)
    ∧ preserves_Backward_BackwardIdeal
    ∧ algebraic_BackwardIdeal_BackwardRefIdeal_pre_scale_nonzero (hBackwardIdeal := hBackwardIdeal) (hBackwardRefIdeal := hBackwardRefIdeal) (hPre_scale_nonzero := hPre_scale_nonzero)
    ∧ preserves_Final_FinalIdeal
    ∧ algebraic_FinalIdeal_FinalRefIdeal (hFinalIdeal := hFinalIdeal) (hFinalRefIdeal := hFinalRefIdeal)
    ∧ preserves_Pairs_PairsIdeal
    ∧ algebraic_PairsIdeal_PairsRefIdeal_pre_segments_distinct (hPairsIdeal := hPairsIdeal) (hPairsRefIdeal := hPairsRefIdeal) (hPre_segments_distinct := hPre_segments_distinct)
    ∧ preserves_LoraB_LoraBIdeal
    ∧ algebraic_LoraBIdeal_LoraBRefIdeal (hLoraBIdeal := hLoraBIdeal) (hLoraBRefIdeal := hLoraBRefIdeal)
-- ==== Pre_labels_in_vocabulary.lean ====
abbrev S4096x8192 : Shape := ⟨2, ![4096, 8192]⟩
abbrev S16032x8192 : Shape := ⟨2, ![16032, 8192]⟩
abbrev S4096x1 : Shape := ⟨2, ![4096, 1]⟩
abbrev S1x16032 : Shape := ⟨2, ![1, 16032]⟩
abbrev S4096x64 : Shape := ⟨2, ![4096, 64]⟩
abbrev S16032x64 : Shape := ⟨2, ![16032, 64]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel

variable [Facts]

def fn {F : FTy → Type} [FloatOps F] (main_arg0 : FVec F S4096x8192 .fp8e4m3) (main_arg1 : FVec F S16032x8192 .fp8e4m3) (main_arg2 : FVec F S4096x1 .f32) (main_arg3 : FVec F S1x16032 .f32) (main_arg4 : FVec F S4096x64 .bf16) (main_arg5 : FVec F S16032x64 .bf16) (main_arg6 : IVec S4096x1 32) : IVec S_ 1 :=
  let main_c : IVec S_ 32 := constantI S_ 32 16032#32
  let main_v0 : IVec S4096x1 32 := broadcastInDim S4096x1 ![] bcast_S_S4096x1 main_c
  let main_v1 : IVec S4096x1 1 := cmpi .slt main_arg6 main_v0
  let main_c_0 : IVec S_ 1 := constantI S_ 1 1#1
  let main_v2 : IVec S_ 1 := (fun x v => Host.reduce IntOp.andi x v reducesTo_S4096x1_S_d0_1 h_S_) main_v1 main_c_0
  main_v2
-- ==== Pre_scale_nonzero.lean ====
abbrev S4096x16128 : Shape := ⟨2, ![4096, 16128]⟩
abbrev S16032x8192 : Shape := ⟨2, ![16032, 8192]⟩
abbrev S1x16032 : Shape := ⟨2, ![1, 16032]⟩
abbrev S16032x64 : Shape := ⟨2, ![16032, 64]⟩
abbrev S4096x1 : Shape := ⟨2, ![4096, 1]⟩
abbrev S4096x64 : Shape := ⟨2, ![4096, 64]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S4096x16128 .f32) (main_arg1 : FVec F S16032x8192 .fp8e4m3) (main_arg2 : FVec F S1x16032 .f32) (main_arg3 : FVec F S16032x64 .bf16) (main_arg4 : IVec S4096x1 32) (main_arg5 : FVec F S4096x1 .f32) (main_arg6 : FVec F S4096x1 .f32) (main_arg7 : FVec F S4096x64 .bf16) (main_arg8 : FVec F S1 .f32) : IVec S_ 1 :=
  let main_cst : FVec F S_ .f32 := constant S_ .f32 0x00000000#32
  let main_v0 : FVec F S1 .f32 := broadcastInDim S1 ![] bcast_S_S1 main_cst
  let main_v1 : IVec S1 1 := cmpf .une main_arg8 main_v0
  let main_c : IVec S_ 1 := constantI S_ 1 1#1
  let main_v2 : IVec S_ 1 := (fun x v => Host.reduce IntOp.andi x v reducesTo_S1_S_d0 h_S_) main_v1 main_c
  main_v2
-- ==== Pre_segments_distinct.lean ====
abbrev S4096x1 : Shape := ⟨2, ![4096, 1]⟩
abbrev S1x32 : Shape := ⟨2, ![1, 32]⟩
abbrev S16x2 : Shape := ⟨2, ![16, 2]⟩
abbrev S32 : Shape := ⟨1, ![32]⟩
abbrev S32x1 : Shape := ⟨2, ![32, 1]⟩
abbrev S32x32 : Shape := ⟨2, ![32, 32]⟩
abbrev S_ : Shape := ⟨0, ![]⟩

class Facts : Prop where
  shapeCasts_S16x2_S32 : S16x2.ShapeCasts S32
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32 : S_.BroadcastsInDim S32 (![] : Fin 0 → Fin S32.rank)
  reducesTo_S32x32_S_d0_1 : S32x32.ReducesTo [0, 1] S_
  h_S_ : 0 < S_.numel

variable [Facts]

def fn_part1 {F : FTy → Type} [FloatOps F] (main_v17 : IVec S32x32 1) (main_v21 : IVec S32x32 1) : IVec S_ 1 :=
  let main_v22 : IVec S32x32 1 := andi main_v17 main_v21
  let main_c_1 : IVec S_ 1 := constantI S_ 1 1#1
  let main_v23 : IVec S_ 1 := (fun x v => Host.reduce IntOp.andi x v reducesTo_S32x32_S_d0_1 h_S_) main_v22 main_c_1
  main_v23

def fn {F : FTy → Type} [FloatOps F] (main_arg0 : FVec F S4096x1 .f32) (main_arg1 : FVec F S4096x1 .f32) (main_arg2 : FVec F S4096x1 .f32) (main_arg3 : IVec S1x32 32) (main_arg4 : IVec S1x32 32) (main_arg5 : IVec S16x2 32) : IVec S_ 1 :=
  let main_v0 : IVec S32 32 := shapeCast S32 main_arg5 shapeCasts_S16x2_S32
  let main_v1 : IVec S32 32 := iotaInDim S32 32 0
  let main_v2 : IVec S32x1 32 := broadcastInDim S32x1 ![0] bcast_S32_S32x1_0 main_v0
  let main_v3 : IVec S1x32 32 := broadcastInDim S1x32 ![1] bcast_S32_S1x32_1 main_v0
  let main_v4 : IVec S32x32 32 := broadcastInDim S32x32 ![0, 1] bcast_S32x1_S32x32_0_1 main_v2
  let main_v5 : IVec S32x32 32 := broadcastInDim S32x32 ![0, 1] bcast_S1x32_S32x32_0_1 main_v3
  let main_v6 : IVec S32x32 1 := cmpi .ne main_v4 main_v5
  let main_v7 : IVec S32x1 32 := broadcastInDim S32x1 ![0] bcast_S32_S32x1_0 main_v1
  let main_v8 : IVec S1x32 32 := broadcastInDim S1x32 ![1] bcast_S32_S1x32_1 main_v1
  let main_v9 : IVec S32x32 32 := broadcastInDim S32x32 ![0, 1] bcast_S32x1_S32x32_0_1 main_v7
  let main_v10 : IVec S32x32 32 := broadcastInDim S32x32 ![0, 1] bcast_S1x32_S32x32_0_1 main_v8
  let main_v11 : IVec S32x32 1 := cmpi .eq main_v9 main_v10
  let main_v12 : IVec S32x32 1 := ori main_v6 main_v11
  let main_c : IVec S_ 32 := constantI S_ 32 0#32
  let main_v13 : IVec S32 32 := broadcastInDim S32 ![] bcast_S_S32 main_c
  let main_v14 : IVec S32 1 := cmpi .sge main_v0 main_v13
  let main_v15 : IVec S32x1 1 := broadcastInDim S32x1 ![0] bcast_S32_S32x1_0 main_v14
  let main_v16 : IVec S32x32 1 := broadcastInDim S32x32 ![0, 1] bcast_S32x1_S32x32_0_1 main_v15
  let main_v17 : IVec S32x32 1 := andi main_v12 main_v16
  let main_c_0 : IVec S_ 32 := constantI S_ 32 32#32
  let main_v18 : IVec S32 32 := broadcastInDim S32 ![] bcast_S_S32 main_c_0
  let main_v19 : IVec S32 1 := cmpi .slt main_v0 main_v18
  let main_v20 : IVec S32x1 1 := broadcastInDim S32x1 ![0] bcast_S32_S32x1_0 main_v19
  let main_v21 : IVec S32x32 1 := broadcastInDim S32x32 ![0, 1] bcast_S32x1_S32x32_0_1 main_v20
  fn_part1 (F := F) main_v17 main_v21
-- ==== Norm.lean ====
abbrev S4096x8192 : Shape := ⟨2, ![4096, 8192]⟩
abbrev S1x8192 : Shape := ⟨2, ![1, 8192]⟩
abbrev S64x8192 : Shape := ⟨2, ![64, 8192]⟩
abbrev S4096x1 : Shape := ⟨2, ![4096, 1]⟩
abbrev S4096x64 : Shape := ⟨2, ![4096, 64]⟩
abbrev S256x8192 : Shape := ⟨2, ![256, 8192]⟩
abbrev S256x1 : Shape := ⟨2, ![256, 1]⟩
abbrev S256x64 : Shape := ⟨2, ![256, 64]⟩
abbrev S256 : Shape := ⟨1, ![256]⟩

abbrev nBuf : Space → Nat
  | .hbm => 7
  | .vmem => 12
  | .smem => 0
  | _ => 0

abbrev bufTy : (tb : Table) → Fin (tcTables nBuf tb) → BufTy
  | .hbm, ⟨0, _⟩ => ⟨S4096x8192, .bf16⟩
  | .hbm, ⟨1, _⟩ => ⟨S1x8192, .f32⟩
  | .hbm, ⟨2, _⟩ => ⟨S64x8192, .bf16⟩
  | .hbm, ⟨3, _⟩ => ⟨S4096x8192, .fp8e4m3⟩
  | .hbm, ⟨4, _⟩ => ⟨S4096x1, .f32⟩
  | .hbm, ⟨5, _⟩ => ⟨S4096x1, .f32⟩
  | .hbm, ⟨6, _⟩ => ⟨S4096x64, .bf16⟩
  | .local _ .vmem, ⟨0, _⟩ => ⟨S256x8192, .bf16⟩
  | .local _ .vmem, ⟨1, _⟩ => ⟨S256x8192, .bf16⟩
  | .local _ .vmem, ⟨2, _⟩ => ⟨S1x8192, .f32⟩
  | .local _ .vmem, ⟨3, _⟩ => ⟨S64x8192, .bf16⟩
  | .local _ .vmem, ⟨4, _⟩ => ⟨S256x8192, .fp8e4m3⟩
  | .local _ .vmem, ⟨5, _⟩ => ⟨S256x8192, .fp8e4m3⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x64, .bf16⟩
  | .local _ .vmem, ⟨11, _⟩ => ⟨S256x64, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormRefIdeal.lean ====
abbrev S4096x8192 : Shape := ⟨2, ![4096, 8192]⟩
abbrev S1x8192 : Shape := ⟨2, ![1, 8192]⟩
abbrev S64x8192 : Shape := ⟨2, ![64, 8192]⟩
abbrev S4096x1 : Shape := ⟨2, ![4096, 1]⟩
abbrev S4096x64 : Shape := ⟨2, ![4096, 64]⟩
abbrev S4096 : Shape := ⟨1, ![4096]⟩

abbrev nBuf : Space → Nat
  | .hbm => 7
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S1x8192, .f32⟩
  | .hbm, ⟨2, _⟩ => ⟨S64x8192, .bf16⟩
  | .hbm, ⟨3, _⟩ => ⟨S4096x8192, .fp8e4m3⟩
  | .hbm, ⟨4, _⟩ => ⟨S4096x1, .f32⟩
  | .hbm, ⟨5, _⟩ => ⟨S4096x1, .f32⟩
  | .hbm, ⟨6, _⟩ => ⟨S4096x64, .bf16⟩
  | .local _ .vmem, ⟨0, _⟩ => ⟨S4096x8192, .bf16⟩
  | .local _ .vmem, ⟨1, _⟩ => ⟨S1x8192, .f32⟩
  | .local _ .vmem, ⟨2, _⟩ => ⟨S64x8192, .bf16⟩
  | .local _ .vmem, ⟨3, _⟩ => ⟨S4096x8192, .fp8e4m3⟩
  | .local _ .vmem, ⟨4, _⟩ => ⟨S4096x1, .f32⟩
  | .local _ .vmem, ⟨5, _⟩ => ⟨S4096x1, .f32⟩
  | .local _ .vmem, ⟨6, _⟩ => ⟨S4096x64, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Forward.lean ====
abbrev S4096x8192 : Shape := ⟨2, ![4096, 8192]⟩
abbrev S16032x8192 : Shape := ⟨2, ![16032, 8192]⟩
abbrev S4096x1 : Shape := ⟨2, ![4096, 1]⟩
abbrev S1x16032 : Shape := ⟨2, ![1, 16032]⟩
abbrev S4096x64 : Shape := ⟨2, ![4096, 64]⟩
abbrev S16032x64 : Shape := ⟨2, ![16032, 64]⟩
abbrev S4096x16128 : Shape := ⟨2, ![4096, 16128]⟩
abbrev S1024x8192 : Shape := ⟨2, ![1024, 8192]⟩
abbrev S768x8192 : Shape := ⟨2, ![768, 8192]⟩
abbrev S1024x1 : Shape := ⟨2, ![1024, 1]⟩
abbrev S1x768 : Shape := ⟨2, ![1, 768]⟩
abbrev S1024x64 : Shape := ⟨2, ![1024, 64]⟩
abbrev S768x64 : Shape := ⟨2, ![768, 64]⟩
abbrev S1024x768 : Shape := ⟨2, ![1024, 768]⟩
abbrev S1024x128 : Shape := ⟨2, ![1024, 128]⟩
abbrev S1024 : Shape := ⟨1, ![1024]⟩

abbrev nBuf : Space → Nat
  | .hbm => 10
  | .vmem => 23
  | .smem => 0
  | _ => 0

abbrev bufTy : (tb : Table) → Fin (tcTables nBuf tb) → BufTy
  | .hbm, ⟨0, _⟩ => ⟨S4096x8192, .fp8e4m3⟩
  | .hbm, ⟨1, _⟩ => ⟨S16032x8192, .fp8e4m3⟩
  | .hbm, ⟨2, _⟩ => ⟨S4096x1, .f32⟩
  | .hbm, ⟨3, _⟩ => ⟨S1x16032, .f32⟩
  | .hbm, ⟨4, _⟩ => ⟨S4096x64, .bf16⟩
  | .hbm, ⟨5, _⟩ => ⟨S16032x64, .bf16⟩
  | .hbm, ⟨6, _⟩ => ⟨S4096x1, .i32⟩
  | .hbm, ⟨7, _⟩ => ⟨S4096x16128, .f32⟩
  | .hbm, ⟨8, _⟩ => ⟨S4096x1, .f32⟩
  | .hbm, ⟨9, _⟩ => ⟨S4096x1, .f32⟩
  | .local _ .vmem, ⟨0, _⟩ => ⟨S1024x8192, .fp8e4m3⟩
  | .local _ .vmem, ⟨1, _⟩ => ⟨S1024x8192, .fp8e4m3⟩
  | .local _ .vmem, ⟨2, _⟩ => ⟨S768x8192, .fp8e4m3⟩
  | .local _ .vmem, ⟨3, _⟩ => ⟨S768x8192, .fp8e4m3⟩
  | .local _ .vmem, ⟨4, _⟩ => ⟨S1024x1, .f32⟩
  | .local _ .vmem, ⟨5, _⟩ => ⟨S1024x1, .f32⟩
  | .local _ .vmem, ⟨6, _⟩ => ⟨S1x768, .f32⟩
  | .local _ .vmem, ⟨7, _⟩ => ⟨S1x768, .f32⟩
  | .local _ .vmem, ⟨8, _⟩ => ⟨S1024x64, .bf16⟩
  | .local _ .vmem, ⟨9, _⟩ => ⟨S1024x64, .bf16⟩
  | .local _ .vmem, ⟨10, _⟩ => ⟨S768x64, .bf16⟩
  | .local _ .vmem, ⟨11, _⟩ => ⟨S768x64, .bf16⟩
  | .local _ .vmem, ⟨12, _⟩ => ⟨S1024x1, .i32⟩
  | .local _ .vmem, ⟨13, _⟩ => ⟨S1024x1, .i32⟩
  | .local _ .vmem, ⟨14, _⟩ => ⟨S1024x768, .f32⟩
  | .local _ .vmem, ⟨15, _⟩ => ⟨S1024x768, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | _, _ => ⟨S4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 21], ![false, false]⟩

def k0_cond2 (i : grid0.Coords) : BitVec 1 :=
  let arg1 : BitVec 32 := BitVec.ofNat 32 (i 1).val
  let c20_i32 : BitVec 32 := 20#32
  let v115 : BitVec 1 := Scalar.cmpi .eq arg1 c20_i32
  let v116 : BitVec 32 := Scalar.extui v115
  let c0_i32_37 : BitVec 32 := 0#32
  let v117 : BitVec 1 := Scalar.cmpi .ne v116 c0_i32_37
  v117

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ForwardIdeal.lean ====
variable {F : FTy → Type} [FloatOps F] [Named F]
def κ : String → Option EReal := fun
  | "mask" => some ⊥
  | _ => none
-- ==== ForwardRefIdeal.lean ====
abbrev S4096x8192 : Shape := ⟨2, ![4096, 8192]⟩
abbrev S16032x8192 : Shape := ⟨2, ![16032, 8192]⟩
abbrev S4096x1 : Shape := ⟨2, ![4096, 1]⟩
abbrev S1x16032 : Shape := ⟨2, ![1, 16032]⟩
abbrev S4096x64 : Shape := ⟨2, ![4096, 64]⟩
abbrev S16032x64 : Shape := ⟨2, ![16032, 64]⟩
abbrev S4096x16128 : Shape := ⟨2, ![4096, 16128]⟩
abbrev S4096x16032 : Shape := ⟨2, ![4096, 16032]⟩
abbrev S4096 : Shape := ⟨1, ![4096]⟩
abbrev S4096x96 : Shape := ⟨2, ![4096, 96]⟩

abbrev nBuf : Space → Nat
  | .hbm => 10
  | .vmem => 10
  | .smem => 0
  | _ => 0

abbrev bufTy : (tb : Table) → Fin (tcTables nBuf tb) → BufTy
  | .hbm, ⟨0, _⟩ => ⟨S4096x8192, .fp8e4m3⟩
  | .hbm, ⟨1, _⟩ => ⟨S16032x8192, .fp8e4m3⟩
  | .hbm, ⟨2, _⟩ => ⟨S4096x1, .f32⟩
  | .hbm, ⟨3, _⟩ => ⟨S1x16032, .f32⟩
  | .hbm, ⟨4, _⟩ => ⟨S4096x64, .bf16⟩
  | .hbm, ⟨5, _⟩ => ⟨S16032x64, .bf16⟩
  | .hbm, ⟨6, _⟩ => ⟨S4096x1, .i32⟩
  | .hbm, ⟨7, _⟩ => ⟨S4096x16128, .f32⟩
  | .hbm, ⟨8, _⟩ => ⟨S4096x1, .f32⟩
  | .hbm, ⟨9, _⟩ => ⟨S4096x1, .f32⟩
  | .local _ .vmem, ⟨0, _⟩ => ⟨S4096x8192, .fp8e4m3⟩
  | .local _ .vmem, ⟨1, _⟩ => ⟨S16032x8192, .fp8e4m3⟩
  | .local _ .vmem, ⟨2, _⟩ => ⟨S4096x1, .f32⟩
  | .local _ .vmem, ⟨3, _⟩ => ⟨S1x16032, .f32⟩
  | .local _ .vmem, ⟨4, _⟩ => ⟨S4096x64, .bf16⟩
  | .local _ .vmem, ⟨5, _⟩ => ⟨S16032x64, .bf16⟩
  | .local _ .vmem, ⟨6, _⟩ => ⟨S4096x1, .i32⟩
  | .local _ .vmem, ⟨7, _⟩ => ⟨S4096x16128, .f32⟩
  | .local _ .vmem, ⟨8, _⟩ => ⟨S4096x1, .f32⟩
  | .local _ .vmem, ⟨9, _⟩ => ⟨S4096x1, .f32⟩
  | _, _ => ⟨S4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16032x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16032 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16032x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x16128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Backward.lean ====
abbrev S4096x16128 : Shape := ⟨2, ![4096, 16128]⟩
abbrev S16032x8192 : Shape := ⟨2, ![16032, 8192]⟩
abbrev S1x16032 : Shape := ⟨2, ![1, 16032]⟩
abbrev S16032x64 : Shape := ⟨2, ![16032, 64]⟩
abbrev S4096x1 : Shape := ⟨2, ![4096, 1]⟩
abbrev S4096x64 : Shape := ⟨2, ![4096, 64]⟩
abbrev S1 : Shape := ⟨1, ![1]⟩
abbrev S4096x16032 : Shape := ⟨2, ![4096, 16032]⟩
abbrev S4096x8192 : Shape := ⟨2, ![4096, 8192]⟩
abbrev S21x64x768 : Shape := ⟨3, ![21, 64, 768]⟩
abbrev S512x768 : Shape := ⟨2, ![512, 768]⟩
abbrev S768x8192 : Shape := ⟨2, ![768, 8192]⟩
abbrev S1x768 : Shape := ⟨2, ![1, 768]⟩
abbrev S768x64 : Shape := ⟨2, ![768, 64]⟩
abbrev S512x1 : Shape := ⟨2, ![512, 1]⟩
abbrev S512x64 : Shape := ⟨2, ![512, 64]⟩
abbrev S512x8192 : Shape := ⟨2, ![512, 8192]⟩
abbrev S1x64x768 : Shape := ⟨3, ![1, 64, 768]⟩
abbrev S64x768 : Shape := ⟨2, ![64, 768]⟩
abbrev S512x672 : Shape := ⟨2, ![512, 672]⟩
abbrev S672x8192 : Shape := ⟨2, ![672, 8192]⟩
abbrev S672x64 : Shape := ⟨2, ![672, 64]⟩

abbrev nBuf : Space → Nat
  | .hbm => 13
  | .vmem => 24
  | .smem => 1
  | _ => 0

abbrev bufTy : (tb : Table) → Fin (tcTables nBuf tb) → BufTy
  | .hbm, ⟨0, _⟩ => ⟨S4096x16128, .f32⟩
  | .hbm, ⟨1, _⟩ => ⟨S16032x8192, .fp8e4m3⟩
  | .hbm, ⟨2, _⟩ => ⟨S1x16032, .f32⟩
  | .hbm, ⟨3, _⟩ => ⟨S16032x64, .bf16⟩
  | .hbm, ⟨4, _⟩ => ⟨S4096x1, .i32⟩
  | .hbm, ⟨5, _⟩ => ⟨S4096x1, .f32⟩
  | .hbm, ⟨6, _⟩ => ⟨S4096x1, .f32⟩
  | .hbm, ⟨7, _⟩ => ⟨S4096x64, .bf16⟩
  | .hbm, ⟨8, _⟩ => ⟨S1, .f32⟩
  | .hbm, ⟨9, _⟩ => ⟨S4096x16032, .fp8e5m2⟩
  | .hbm, ⟨10, _⟩ => ⟨S4096x8192, .f32⟩
  | .hbm, ⟨11, _⟩ => ⟨S4096x64, .f32⟩
  | .hbm, ⟨12, _⟩ => ⟨S21x64x768, .f32⟩
  | .local _ .vmem, ⟨0, _⟩ => ⟨S512x768, .f32⟩
  | .local _ .vmem, ⟨1, _⟩ => ⟨S512x768, .f32⟩
  | .local _ .vmem, ⟨2, _⟩ => ⟨S768x8192, .fp8e4m3⟩
  | .local _ .vmem, ⟨3, _⟩ => ⟨S768x8192, .fp8e4m3⟩
  | .local _ .vmem, ⟨4, _⟩ => ⟨S1x768, .f32⟩
  | .local _ .vmem, ⟨5, _⟩ => ⟨S1x768, .f32⟩
  | .local _ .vmem, ⟨6, _⟩ => ⟨S768x64, .bf16⟩
  | .local _ .vmem, ⟨7, _⟩ => ⟨S768x64, .bf16⟩
  | .local _ .vmem, ⟨8, _⟩ => ⟨S512x1, .i32⟩
  | .local _ .vmem, ⟨9, _⟩ => ⟨S512x1, .i32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x64, .bf16⟩
  | .local _ .vmem, ⟨15, _⟩ => ⟨S512x64, .bf16⟩
  | .local _ .vmem, ⟨16, _⟩ => ⟨S512x768, .fp8e5m2⟩
  | .local _ .vmem, ⟨17, _⟩ => ⟨S512x768, .fp8e5m2⟩
  | .local _ .vmem, ⟨18, _⟩ => ⟨S512x8192, .f32⟩
  | .local _ .vmem, ⟨19, _⟩ => ⟨S512x8192, .f32⟩
  | .local _ .vmem, ⟨20, _⟩ => ⟨S512x64, .f32⟩
  | .local _ .vmem, ⟨21, _⟩ => ⟨S512x64, .f32⟩
  | .local _ .vmem, ⟨22, _⟩ => ⟨S21x64x768, .f32⟩
  | .local _ .vmem, ⟨23, _⟩ => ⟨S512x64, .bf16⟩
  | .local _ .smem, ⟨0, _⟩ => ⟨S1, .f32⟩
  | _, _ => ⟨S4096x16128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![8, 21], ![false, false]⟩

def k0_off1 (i : grid0.Coords) : Fin 3 → Nat :=
  let arg1 : BitVec 32 := BitVec.ofNat 32 (i 1).val
  let v39 : Index := Scalar.indexCast arg1
  let c0_18 : Index := 0#32
  let c0_19 : Index := 0#32
  ![v39.toNat, 0, 0]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond3 (i : grid0.Coords) : BitVec 1 :=
  let arg1 : BitVec 32 := BitVec.ofNat 32 (i 1).val
  let c20_i32 : BitVec 32 := 20#32
  let v49 : BitVec 1 := Scalar.cmpi .slt arg1 c20_i32
  let v50 : BitVec 32 := Scalar.extui v49
  let c0_i32_25 : BitVec 32 := 0#32
  let v51 : BitVec 1 := Scalar.cmpi .ne v50 c0_i32_25
  v51

def k0_cond4 (i : grid0.Coords) : BitVec 1 :=
  let arg1 : BitVec 32 := BitVec.ofNat 32 (i 1).val
  let c20_i32_26 : BitVec 32 := 20#32
  let v52 : BitVec 1 := Scalar.cmpi .eq arg1 c20_i32_26
  let v53 : BitVec 32 := Scalar.extui v52
  let c0_i32_27 : BitVec 32 := 0#32
  let v54 : BitVec 1 := Scalar.cmpi .ne v53 c0_i32_27
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x768 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S21x64x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== BackwardRefIdeal.lean ====
abbrev S4096x16128 : Shape := ⟨2, ![4096, 16128]⟩
abbrev S16032x8192 : Shape := ⟨2, ![16032, 8192]⟩
abbrev S1x16032 : Shape := ⟨2, ![1, 16032]⟩
abbrev S16032x64 : Shape := ⟨2, ![16032, 64]⟩
abbrev S4096x1 : Shape := ⟨2, ![4096, 1]⟩
abbrev S4096x64 : Shape := ⟨2, ![4096, 64]⟩
abbrev S1 : Shape := ⟨1, ![1]⟩
abbrev S16032x1 : Shape := ⟨2, ![16032, 1]⟩
abbrev S1x1 : Shape := ⟨2, ![1, 1]⟩
abbrev S4096x16032 : Shape := ⟨2, ![4096, 16032]⟩
abbrev S4096x8192 : Shape := ⟨2, ![4096, 8192]⟩
abbrev S21x64x768 : Shape := ⟨3, ![21, 64, 768]⟩
abbrev S64x16128 : Shape := ⟨2, ![64, 16128]⟩
abbrev S64x21x768 : Shape := ⟨3, ![64, 21, 768]⟩

abbrev nBuf : Space → Nat
  | .hbm => 15
  | .vmem => 13
  | .smem => 0
  | _ => 0

abbrev bufTy : (tb : Table) → Fin (tcTables nBuf tb) → BufTy
  | .hbm, ⟨0, _⟩ => ⟨S4096x16128, .f32⟩
  | .hbm, ⟨1, _⟩ => ⟨S16032x8192, .fp8e4m3⟩
  | .hbm, ⟨2, _⟩ => ⟨S1x16032, .f32⟩
  | .hbm, ⟨3, _⟩ => ⟨S16032x64, .bf16⟩
  | .hbm, ⟨4, _⟩ => ⟨S4096x1, .i32⟩
  | .hbm, ⟨5, _⟩ => ⟨S4096x1, .f32⟩
  | .hbm, ⟨6, _⟩ => ⟨S4096x1, .f32⟩
  | .hbm, ⟨7, _⟩ => ⟨S4096x64, .bf16⟩
  | .hbm, ⟨8, _⟩ => ⟨S1, .f32⟩
  | .hbm, ⟨9, _⟩ => ⟨S16032x1, .f32⟩
  | .hbm, ⟨10, _⟩ => ⟨S1x1, .f32⟩
  | .hbm, ⟨11, _⟩ => ⟨S4096x16032, .fp8e5m2⟩
  | .hbm, ⟨12, _⟩ => ⟨S4096x8192, .f32⟩
  | .hbm, ⟨13, _⟩ => ⟨S4096x64, .f32⟩
  | .hbm, ⟨14, _⟩ => ⟨S21x64x768, .f32⟩
  | .local _ .vmem, ⟨0, _⟩ => ⟨S4096x16128, .f32⟩
  | .local _ .vmem, ⟨1, _⟩ => ⟨S16032x8192, .fp8e4m3⟩
  | .local _ .vmem, ⟨2, _⟩ => ⟨S16032x1, .f32⟩
  | .local _ .vmem, ⟨3, _⟩ => ⟨S16032x64, .bf16⟩
  | .local _ .vmem, ⟨4, _⟩ => ⟨S4096x1, .i32⟩
  | .local _ .vmem, ⟨5, _⟩ => ⟨S4096x1, .f32⟩
  | .local _ .vmem, ⟨6, _⟩ => ⟨S4096x1, .f32⟩
  | .local _ .vmem, ⟨7, _⟩ => ⟨S4096x64, .bf16⟩
  | .local _ .vmem, ⟨8, _⟩ => ⟨S1x1, .f32⟩
  | .local _ .vmem, ⟨9, _⟩ => ⟨S4096x16032, .fp8e5m2⟩
  | .local _ .vmem, ⟨10, _⟩ => ⟨S4096x8192, .f32⟩
  | .local _ .vmem, ⟨11, _⟩ => ⟨S4096x64, .f32⟩
  | .local _ .vmem, ⟨12, _⟩ => ⟨S21x64x768, .f32⟩
  | _, _ => ⟨S4096x16128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S4096x16128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16032x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16032x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16032x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x16032 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S21x64x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Final.lean ====
abbrev S4096x8192 : Shape := ⟨2, ![4096, 8192]⟩
abbrev S4096x64 : Shape := ⟨2, ![4096, 64]⟩
abbrev S1x8192 : Shape := ⟨2, ![1, 8192]⟩
abbrev S4096x1 : Shape := ⟨2, ![4096, 1]⟩
abbrev S64x8192 : Shape := ⟨2, ![64, 8192]⟩
abbrev S1 : Shape := ⟨1, ![1]⟩
abbrev S256x8192 : Shape := ⟨2, ![256, 8192]⟩
abbrev S256x64 : Shape := ⟨2, ![256, 64]⟩
abbrev S256x1 : Shape := ⟨2, ![256, 1]⟩
abbrev S256 : Shape := ⟨1, ![256]⟩

abbrev nBuf : Space → Nat
  | .hbm => 10
  | .vmem => 15
  | .smem => 1
  | _ => 0

abbrev bufTy : (tb : Table) → Fin (tcTables nBuf tb) → BufTy
  | .hbm, ⟨0, _⟩ => ⟨S4096x8192, .f32⟩
  | .hbm, ⟨1, _⟩ => ⟨S4096x64, .f32⟩
  | .hbm, ⟨2, _⟩ => ⟨S4096x8192, .bf16⟩
  | .hbm, ⟨3, _⟩ => ⟨S1x8192, .f32⟩
  | .hbm, ⟨4, _⟩ => ⟨S4096x1, .f32⟩
  | .hbm, ⟨5, _⟩ => ⟨S4096x1, .f32⟩
  | .hbm, ⟨6, _⟩ => ⟨S64x8192, .bf16⟩
  | .hbm, ⟨7, _⟩ => ⟨S1, .f32⟩
  | .hbm, ⟨8, _⟩ => ⟨S4096x8192, .bf16⟩
  | .hbm, ⟨9, _⟩ => ⟨S64x8192, .f32⟩
  | .local _ .vmem, ⟨0, _⟩ => ⟨S256x8192, .f32⟩
  | .local _ .vmem, ⟨1, _⟩ => ⟨S256x8192, .f32⟩
  | .local _ .vmem, ⟨2, _⟩ => ⟨S256x64, .f32⟩
  | .local _ .vmem, ⟨3, _⟩ => ⟨S256x64, .f32⟩
  | .local _ .vmem, ⟨4, _⟩ => ⟨S256x8192, .bf16⟩
  | .local _ .vmem, ⟨5, _⟩ => ⟨S256x8192, .bf16⟩
  | .local _ .vmem, ⟨6, _⟩ => ⟨S1x8192, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S64x8192, .bf16⟩
  | .local _ .vmem, ⟨12, _⟩ => ⟨S256x8192, .bf16⟩
  | .local _ .vmem, ⟨13, _⟩ => ⟨S256x8192, .bf16⟩
  | .local _ .vmem, ⟨14, _⟩ => ⟨S64x8192, .f32⟩
  | .local _ .smem, ⟨0, _⟩ => ⟨S1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S64x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FinalRefIdeal.lean ====
abbrev S4096x8192 : Shape := ⟨2, ![4096, 8192]⟩
abbrev S4096x64 : Shape := ⟨2, ![4096, 64]⟩
abbrev S1x8192 : Shape := ⟨2, ![1, 8192]⟩
abbrev S4096x1 : Shape := ⟨2, ![4096, 1]⟩
abbrev S64x8192 : Shape := ⟨2, ![64, 8192]⟩
abbrev S1 : Shape := ⟨1, ![1]⟩
abbrev S1x1 : Shape := ⟨2, ![1, 1]⟩
abbrev S_ : Shape := ⟨0, ![]⟩
abbrev S4096 : Shape := ⟨1, ![4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x64, .f32⟩
  | .hbm, ⟨2, _⟩ => ⟨S4096x8192, .bf16⟩
  | .hbm, ⟨3, _⟩ => ⟨S1x8192, .f32⟩
  | .hbm, ⟨4, _⟩ => ⟨S4096x1, .f32⟩
  | .hbm, ⟨5, _⟩ => ⟨S4096x1, .f32⟩
  | .hbm, ⟨6, _⟩ => ⟨S64x8192, .bf16⟩
  | .hbm, ⟨7, _⟩ => ⟨S1, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .bf16⟩
  | .hbm, ⟨14, _⟩ => ⟨S1x1, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x64, .f32⟩
  | .hbm, ⟨21, _⟩ => ⟨S4096x64, .f32⟩
  | .hbm, ⟨22, _⟩ => ⟨S1x1, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S4096x64, .bf16⟩
  | .hbm, ⟨28, _⟩ => ⟨S64x8192, .f32⟩
  | .hbm, ⟨29, _⟩ => ⟨S4096x8192, .f32⟩
  | .hbm, ⟨30, _⟩ => ⟨S4096x8192, .f32⟩
  | .hbm, ⟨31, _⟩ => ⟨S4096x8192, .f32⟩
  | .hbm, ⟨32, _⟩ => ⟨S4096x8192, .f32⟩
  | .hbm, ⟨33, _⟩ => ⟨S4096x8192, .f32⟩
  | .hbm, ⟨34, _⟩ => ⟨S4096x8192, .f32⟩
  | .hbm, ⟨35, _⟩ => ⟨S4096x1, .f32⟩
  | .hbm, ⟨36, _⟩ => ⟨S4096x1, .f32⟩
  | .hbm, ⟨37, _⟩ => ⟨S4096x8192, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x8192, .f32⟩
  | .hbm, ⟨46, _⟩ => ⟨S4096x8192, .f32⟩
  | .hbm, ⟨47, _⟩ => ⟨S4096x8192, .f32⟩
  | .hbm, ⟨48, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Pairs.lean ====
abbrev S4096x1 : Shape := ⟨2, ![4096, 1]⟩
abbrev S1x32 : Shape := ⟨2, ![1, 32]⟩
abbrev S16x2 : Shape := ⟨2, ![16, 2]⟩
abbrev S16x1 : Shape := ⟨2, ![16, 1]⟩
abbrev S4096x32 : Shape := ⟨2, ![4096, 32]⟩
abbrev S32 : Shape := ⟨1, ![32]⟩
abbrev S16x32 : Shape := ⟨2, ![16, 32]⟩
abbrev S16 : Shape := ⟨1, ![16]⟩
abbrev S4096 : Shape := ⟨1, ![4096]⟩

abbrev nBuf : Space → Nat
  | .hbm => 10
  | .vmem => 10
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x1, .f32⟩
  | .hbm, ⟨3, _⟩ => ⟨S1x32, .i32⟩
  | .hbm, ⟨4, _⟩ => ⟨S1x32, .i32⟩
  | .hbm, ⟨5, _⟩ => ⟨S16x2, .i32⟩
  | .hbm, ⟨6, _⟩ => ⟨S16x1, .f32⟩
  | .hbm, ⟨7, _⟩ => ⟨S1x32, .f32⟩
  | .hbm, ⟨8, _⟩ => ⟨S4096x1, .f32⟩
  | .hbm, ⟨9, _⟩ => ⟨S4096x1, .f32⟩
  | .local _ .vmem, ⟨0, _⟩ => ⟨S4096x1, .f32⟩
  | .local _ .vmem, ⟨1, _⟩ => ⟨S4096x1, .f32⟩
  | .local _ .vmem, ⟨2, _⟩ => ⟨S4096x1, .f32⟩
  | .local _ .vmem, ⟨3, _⟩ => ⟨S1x32, .i32⟩
  | .local _ .vmem, ⟨4, _⟩ => ⟨S1x32, .i32⟩
  | .local _ .vmem, ⟨5, _⟩ => ⟨S16x2, .i32⟩
  | .local _ .vmem, ⟨6, _⟩ => ⟨S16x1, .f32⟩
  | .local _ .vmem, ⟨7, _⟩ => ⟨S1x32, .f32⟩
  | .local _ .vmem, ⟨8, _⟩ => ⟨S4096x1, .f32⟩
  | .local _ .vmem, ⟨9, _⟩ => ⟨S4096x1, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x2 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== PairsRefIdeal.lean ====
abbrev S4096x1 : Shape := ⟨2, ![4096, 1]⟩
abbrev S1x32 : Shape := ⟨2, ![1, 32]⟩
abbrev S16x2 : Shape := ⟨2, ![16, 2]⟩
abbrev S4096x32 : Shape := ⟨2, ![4096, 32]⟩
abbrev S4096 : Shape := ⟨1, ![4096]⟩
abbrev S32 : Shape := ⟨1, ![32]⟩
abbrev S_ : Shape := ⟨0, ![]⟩
abbrev S16x2x1 : Shape := ⟨3, ![16, 2, 1]⟩
abbrev S16x1 : Shape := ⟨2, ![16, 1]⟩
abbrev S16 : Shape := ⟨1, ![16]⟩

abbrev nBuf : Space → Nat
  | .hbm => 78
  | .vmem => 0
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x1, .f32⟩
  | .hbm, ⟨3, _⟩ => ⟨S1x32, .i32⟩
  | .hbm, ⟨4, _⟩ => ⟨S1x32, .i32⟩
  | .hbm, ⟨5, _⟩ => ⟨S16x2, .i32⟩
  | .hbm, ⟨6, _⟩ => ⟨S4096x1, .f32⟩
  | .hbm, ⟨7, _⟩ => ⟨S4096x32, .i32⟩
  | .hbm, ⟨8, _⟩ => ⟨S4096x32, .i32⟩
  | .hbm, ⟨9, _⟩ => ⟨S4096x32, .i1⟩
  | .hbm, ⟨10, _⟩ => ⟨S4096x32, .i32⟩
  | .hbm, ⟨11, _⟩ => ⟨S4096x32, .i1⟩
  | .hbm, ⟨12, _⟩ => ⟨S4096x32, .i1⟩
  | .hbm, ⟨13, _⟩ => ⟨S4096x32, .f32⟩
  | .hbm, ⟨14, _⟩ => ⟨S4096x1, .f32⟩
  | .hbm, ⟨15, _⟩ => ⟨S4096, .f32⟩
  | .hbm, ⟨16, _⟩ => ⟨S32, .f32⟩
  | .hbm, ⟨17, _⟩ => ⟨S_, .i32⟩
  | .hbm, ⟨18, _⟩ => ⟨S16x2, .i32⟩
  | .hbm, ⟨19, _⟩ => ⟨S16x2, .i1⟩
  | .hbm, ⟨20, _⟩ => ⟨S_, .i32⟩
  | .hbm, ⟨21, _⟩ => ⟨S16x2, .i32⟩
  | .hbm, ⟨22, _⟩ => ⟨S16x2, .i32⟩
  | .hbm, ⟨23, _⟩ => ⟨S16x2, .i32⟩
  | .hbm, ⟨24, _⟩ => ⟨S16x2x1, .i32⟩
  | .hbm, ⟨25, _⟩ => ⟨S16x2, .f32⟩
  | .hbm, ⟨26, _⟩ => ⟨S16x1, .f32⟩
  | .hbm, ⟨27, _⟩ => ⟨S16, .f32⟩
  | .hbm, ⟨28, _⟩ => ⟨S16x1, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S16, .f32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S32, .f32⟩
  | .hbm, ⟨60, _⟩ => ⟨S16, .f32⟩
  | .hbm, ⟨61, _⟩ => ⟨S16x1, .f32⟩
  | .hbm, ⟨62, _⟩ => ⟨S16x1, .f32⟩
  | .hbm, ⟨63, _⟩ => ⟨S16x2, .f32⟩
  | .hbm, ⟨64, _⟩ => ⟨S_, .i32⟩
  | .hbm, ⟨65, _⟩ => ⟨S16x2, .i32⟩
  | .hbm, ⟨66, _⟩ => ⟨S16x2, .i1⟩
  | .hbm, ⟨67, _⟩ => ⟨S_, .i32⟩
  | .hbm, ⟨68, _⟩ => ⟨S16x2, .i32⟩
  | .hbm, ⟨69, _⟩ => ⟨S16x2, .i32⟩
  | .hbm, ⟨70, _⟩ => ⟨S16x2, .i32⟩
  | .hbm, ⟨71, _⟩ => ⟨S16x2x1, .i32⟩
  | .hbm, ⟨72, _⟩ => ⟨S32, .f32⟩
  | .hbm, ⟨73, _⟩ => ⟨S4096, .f32⟩
  | .hbm, ⟨74, _⟩ => ⟨S4096x1, .f32⟩
  | .hbm, ⟨75, _⟩ => ⟨S4096x1, .f32⟩
  | .hbm, ⟨76, _⟩ => ⟨S16x1, .f32⟩
  | .hbm, ⟨77, _⟩ => ⟨S1x32, .f32⟩
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_c_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== LoraB.lean ====
abbrev S21x64x768 : Shape := ⟨3, ![21, 64, 768]⟩
abbrev S1 : Shape := ⟨1, ![1]⟩
abbrev S_ : Shape := ⟨0, ![]⟩
abbrev S21x768x64 : Shape := ⟨3, ![21, 768, 64]⟩
abbrev S16128x64 : Shape := ⟨2, ![16128, 64]⟩
abbrev S16032x64 : Shape := ⟨2, ![16032, 64]⟩
abbrev S1x1 : Shape := ⟨2, ![1, 1]⟩

abbrev nBuf : Space → Nat
  | .hbm => 11
  | .vmem => 0
  | .smem => 0
  | _ => 0

abbrev bufTy : (tb : Table) → Fin (tcTables nBuf tb) → BufTy
  | .hbm, ⟨0, _⟩ => ⟨S21x64x768, .f32⟩
  | .hbm, ⟨1, _⟩ => ⟨S1, .f32⟩
  | .hbm, ⟨2, _⟩ => ⟨S_, .f32⟩
  | .hbm, ⟨3, _⟩ => ⟨S1, .f32⟩
  | .hbm, ⟨4, _⟩ => ⟨S1, .f32⟩
  | .hbm, ⟨5, _⟩ => ⟨S21x768x64, .f32⟩
  | .hbm, ⟨6, _⟩ => ⟨S16128x64, .f32⟩
  | .hbm, ⟨7, _⟩ => ⟨S16032x64, .f32⟩
  | .hbm, ⟨8, _⟩ => ⟨S1x1, .f32⟩
  | .hbm, ⟨9, _⟩ => ⟨S16032x64, .f32⟩
  | .hbm, ⟨10, _⟩ => ⟨S16032x64, .f32⟩
  | _, _ => ⟨S21x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== LoraBRefIdeal.lean ====
abbrev S21x64x768 : Shape := ⟨3, ![21, 64, 768]⟩
abbrev S1 : Shape := ⟨1, ![1]⟩
abbrev S64x21x768 : Shape := ⟨3, ![64, 21, 768]⟩
abbrev S64x16128 : Shape := ⟨2, ![64, 16128]⟩
abbrev S64x16032 : Shape := ⟨2, ![64, 16032]⟩
abbrev S_ : Shape := ⟨0, ![]⟩
abbrev S16032x64 : Shape := ⟨2, ![16032, 64]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S21x64x768, .f32⟩
  | .hbm, ⟨1, _⟩ => ⟨S1, .f32⟩
  | .hbm, ⟨2, _⟩ => ⟨S64x21x768, .f32⟩
  | .hbm, ⟨3, _⟩ => ⟨S64x16128, .f32⟩
  | .hbm, ⟨4, _⟩ => ⟨S64x16032, .f32⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S16032x64, .f32⟩
  | .hbm, ⟨9, _⟩ => ⟨S1x1, .f32⟩
  | .hbm, ⟨10, _⟩ => ⟨S16032x64, .f32⟩
  | .hbm, ⟨11, _⟩ => ⟨S16032x64, .f32⟩
  | _, _ => ⟨S21x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Final.Terms.lean ====
/- THE FINAL CALL'S ARRAYS, entry by entry, over the extended reals: the gradient of the hidden states through the norm and
the gradient of the first LoRA factor. -/
module

public import proofs.«01_k».proof.FinalIdeal
public import Idealize.ShloMosaic.Lib.Pointwise

@[expose] public section

set_option maxRecDepth 16384

noncomputable section

namespace Cert.FinalIdeal.Hand

open Idealize.ShloMosaic Idealize.ShloMosaic.TcCoe

/-- The call's arguments. -/
structure Args where
  /-- the unscaled gradient of the normalised hidden states -/
  gh : FVec Ideal S4096x8192 .f32
  /-- the unscaled gradient of the LoRA activations -/
  gl : FVec Ideal S4096x64 .f32
  /-- the hidden states -/
  h : FVec Ideal S4096x8192 .bf16
  /-- the norm's weights -/
  g : FVec Ideal S1x8192 .f32
  /-- the reciprocal roots -/
  rs : FVec Ideal S4096x1 .f32
  /-- the tokens' weights -/
  k : FVec Ideal S4096x1 .f32
  /-- the first LoRA factor -/
  a : FVec Ideal S64x8192 .bf16
  /-- the scale of the codes -/
  ds : FVec Ideal S1 .f32

namespace Args
variable (A : Args)

/-- The gradient of a LoRA activation. -/
def du (R : Fin 4096) (r : Fin 64) : EReal :=
  Ideal.ofBits .f32 0x40000000#32 * A.gl (ix2 R r) * A.ds (ix1 0) * A.k (ix2 R 0)

/-- A normalised hidden state. -/
def xn (R : Fin 4096) (c : Fin 8192) : EReal := A.h (ix2 R c) * A.rs (ix2 R 0) * A.g (ix2 0 c)

/-- The gradient of a normalised hidden state, by its weight. -/
def gd (R : Fin 4096) (c : Fin 8192) : EReal :=
  A.g (ix2 0 c) * (A.gh (ix2 R c) * A.ds (ix1 0) * A.k (ix2 R 0) + ∑ r : Fin 64, A.du R r * A.a (ix2 r c))

/-- The gradient of a hidden state. -/
def dh (R : Fin 4096) (c : Fin 8192) : EReal :=
  A.rs (ix2 R 0) * A.gd R c - A.h (ix2 R c) * (A.rs (ix2 R 0) * A.rs (ix2 R 0) * A.rs (ix2 R 0)
    * Ideal.div (∑ x : Fin 8192, A.gd R x * A.h (ix2 R x)) (Ideal.ofBits .f32 0x46000000#32))

/-- What a token adds to the gradient of the first LoRA factor. -/
def term (r : Fin 64) (c : Fin 8192) (R : ℕ) : EReal :=
  if h : R < 4096 then A.du ⟨R, h⟩ r * A.xn ⟨R, h⟩ c else 0
end Args

/-- The gradient of the hidden states. -/
def T8 (A : Args) : Vec Ideal S4096x8192 .bf16 := fun j => A.dh (j 0) (j 1)

/-- The gradient of the first LoRA factor. -/
def T9 (A : Args) : Vec Ideal S64x8192 .f32 := fun j => ∑ R ∈ Finset.range 4096, A.term (j 0) (j 1) R

end Cert.FinalIdeal.Hand

end
-- ==== Proof.Whole.lean ====
/- A buffer after a store through its whole rectangle holds the stored payload; so does a later load of it. -/
module

public import Idealize.ShloMosaic.Lib.Pipeline.FrameBody
public import Idealize.ShloMosaic.Lib.Pipeline.Value

@[expose] public section

namespace Cert.Whole

open Idealize.ShloMosaic Idealize.SL.Sem

theorem hz2 : (![0, 0] : Fin 2 → Nat) = fun _ => 0 := funext fun a => by fin_cases a <;> rfl
theorem hz2' : ∀ a, (![0, 0] : Fin 2 → Nat) a = 0 := fun a => by fin_cases a <;> rfl
theorem hz3 : (![0, 0, 0] : Fin 3 → Nat) = fun _ => 0 := funext fun a => by fin_cases a <;> rfl

variable {Val : EltTy → Type} [∀ e, Nonempty (Val e)] {sig : RefSig} {κ : Kind} {sp : Space} {S : Shape} {e : EltTy}

/-- Whatever was written before, the buffer reads the payload of the last store, made through its whole rectangle. -/
theorem read_last (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

omit [∀ e, Nonempty (Val e)] in
/-- A coordinate of a block that lies inside the array is moved by the block's transfer. -/
theorem moved_of {G : Pipeline.Grid} (w : Pipeline.Window sig G) (hk : w.kind = .blocked) (i : G.Coords) (j : w.block.Idx)
    (h : ∀ a, w.indexMap i a * w.size a + (j a).val < w.shape.size a) : w.moved i j = true :=
  (w.moved_iff i j).mpr fun a => by
    have ho := w.hclip i a
    have h := h a
    have hj : (j a).val < w.size a := (j a).isLt
    rw [hk] at ho
    show (j a).val < (w.clip i a).extent (w.size a)
    revert ho
    cases w.clip i a with
    | none => exact fun _ => hj
    | some n =>
      intro ho
      have ho : 0 < n ∧ n < w.size a ∧ w.indexMap i a * w.size a + n = w.shape.size a := ho
      show (j a).val < n
      omega

end Cert.Whole
-- ==== Proof.Final.Point.lean ====
/- THE FINAL CALL'S POINTS: what one grid point leaves in the two output buffers, as plain terms of its blocks. -/
module

public import proofs.«01_k».proof.Proof.Gen.FinalIdeal.Value
public import proofs.«01_k».proof.Proof.Whole
public import Idealize.ShloMosaic.Lib.Pointwise

@[expose] public section

set_option maxRecDepth 16384

noncomputable section

namespace Cert.FinalIdeal.Hand

open Cert.FinalIdeal.Gen
open Idealize.ShloMosaic Idealize.ShloMosaic.TcCoe Idealize.SL.Sem

variable (c : Dev nD) (i : grid0.Coords)
  (arg1 : Memref sig .tc .vmem S256x8192 .f32) (harg1 : arg1.IsWhole)
  (arg2 : Memref sig .tc .vmem S256x64 .f32) (harg2 : arg2.IsWhole)
  (arg3 : Memref sig .tc .vmem S256x8192 .bf16) (harg3 : arg3.IsWhole)
  (arg4 : Memref sig .tc .vmem S1x8192 .f32) (harg4 : arg4.IsWhole)
  (arg5 : Memref sig .tc .vmem S256x1 .f32) (harg5 : arg5.IsWhole)
  (arg6 : Memref sig .tc .vmem S256x1 .f32) (harg6 : arg6.IsWhole)
  (arg7 : Memref sig .tc .vmem S64x8192 .bf16) (harg7 : arg7.IsWhole)
  (arg8 : Memref sig .tc .smem S1 .f32) (harg8 : arg8.IsWhole)
  (arg9 : Memref sig .tc .vmem S256x8192 .bf16) (harg9 : arg9.IsWhole)
  (arg10 : Memref sig .tc .vmem S64x8192 .f32) (harg10 : arg10.IsWhole)
  (x0 : Vec Ideal S256x8192 .f32)
  (x1 : Vec Ideal S256x64 .f32)
  (x2 : Vec Ideal S256x8192 .bf16)
  (x3 : Vec Ideal S1x8192 .f32)
  (x4 : Vec Ideal S256x1 .f32)
  (x5 : Vec Ideal S256x1 .f32)
  (x6 : Vec Ideal S64x8192 .bf16)
  (x7 : Vec Ideal S1 .f32)

theorem ld_256x8192 {e : EltTy} (x : Vec Ideal S256x8192 e) : View.ld x (Rect.unit ![0, 0] ![256, 8192] inb_S256x8192_S256x8192_0_0) = x :=
  View.ld_unit_zero (S := S256x8192) Cert.Whole.hz2 _ x

theorem ld_256x64 {e : EltTy} (x : Vec Ideal S256x64 e) : View.ld x (Rect.unit ![0, 0] ![256, 64] inb_S256x64_S256x64_0_0) = x :=
  View.ld_unit_zero (S := S256x64) Cert.Whole.hz2 _ x

theorem ld_1x8192 {e : EltTy} (x : Vec Ideal S1x8192 e) : View.ld x (Rect.unit ![0, 0] ![1, 8192] inb_S1x8192_S1x8192_0_0) = x :=
  View.ld_unit_zero (S := S1x8192) Cert.Whole.hz2 _ x

theorem ld_256x1 {e : EltTy} (x : Vec Ideal S256x1 e) : View.ld x (Rect.unit ![0, 0] ![256, 1] inb_S256x1_S256x1_0_0) = x :=
  View.ld_unit_zero (S := S256x1) Cert.Whole.hz2 _ x

theorem ld_64x8192 {e : EltTy} (x : Vec Ideal S64x8192 e) : View.ld x (Rect.unit ![0, 0] ![64, 8192] inb_S64x8192_S64x8192_0_0) = x :=
  View.ld_unit_zero (S := S64x8192) Cert.Whole.hz2 _ x

theorem hz1 : (![0] : Fin 1 → Nat) = fun _ => 0 := by decide

theorem r_A : kernelRun0_A.sl.r c arg8 harg8 x7 = x7 (ix1 0) := by
  unfold kernelRun0_A.sl.r
  rw [View.readAt_eq_ld, Memref.IsWhole.read_unread, View.ld_unit_zero (S := S1) hz1 _ x7]
  refine congrArg x7 (funext fun a => ?_)
  match a with
  | ⟨0, _⟩ => exact Subsingleton.elim (α := Fin 1) _ _

theorem r_1_A : kernelRun0_A.sl.r_1 c arg5 harg5 x4 = x4 := by
  unfold kernelRun0_A.sl.r_1
  simp only [View.readAt_eq_ld, Memref.IsWhole.read_unread, ld_256x8192, ld_256x64, ld_1x8192, ld_256x1, ld_64x8192]

theorem r_2_A : kernelRun0_A.sl.r_2 c arg4 harg4 x3 = x3 := by
  unfold kernelRun0_A.sl.r_2
  simp only [View.readAt_eq_ld, Memref.IsWhole.read_unread, ld_256x8192, ld_256x64, ld_1x8192, ld_256x1, ld_64x8192]

theorem r_3_A : kernelRun0_A.sl.r_3 c arg3 harg3 x2 = k0_pay3 x2 := by
  unfold kernelRun0_A.sl.r_3
  simp only [View.readAt_eq_ld, Memref.IsWhole.read_unread, ld_256x8192, ld_256x64, ld_1x8192, ld_256x1, ld_64x8192]

theorem r_4_A : kernelRun0_A.sl.r_4 c arg2 harg2 arg6 harg6 arg8 harg8 x1 x5 x7 = k0_pay4 (x7 (ix1 0)) x5 x1 := by
  unfold kernelRun0_A.sl.r_4
  rw [r_A]
  simp only [View.readAt_eq_ld, Memref.IsWhole.read_unread, ld_256x8192, ld_256x64, ld_1x8192, ld_256x1, ld_64x8192]

theorem r_5_A : kernelRun0_A.sl.r_5 c arg1 harg1 arg6 harg6 arg8 harg8 x0 x5 x7 = k0_pay6 (x7 (ix1 0)) x5 x0 := by
  unfold kernelRun0_A.sl.r_5
  rw [r_A]
  simp only [View.readAt_eq_ld, Memref.IsWhole.read_unread, ld_256x8192, ld_256x64, ld_1x8192, ld_256x1, ld_64x8192]

theorem r_6_A : kernelRun0_A.sl.r_6 c arg7 harg7 x6 = x6 := by
  unfold kernelRun0_A.sl.r_6
  simp only [View.readAt_eq_ld, Memref.IsWhole.read_unread, ld_256x8192, ld_256x64, ld_1x8192, ld_256x1, ld_64x8192]

theorem r_B : kernelRun0_B.sl.r c arg8 harg8 x7 = x7 (ix1 0) := by
  unfold kernelRun0_B.sl.r
  rw [View.readAt_eq_ld, Memref.IsWhole.read_unread, View.ld_unit_zero (S := S1) hz1 _ x7]
  refine congrArg x7 (funext fun a => ?_)
  match a with
  | ⟨0, _⟩ => exact Subsingleton.elim (α := Fin 1) _ _

theorem r_1_B : kernelRun0_B.sl.r_1 c arg5 harg5 x4 = x4 := by
  unfold kernelRun0_B.sl.r_1
  simp only [View.readAt_eq_ld, Memref.IsWhole.read_unread, ld_256x8192, ld_256x64, ld_1x8192, ld_256x1, ld_64x8192]

theorem r_2_B : kernelRun0_B.sl.r_2 c arg4 harg4 x3 = x3 := by
  unfold kernelRun0_B.sl.r_2
  simp only [View.readAt_eq_ld, Memref.IsWhole.read_unread, ld_256x8192, ld_256x64, ld_1x8192, ld_256x1, ld_64x8192]

theorem r_3_B : kernelRun0_B.sl.r_3 c arg3 harg3 x2 = k0_pay3 x2 := by
  unfold kernelRun0_B.sl.r_3
  simp only [View.readAt_eq_ld, Memref.IsWhole.read_unread, ld_256x8192, ld_256x64, ld_1x8192, ld_256x1, ld_64x8192]

theorem r_4_B : kernelRun0_B.sl.r_4 c arg2 harg2 arg6 harg6 arg8 harg8 x1 x5 x7 = k0_pay4 (x7 (ix1 0)) x5 x1 := by
  unfold kernelRun0_B.sl.r_4
  rw [r_B]
  simp only [View.readAt_eq_ld, Memref.IsWhole.read_unread, ld_256x8192, ld_256x64, ld_1x8192, ld_256x1, ld_64x8192]

theorem r_5_B : kernelRun0_B.sl.r_5 c arg1 harg1 arg6 harg6 arg8 harg8 x0 x5 x7 = k0_pay6 (x7 (ix1 0)) x5 x0 := by
  unfold kernelRun0_B.sl.r_5
  rw [r_B]
  simp only [View.readAt_eq_ld, Memref.IsWhole.read_unread, ld_256x8192, ld_256x64, ld_1x8192, ld_256x1, ld_64x8192]

theorem r_6_B : kernelRun0_B.sl.r_6 c arg7 harg7 x6 = x6 := by
  unfold kernelRun0_B.sl.r_6
  simp only [View.readAt_eq_ld, Memref.IsWhole.read_unread, ld_256x8192, ld_256x64, ld_1x8192, ld_256x1, ld_64x8192]

theorem out8_A (hc0 : cond0_0 i) : out0_A_8 c i arg1 harg1 arg2 harg2 arg3 harg3 arg4 harg4 arg5 harg5 arg6 harg6 arg7 harg7 arg8 harg8 arg9 harg9 arg10 harg10 hc0 x0 x1 x2 x3 x4 x5 x6 x7
    = k0_pay1 x4 x3 (k0_pay3 x2) (k0_pay4 (x7 (ix1 0)) x5 x1) (k0_pay6 (x7 (ix1 0)) x5 x0) x6 (constant S256x8192 .f32 0x00000000#32) := by
  unfold out0_A_8
  dsimp only [kernelRun0_A]
  refine (Cert.Whole.read_last _ _ Cert.Whole.hz2 _ _ _).trans ?_
  rw [r_1_A, r_2_A, r_3_A, r_4_A, r_5_A, r_6_A]
  rfl

theorem out9_A (hc0 : cond0_0 i) : out0_A_9 c i arg1 harg1 arg2 harg2 arg3 harg3 arg4 harg4 arg5 harg5 arg6 harg6 arg7 harg7 arg8 harg8 arg9 harg9 arg10 harg10 hc0 x0 x1 x2 x3 x4 x5 x6 x7
    = k0_pay5 (x7 (ix1 0)) x5 x4 x3 x2 x1 (k0_pay2 (F := Ideal)) := by
  unfold out0_A_9
  dsimp only [kernelRun0_A]
  refine (Cert.Whole.read_last _ _ Cert.Whole.hz2 _ _ _).trans ?_
  rw [r_A, show kernelRun0_A.sl.v22 (F := Ideal) c arg10 = k0_pay2 (F := Ideal) from ?_]
  · simp only [View.readAt_eq_ld, Memref.IsWhole.read_unread, ld_256x8192, ld_256x64, ld_1x8192, ld_256x1, ld_64x8192]
  · unfold kernelRun0_A.sl.v22 kernelRun0_A.sl.H9_1
    exact View.readCov_unit_zero _ Cert.Whole.hz2 _ _

theorem out8_B (hc0 : ¬ cond0_0 i) (xo9 : Vec Ideal S64x8192 .f32) : out0_B_8 c i arg1 harg1 arg2 harg2 arg3 harg3 arg4 harg4 arg5 harg5 arg6 harg6 arg7 harg7 arg8 harg8 arg9 harg9 arg10 harg10 hc0 x0 x1 x2 x3 x4 x5 x6 x7 xo9
    = k0_pay1 x4 x3 (k0_pay3 x2) (k0_pay4 (x7 (ix1 0)) x5 x1) (k0_pay6 (x7 (ix1 0)) x5 x0) x6 (constant S256x8192 .f32 0x00000000#32) := by
  unfold out0_B_8
  dsimp only [kernelRun0_B]
  refine (Cert.Whole.read_last _ _ Cert.Whole.hz2 _ _ _).trans ?_
  rw [r_1_B, r_2_B, r_3_B, r_4_B, r_5_B, r_6_B]
  rfl

theorem out9_B (hc0 : ¬ cond0_0 i) (xo9 : Vec Ideal S64x8192 .f32) : out0_B_9 c i arg1 harg1 arg2 harg2 arg3 harg3 arg4 harg4 arg5 harg5 arg6 harg6 arg7 harg7 arg8 harg8 arg9 harg9 arg10 harg10 hc0 x0 x1 x2 x3 x4 x5 x6 x7 xo9
    = k0_pay5 (x7 (ix1 0)) x5 x4 x3 x2 x1 xo9 := by
  unfold out0_B_9
  dsimp only [kernelRun0_B]
  refine (Cert.Whole.read_last _ _ Cert.Whole.hz2 _ _ _).trans ?_
  rw [r_B]
  simp only [View.readAt_eq_ld, Memref.IsWhole.read_unread, ld_256x8192, ld_256x64, ld_1x8192, ld_256x1, ld_64x8192]

end Cert.FinalIdeal.Hand

end
-- ==== Proof.Forward.Lanes.lean ====
/-
  A SOFTMAX OVER LANES, on the extended reals. The columns of a row are cut into groups of 128; lane `l` sees the columns
  `128 * n + l`. Per lane a running maximum, a sum of exponentials taken relative to it, and a sum of picked values are kept.
  These lemmas say how the three change when six groups are added, and that the lanes together give the whole row's
  maximum, sum of exponentials and picked value, whatever is infinite.
-/
module

public import Idealize.ShloMosaic.Lib.Pointwise

@[expose] public section

noncomputable section

namespace Cert.Lanes

open Idealize.ShloMosaic

theorem exp_bot : Ideal.exp ⊥ = 0 := rfl

/-- Exponentials relative to `m`, made relative to a larger `m'`. -/
theorem exp_rescale {x m m' : EReal} (h : x ≤ m) (h' : m ≤ m') :
    Ideal.exp (x - m) * Ideal.exp (m - m') = Ideal.exp (x - m') := by
  induction m with
  | bot =>
    obtain rfl := le_bot_iff.mp h
    simp [exp_bot]
  | top =>
    obtain rfl := top_le_iff.mp h'
    simp [exp_bot, EReal.sub_top]
  | coe m =>
    induction m' with
    | bot => exact absurd h' (by simp)
    | top => simp [exp_bot, EReal.sub_top]
    | coe m' =>
      induction x with
      | bot => simp [exp_bot, EReal.bot_sub]
      | top => exact absurd h (by simp)
      | coe x =>
        rw [← EReal.coe_sub, ← EReal.coe_sub, ← EReal.coe_sub]
        show ((Real.exp (x - m) : ℝ) : EReal) * ((Real.exp (m - m') : ℝ) : EReal) = ((Real.exp (x - m') : ℝ) : EReal)
        rw [← EReal.coe_mul, ← Real.exp_add]; congr 2; ring

theorem exp_nonneg (x : EReal) : 0 ≤ Ideal.exp x := by
  induction x with
  | bot => exact le_refl _
  | top => exact le_top
  | coe x => exact EReal.coe_nonneg.mpr (Real.exp_pos x).le

/-- Such a sum, made relative to a larger maximum. -/
theorem sum_rescale {ι : Type} (s : Finset ι) (f : ι → EReal) {m m' : EReal} (h : ∀ i ∈ s, f i ≤ m) (h' : m ≤ m') :
    (∑ i ∈ s, Ideal.exp (f i - m)) * Ideal.exp (m - m') = ∑ i ∈ s, Ideal.exp (f i - m') := by
  classical
  induction s using Finset.induction_on with
  | empty => simp
  | insert a s ha ih =>
    rw [Finset.sum_insert ha, Finset.sum_insert ha,
      EReal.right_distrib_of_nonneg (exp_nonneg _) (Finset.sum_nonneg fun _ _ => exp_nonneg _),
      ih fun i hi => h i (Finset.mem_insert_of_mem hi), exp_rescale (h a (Finset.mem_insert_self a s)) h']

section Lane

variable (f p : ℕ → EReal)

/-- The maximum over lane `l`'s columns of the first `n` groups, -/
def laneMax (n l : ℕ) : EReal := (Finset.range n).sup fun k => f (128 * k + l)
/-- the sum of their exponentials relative to it, -/
def laneSum (n l : ℕ) : EReal := ∑ k ∈ Finset.range n, Ideal.exp (f (128 * k + l) - laneMax f n l)
/-- and the sum of what is picked. -/
def lanePick (n l : ℕ) : EReal := ∑ k ∈ Finset.range n, p (128 * k + l)

theorem laneMax_zero (l : ℕ) : laneMax f 0 l = ⊥ := by simp [laneMax]
theorem laneSum_zero (l : ℕ) : laneSum f 0 l = 0 := by simp [laneSum]
theorem lanePick_zero (l : ℕ) : lanePick p 0 l = 0 := by simp [lanePick]

/-- Six more groups. -/
theorem laneMax_six (n l : ℕ) : laneMax f (n + 6) l
    = max (max (max (max (max (max (laneMax f n l) (f (128 * n + l))) (f (128 * (n + 1) + l))) (f (128 * (n + 2) + l)))
        (f (128 * (n + 3) + l))) (f (128 * (n + 4) + l))) (f (128 * (n + 5) + l)) := by
  unfold laneMax
  simp only [show n + 6 = n + 1 + 1 + 1 + 1 + 1 + 1 from rfl, Finset.range_add_one, Finset.sup_insert]
  ac_rfl

theorem lanePick_six (n l : ℕ) : lanePick p (n + 6) l
    = lanePick p n l + p (128 * n + l) + p (128 * (n + 1) + l) + p (128 * (n + 2) + l)
        + p (128 * (n + 3) + l) + p (128 * (n + 4) + l) + p (128 * (n + 5) + l) := by
  unfold lanePick
  simp only [show n + 6 = n + 1 + 1 + 1 + 1 + 1 + 1 from rfl, Finset.sum_range_succ]

theorem le_laneMax {n k l : ℕ} (h : k < n) : f (128 * k + l) ≤ laneMax f n l :=
  Finset.le_sup (f := fun k => f (128 * k + l)) (Finset.mem_range.mpr h)

theorem laneMax_mono {n n' : ℕ} (h : n ≤ n') (l : ℕ) : laneMax f n l ≤ laneMax f n' l :=
  Finset.sup_mono (Finset.range_mono h)

theorem laneSum_six (n l : ℕ) : laneSum f (n + 6) l
    = laneSum f n l * Ideal.exp (laneMax f n l - laneMax f (n + 6) l)
        + Ideal.exp (f (128 * n + l) - laneMax f (n + 6) l) + Ideal.exp (f (128 * (n + 1) + l) - laneMax f (n + 6) l)
        + Ideal.exp (f (128 * (n + 2) + l) - laneMax f (n + 6) l) + Ideal.exp (f (128 * (n + 3) + l) - laneMax f (n + 6) l)
        + Ideal.exp (f (128 * (n + 4) + l) - laneMax f (n + 6) l) + Ideal.exp (f (128 * (n + 5) + l) - laneMax f (n + 6) l) := by
  have e := sum_rescale (Finset.range n) (fun k => f (128 * k + l)) (m := laneMax f n l) (m' := laneMax f (n + 6) l)
    (fun i hi => le_laneMax f (Finset.mem_range.mp hi)) (laneMax_mono f (Nat.le_add_right n 6) l)
  have e' : laneSum f (n + 6) l = ∑ k ∈ Finset.range (n + 6), Ideal.exp (f (128 * k + l) - laneMax f (n + 6) l) := rfl
  rw [e', laneSum, e]
  generalize laneMax f (n + 6) l = M
  simp only [show n + 6 = n + 1 + 1 + 1 + 1 + 1 + 1 from rfl, Finset.sum_range_succ]

/-- The lanes' columns are all the columns, once each. -/
theorem sum_lanes (n : ℕ) (g : ℕ → EReal) :
    ∑ l ∈ Finset.range 128, ∑ k ∈ Finset.range n, g (128 * k + l) = ∑ c ∈ Finset.range (128 * n), g c := by
  rw [Finset.sum_comm]
  induction n with
  | zero => simp
  | succ n ih => rw [Finset.sum_range_succ, ih, Nat.mul_succ, Finset.sum_range_add]

theorem sup_lanes (n : ℕ) (g : ℕ → EReal) :
    ((Finset.range 128).sup fun l => (Finset.range n).sup fun k => g (128 * k + l)) = (Finset.range (128 * n)).sup g := by
  apply le_antisymm
  · refine Finset.sup_le fun l hl => Finset.sup_le fun k hk => Finset.le_sup (f := g) (Finset.mem_range.mpr ?_)
    have := Finset.mem_range.mp hl; have := Finset.mem_range.mp hk; omega
  · refine Finset.sup_le fun c hc => ?_
    have hc := Finset.mem_range.mp hc
    have e : g c = g (128 * (c / 128) + c % 128) := by rw [Nat.div_add_mod]
    rw [e]
    exact (Finset.le_sup (f := fun k => g (128 * k + c % 128)) (Finset.mem_range.mpr (by omega : c / 128 < n))).trans
      (Finset.le_sup (f := fun l => (Finset.range n).sup fun k => g (128 * k + l)) (Finset.mem_range.mpr (by omega : c % 128 < 128)))

/-- The maximum of the lanes' maxima is the maximum over all columns. -/
theorem max_lanes (n : ℕ) : ((Finset.range 128).sup fun l => laneMax f n l) = (Finset.range (128 * n)).sup f := sup_lanes n f

/-- The lanes' sums, each made relative to the maximum over all columns, add up to the sum over all columns. -/
theorem total_lanes (n : ℕ) :
    (∑ l ∈ Finset.range 128, laneSum f n l * Ideal.exp (laneMax f n l - (Finset.range (128 * n)).sup f))
      = ∑ c ∈ Finset.range (128 * n), Ideal.exp (f c - (Finset.range (128 * n)).sup f) := by
  rw [← sum_lanes n]
  refine Finset.sum_congr rfl fun l hl => ?_
  have hle : laneMax f n l ≤ (Finset.range (128 * n)).sup f := by
    rw [← max_lanes]; exact Finset.le_sup (f := fun l => laneMax f n l) hl
  exact sum_rescale (Finset.range n) (fun k => f (128 * k + l)) (fun i hi => le_laneMax f (Finset.mem_range.mp hi)) hle

theorem pick_lanes (n : ℕ) : (∑ l ∈ Finset.range 128, lanePick p n l) = ∑ c ∈ Finset.range (128 * n), p c := sum_lanes n p

end Lane

/-! Columns at which a row is −∞ count for nothing. -/

theorem exp_bot_sub (m : EReal) : Ideal.exp (⊥ - m) = 0 := by rw [EReal.bot_sub]; rfl

theorem sup_pad {f : ℕ → EReal} {n n' : ℕ} (h : n ≤ n') (hf : ∀ c, n ≤ c → f c = ⊥) :
    (Finset.range n').sup f = (Finset.range n).sup f := by
  refine le_antisymm (Finset.sup_le fun c hc => ?_) (Finset.sup_mono (Finset.range_mono h))
  by_cases hcn : c < n
  · exact Finset.le_sup (Finset.mem_range.mpr hcn)
  · rw [hf c (by omega)]; exact bot_le

theorem sum_pad {g : ℕ → EReal} {n n' : ℕ} (h : n ≤ n') (hg : ∀ c, n ≤ c → c < n' → g c = 0) :
    ∑ c ∈ Finset.range n', g c = ∑ c ∈ Finset.range n, g c :=
  (Finset.sum_subset (Finset.range_mono h) fun c hc hcn =>
    hg c (by simpa using hcn) (Finset.mem_range.mp hc)).symm

/-- A fold of `max` from −∞ is the supremum. -/
theorem fold_max_eq_sup {n : ℕ} (g : ℕ → EReal) :
    (Finset.univ : Finset (Fin n)).fold max ⊥ (fun k => g k.val) = (Finset.range n).sup g := by
  rw [show (Finset.univ : Finset (Fin n)).fold max ⊥ (fun k => g k.val) = Finset.univ.sup (fun k : Fin n => g k.val) from rfl]
  apply le_antisymm
  · exact Finset.sup_le fun k _ => Finset.le_sup (f := g) (Finset.mem_range.mpr k.isLt)
  · exact Finset.sup_le fun c hc =>
      Finset.le_sup (f := fun k : Fin n => g k.val) (Finset.mem_univ (⟨c, Finset.mem_range.mp hc⟩ : Fin n))

theorem sum_fin {n : ℕ} (g : ℕ → EReal) : (∑ k : Fin n, g k.val) = ∑ c ∈ Finset.range n, g c :=
  Fin.sum_univ_eq_sum_range g n

end Cert.Lanes

end
-- ==== Proof.Final.Same.lean ====
/- THE REFERENCE of the final call over the extended reals computes the two arrays. -/
module

public import proofs.«01_k».proof.Proof.Final.Terms
public import proofs.«01_k».proof.Proof.Forward.Lanes
public import proofs.«01_k».proof.Proof.Gen.FinalRefIdeal.Run
public import Idealize.ShloMosaic.Lib.Pointwise
public import Idealize.ShloMosaic.Lib.IdealHost
public import proofs.«01_k».proof.Defs
public import Idealize.ShloMosaic.Adequacy

@[expose] public section

set_option maxRecDepth 16384

noncomputable section

namespace Cert.FinalRefIdeal.Hand

open Cert.FinalRefIdeal.Gen Cert.Lanes
open Cert.FinalIdeal.Hand (Args T8 T9)
open Idealize.ShloMosaic Idealize.ShloMosaic.TcCoe Idealize.SL.Sem

variable (A : Args)

/-- The reference has no semaphore. -/
theorem no_cell (s : SemLoc Cert.FinalRefIdeal.sig) : False := by
  match s with
  | .reg s => exact absurd s.isLt (Nat.not_lt_zero _)
  | .dma s => exact absurd s.isLt (Nat.not_lt_zero _)

/-- The reference leaves its arguments, and every counter at zero. -/
theorem frame : Cert.quiescent_FinalRefIdeal := by
  unfold Cert.quiescent_FinalRefIdeal
  intro m ρ _
  refine (θ_run _ _ _).mono (fun r h => ⟨fun c => (h c).2.2, ?_⟩) (Cert.FinalRefIdeal.Value.run m ρ)
  funext g
  obtain ⟨t, s⟩ := g
  exact (no_cell s).elim

theorem ref8 : (truncf .bf16 (subf (mulf (broadcastInDim S4096x8192 ![0, 1] bcast_S4096x1_S4096x8192_0_1 A.rs) (mulf (broadcastInDim S4096x8192 ![0, 1] bcast_S1x8192_S4096x8192_0_1 A.g) (addf (mulf (mulf A.gh (broadcastInDim S4096x8192 ![0, 1] bcast_S1x1_S4096x8192_0_1 (broadcastInDim S1x1 ![1] bcast_S1_S1x1_1 A.ds))) (broadcastInDim S4096x8192 ![0, 1] bcast_S4096x1_S4096x8192_0_1 A.k)) (Host.dotGeneral dot_S4096x64_S64x8192_S4096x8192_1_0_0_1_n_n none (truncf .bf16 (mulf (mulf (mulf (broadcastInDim S4096x64 ![] bcast_S_S4096x64 (constant S_ .f32 0x40000000#32)) A.gl) (broadcastInDim S4096x64 ![0, 1] bcast_S1x1_S4096x64_0_1 (broadcastInDim S1x1 ![1] bcast_S1_S1x1_1 A.ds))) (broadcastInDim S4096x64 ![0, 1] bcast_S4096x1_S4096x64_0_1 A.k)) bitsLt_bf16_f32) A.a)))) (mulf (extf .f32 A.h bitsLt_bf16_f32) (broadcastInDim S4096x8192 ![0, 1] bcast_S4096x1_S4096x8192_0_1 (mulf (mulf (mulf A.rs A.rs) A.rs) (Host.divf (broadcastInDim S4096x1 ![0] bcast_S4096_S4096x1_0 (Host.reduceAdd (mulf (mulf (broadcastInDim S4096x8192 ![0, 1] bcast_S1x8192_S4096x8192_0_1 A.g) (addf (mulf (mulf A.gh (broadcastInDim S4096x8192 ![0, 1] bcast_S1x1_S4096x8192_0_1 (broadcastInDim S1x1 ![1] bcast_S1_S1x1_1 A.ds))) (broadcastInDim S4096x8192 ![0, 1] bcast_S4096x1_S4096x8192_0_1 A.k)) (Host.dotGeneral dot_S4096x64_S64x8192_S4096x8192_1_0_0_1_n_n none (truncf .bf16 (mulf (mulf (mulf (broadcastInDim S4096x64 ![] bcast_S_S4096x64 (constant S_ .f32 0x40000000#32)) A.gl) (broadcastInDim S4096x64 ![0, 1] bcast_S1x1_S4096x64_0_1 (broadcastInDim S1x1 ![1] bcast_S1_S1x1_1 A.ds))) (broadcastInDim S4096x64 ![0, 1] bcast_S4096x1_S4096x64_0_1 A.k)) bitsLt_bf16_f32) A.a))) (extf .f32 A.h bitsLt_bf16_f32)) (constant S_ .f32 0x00000000#32) reducesTo_S4096x8192_S4096_d1 h_S_)) (broadcastInDim S4096x1 ![] bcast_S_S4096x1 (constant S_ .f32 0x46000000#32))))))) bitsLt_bf16_f32 : FVec Ideal S4096x8192 .bf16) = (T8 A : FVec Ideal S4096x8192 .bf16) := by
  funext j
  idx_vars j
  show _ = A.dh j0 j1
  unfold Args.dh Args.gd Args.du
  pointwise []

theorem ref9 : (Host.dotGeneral dot_S4096x64_S4096x8192_S64x8192_0_0_1_1_n_n none (truncf .bf16 (mulf (mulf (mulf (broadcastInDim S4096x64 ![] bcast_S_S4096x64 (constant S_ .f32 0x40000000#32)) A.gl) (broadcastInDim S4096x64 ![0, 1] bcast_S1x1_S4096x64_0_1 (broadcastInDim S1x1 ![1] bcast_S1_S1x1_1 A.ds))) (broadcastInDim S4096x64 ![0, 1] bcast_S4096x1_S4096x64_0_1 A.k)) bitsLt_bf16_f32) (truncf .bf16 (mulf (mulf (extf .f32 A.h bitsLt_bf16_f32) (broadcastInDim S4096x8192 ![0, 1] bcast_S4096x1_S4096x8192_0_1 A.rs)) (broadcastInDim S4096x8192 ![0, 1] bcast_S1x8192_S4096x8192_0_1 A.g)) bitsLt_bf16_f32) : FVec Ideal S64x8192 .f32) = (T9 A : FVec Ideal S64x8192 .f32) := by
  funext j
  idx_vars j
  show _ = ∑ R ∈ Finset.range 4096, A.term j0 j1 R
  rw [← sum_fin]
  pointwise []
  refine Finset.sum_congr rfl fun R _ => ?_
  unfold Args.term
  rw [dif_pos R.isLt]
  rfl

end Cert.FinalRefIdeal.Hand

end
-- ==== Proof.Final.Claims.lean ====
/- THE FINAL CALL'S VALUE CLAIM: over the extended reals the call's arrays are its reference's. -/
module

public import proofs.«01_k».proof.Proof.Final.Terms
public import proofs.«01_k».proof.Proof.Final.Point
public import proofs.«01_k».proof.Proof.Final.Same
public import proofs.«01_k».proof.Defs
public import Idealize.ShloMosaic.Adequacy

@[expose] public section

set_option maxRecDepth 16384

noncomputable section

namespace Cert.FinalIdeal.Hand

open Cert.FinalIdeal.Gen Cert.Lanes
open Idealize.ShloMosaic Idealize.ShloMosaic.TcCoe Idealize.SL.Sem

variable (m : (ℓ : Loc nD τ sig) → Buf (Elt Ideal) ℓ)

/-- Where each window's block lies, at each grid point. -/
theorem idx_eq : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = 0 ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = 0 ∧ win0_6.index t (1 : Fin 2) = 0) ∧ win0_7.index t (0 : Fin 1) = 0
    ∧ (win0_8.index t (0 : Fin 2) = t.val ∧ win0_8.index t (1 : Fin 2) = 0) ∧ (win0_9.index t (0 : Fin 2) = 0 ∧ win0_9.index t (1 : Fin 2) = 0) :=
  (by decide +kernel : ∀ t : Fin grid0.N, _)

/-- The row of the array that is row `r` of the block at point `t`. -/
def gRow (t : Fin cfg0.N) (r : Fin 256) : Fin 4096 := ⟨256 * t.val + r.val, by have : t.val < 16 := t.isLt; omega⟩

/-- The call's arguments in memory. -/
def argsOf (c : Dev nD) : Args where
  gh := V m c main_arg0
  gl := V m c main_arg1
  h := V m c main_arg2
  g := V m c main_arg3
  rs := V m c main_arg4
  k := V m c main_arg5
  a := V m c main_arg6
  ds := V m c main_arg7

theorem blk0 (c : Dev nD) (t : Fin cfg0.N) (r : Fin 256) (q : Fin 8192) :
    (iblk m c 0 t : Vec Ideal S256x8192 .f32) (ix2 r q) = (argsOf m c).gh (ix2 (gRow t r) q) := by
  obtain ⟨e0, e1⟩ := (idx_eq t).1
  show V m c main_arg0 (((cfg0.win 0).blk t).view.emb (ix2 r q)) = V m c main_arg0 (ix2 (gRow t r) q)
  congr 1; funext a; apply Fin.ext
  match a with
  | ⟨0, _⟩ => show win0_0.index t (0 : Fin 2) * 256 + 1 * r.val = 256 * t.val + r.val; omega
  | ⟨1, _⟩ => show win0_0.index t (1 : Fin 2) * 8192 + 1 * q.val = q.val; omega

theorem blk1 (c : Dev nD) (t : Fin cfg0.N) (r : Fin 256) (q : Fin 64) :
    (iblk m c 1 t : Vec Ideal S256x64 .f32) (ix2 r q) = (argsOf m c).gl (ix2 (gRow t r) q) := by
  obtain ⟨e0, e1⟩ := (idx_eq t).2.1
  show V m c main_arg1 (((cfg0.win 1).blk t).view.emb (ix2 r q)) = V m c main_arg1 (ix2 (gRow t r) q)
  congr 1; funext a; apply Fin.ext
  match a with
  | ⟨0, _⟩ => show win0_1.index t (0 : Fin 2) * 256 + 1 * r.val = 256 * t.val + r.val; omega
  | ⟨1, _⟩ => show win0_1.index t (1 : Fin 2) * 64 + 1 * q.val = q.val; omega

theorem blk2 (c : Dev nD) (t : Fin cfg0.N) (r : Fin 256) (q : Fin 8192) :
    (iblk m c 2 t : Vec Ideal S256x8192 .bf16) (ix2 r q) = (argsOf m c).h (ix2 (gRow t r) q) := by
  obtain ⟨e0, e1⟩ := (idx_eq t).2.2.1
  show V m c main_arg2 (((cfg0.win 2).blk t).view.emb (ix2 r q)) = V m c main_arg2 (ix2 (gRow t r) q)
  congr 1; funext a; apply Fin.ext
  match a with
  | ⟨0, _⟩ => show win0_2.index t (0 : Fin 2) * 256 + 1 * r.val = 256 * t.val + r.val; omega
  | ⟨1, _⟩ => show win0_2.index t (1 : Fin 2) * 8192 + 1 * q.val = q.val; omega

theorem blk4 (c : Dev nD) (t : Fin cfg0.N) (r : Fin 256) (q : Fin 1) :
    (iblk m c 4 t : Vec Ideal S256x1 .f32) (ix2 r q) = (argsOf m c).rs (ix2 (gRow t r) q) := by
  obtain ⟨e0, e1⟩ := (idx_eq t).2.2.2.2.1
  show V m c main_arg4 (((cfg0.win 4).blk t).view.emb (ix2 r q)) = V m c main_arg4 (ix2 (gRow t r) q)
  congr 1; funext a; apply Fin.ext
  match a with
  | ⟨0, _⟩ => show win0_4.index t (0 : Fin 2) * 256 + 1 * r.val = 256 * t.val + r.val; omega
  | ⟨1, _⟩ => show win0_4.index t (1 : Fin 2) * 1 + 1 * q.val = q.val; omega

theorem blk5 (c : Dev nD) (t : Fin cfg0.N) (r : Fin 256) (q : Fin 1) :
    (iblk m c 5 t : Vec Ideal S256x1 .f32) (ix2 r q) = (argsOf m c).k (ix2 (gRow t r) q) := by
  obtain ⟨e0, e1⟩ := (idx_eq t).2.2.2.2.2.1
  show V m c main_arg5 (((cfg0.win 5).blk t).view.emb (ix2 r q)) = V m c main_arg5 (ix2 (gRow t r) q)
  congr 1; funext a; apply Fin.ext
  match a with
  | ⟨0, _⟩ => show win0_5.index t (0 : Fin 2) * 256 + 1 * r.val = 256 * t.val + r.val; omega
  | ⟨1, _⟩ => show win0_5.index t (1 : Fin 2) * 1 + 1 * q.val = q.val; omega

theorem blk3 (c : Dev nD) (t : Fin cfg0.N) : (iblk m c 3 t) = V m c main_arg3 := by
  obtain ⟨e0, e1⟩ := (idx_eq t).2.2.2.1
  funext j
  show V m c main_arg3 (((cfg0.win 3).blk t).view.emb j) = V m c main_arg3 j
  congr 1; funext a; apply Fin.ext
  match a with
  | ⟨0, _⟩ => show win0_3.index t (0 : Fin 2) * 1 + 1 * (j 0).val = (j 0).val; omega
  | ⟨1, _⟩ => show win0_3.index t (1 : Fin 2) * 8192 + 1 * (j 1).val = (j 1).val; omega

theorem blk6 (c : Dev nD) (t : Fin cfg0.N) : (iblk m c 6 t) = V m c main_arg6 := by
  obtain ⟨e0, e1⟩ := (idx_eq t).2.2.2.2.2.2.1
  funext j
  show V m c main_arg6 (((cfg0.win 6).blk t).view.emb j) = V m c main_arg6 j
  congr 1; funext a; apply Fin.ext
  match a with
  | ⟨0, _⟩ => show win0_6.index t (0 : Fin 2) * 64 + 1 * (j 0).val = (j 0).val; omega
  | ⟨1, _⟩ => show win0_6.index t (1 : Fin 2) * 8192 + 1 * (j 1).val = (j 1).val; omega

theorem blk7 (c : Dev nD) (t : Fin cfg0.N) : (iblk m c 7 t) = V m c main_arg7 := by
  have e0 := (idx_eq t).2.2.2.2.2.2.2.1
  funext j
  show V m c main_arg7 (((cfg0.win 7).blk t).view.emb j) = V m c main_arg7 j
  congr 1; funext a; apply Fin.ext
  match a with
  | ⟨0, _⟩ => show win0_7.index t (0 : Fin 1) * 1 + 1 * (j 0).val = (j 0).val; omega

/-! ### One point's terms -/

section
variable {A : Args} {G : Fin 256 → Fin 4096} {x0 : Vec Ideal S256x8192 .f32} {x1 : Vec Ideal S256x64 .f32} {x2 : Vec Ideal S256x8192 .bf16}
  {x4 x5 : Vec Ideal S256x1 .f32}
  (h0 : ∀ r q, x0 (ix2 r q) = A.gh (ix2 (G r) q)) (h1 : ∀ r q, x1 (ix2 r q) = A.gl (ix2 (G r) q))
  (h2 : ∀ r q, x2 (ix2 r q) = A.h (ix2 (G r) q)) (h4 : ∀ r q, x4 (ix2 r q) = A.rs (ix2 (G r) q))
  (h5 : ∀ r q, x5 (ix2 r q) = A.k (ix2 (G r) q))

include h1 h5 in
theorem du_apply (r : Fin 256) (q : Fin 64) : k0_pay4 (F := Ideal) (A.ds (ix1 0)) x5 x1 (ix2 r q) = A.du (G r) q := by
  pointwise [k0_pay4, h1, h5]
  rfl

include h0 h5 in
theorem gx_apply (r : Fin 256) (q : Fin 8192) :
    k0_pay6 (F := Ideal) (A.ds (ix1 0)) x5 x0 (ix2 r q) = A.gh (ix2 (G r) q) * A.ds (ix1 0) * A.k (ix2 (G r) 0) := by
  pointwise [k0_pay6, h0, h5]

include h2 in
theorem h_apply (r : Fin 256) (q : Fin 8192) : k0_pay3 (F := Ideal) x2 (ix2 r q) = A.h (ix2 (G r) q) := by
  pointwise [k0_pay3, h2]

include h0 h1 h2 h4 h5 in
theorem dh_apply (r : Fin 256) (q : Fin 8192) :
    k0_pay1 (F := Ideal) x4 A.g (k0_pay3 x2) (k0_pay4 (A.ds (ix1 0)) x5 x1) (k0_pay6 (A.ds (ix1 0)) x5 x0) A.a
      (constant S256x8192 .f32 0x00000000#32) (ix2 r q) = A.dh (G r) q := by
  have e1 := du_apply h1 h5
  have e2 := gx_apply h0 h5
  have e3 := h_apply h2
  generalize k0_pay4 (F := Ideal) (A.ds (ix1 0)) x5 x1 = U at e1 ⊢
  generalize k0_pay6 (F := Ideal) (A.ds (ix1 0)) x5 x0 = W at e2 ⊢
  generalize k0_pay3 (F := Ideal) x2 = H at e3 ⊢
  pointwise [k0_pay1, e1, e2, e3, h4]
  rfl

include h1 h2 h4 h5 in
theorem sum_apply (z : Vec Ideal S64x8192 .f32) (r : Fin 64) (q : Fin 8192) :
    k0_pay5 (F := Ideal) (A.ds (ix1 0)) x5 x4 A.g x2 x1 z (ix2 r q) = z (ix2 r q) + ∑ x : Fin 256, A.du (G x) r * A.xn (G x) q := by
  have e1 := du_apply h1 h5
  have e3 := h_apply h2
  pointwise [k0_pay5, e1, e3, h4]
  rfl
end

/-! ### The buffers after a point -/

theorem sum_step (A : Args) (n : ℕ) (hn : n < 16) (r : Fin 64) (q : Fin 8192) (G : Fin 256 → Fin 4096) (hG : ∀ x, (G x).val = 256 * n + x.val) :
    (∑ R ∈ Finset.range (256 * n), A.term r q R) + ∑ x : Fin 256, A.du (G x) r * A.xn (G x) q
      = ∑ R ∈ Finset.range (256 * (n + 1)), A.term r q R := by
  rw [Nat.mul_succ, Finset.sum_range_add, ← sum_fin (n := 256) (fun x => A.term r q (256 * n + x))]
  refine congrArg _ (Finset.sum_congr rfl fun x _ => ?_)
  have e : G x = ⟨256 * n + x.val, by omega⟩ := Fin.ext (hG x)
  unfold Args.term
  rw [dif_pos (show 256 * n + x.val < 4096 by omega), e]

theorem zero_apply (r : Fin 64) (q : Fin 8192) : k0_pay2 (F := Ideal) (ix2 r q) = 0 := by
  pointwise [k0_pay2]

/-- What the two output buffers hold after point `t`. -/
structure After (A : Args) (t : Fin cfg0.N) (X : Vec Ideal S256x8192 .bf16 × Vec Ideal S64x8192 .f32) : Prop where
  dh : ∀ r q, X.1 (ix2 r q) = A.dh (gRow t r) q
  dla : ∀ r q, X.2 (ix2 r q) = ∑ R ∈ Finset.range (256 * (t.val + 1)), A.term r q R

theorem after (c : Dev nD) : ∀ (n : ℕ) (hn : n < cfg0.N), After (argsOf m c) ⟨n, hn⟩ (outsAt0 m c n hn) := by
  intro n
  induction n with
  | zero =>
    intro hn
    rw [outsAt0_A m c ⟨0, hn⟩ (Nat.zero_mod _), out8_A, out9_A, blk3, blk6, blk7]
    refine ⟨fun r q => ?_, fun r q => ?_⟩
    · exact dh_apply (A := argsOf m c) (blk0 m c _) (blk1 m c _) (blk2 m c _) (blk4 m c _) (blk5 m c _) r q
    · refine (sum_apply (A := argsOf m c) (blk1 m c _) (blk2 m c _) (blk4 m c _) (blk5 m c _) _ r q).trans ?_
      rw [zero_apply]
      exact sum_step (argsOf m c) 0 (by decide) r q (gRow ⟨0, hn⟩) fun x => rfl
  | succ n ih =>
    intro hn
    have h16 : n + 1 < 16 := hn
    have hp := ih (Nat.lt_of_succ_lt hn)
    rw [outsAt0_B m c ⟨n + 1, hn⟩ (by show ¬ (n + 1) % 16 = 0; omega), out8_B, out9_B, blk3, blk6, blk7]
    refine ⟨fun r q => ?_, fun r q => ?_⟩
    · exact dh_apply (A := argsOf m c) (blk0 m c _) (blk1 m c _) (blk2 m c _) (blk4 m c _) (blk5 m c _) r q
    · refine (sum_apply (A := argsOf m c) (blk1 m c _) (blk2 m c _) (blk4 m c _) (blk5 m c _) _ r q).trans ?_
      refine (congrArg (· + _) (hp.dla r q)).trans ?_
      exact sum_step (argsOf m c) (n + 1) h16 r q (gRow ⟨n + 1, hn⟩) fun x => rfl

/-! ### The arrays -/

theorem emb8_eq (t : Fin cfg0.N) (j0 : Fin 256) (j1 : Fin 8192) :
    (((cfg0.win 8).blk t).view.emb (ix2 j0 j1 : S256x8192.Idx) : S4096x8192.Idx) = ix2 (gRow t j0) j1 := by
  obtain ⟨e0, e1⟩ := (idx_eq t).2.2.2.2.2.2.2.2.1
  funext a; apply Fin.ext
  match a with
  | ⟨0, _⟩ => show win0_8.index t (0 : Fin 2) * 256 + 1 * j0.val = 256 * t.val + j0.val; omega
  | ⟨1, _⟩ => show win0_8.index t (1 : Fin 2) * 8192 + 1 * j1.val = j1.val; omega

theorem at8 (t : Fin cfg0.N) (X : Vec Ideal S256x8192 .bf16) (Y : Vec Ideal S4096x8192 .bf16) (h : ∀ j0 j1, X (ix2 j0 j1) = Y (ix2 (gRow t j0) j1)) :
    (cfg0.win 8).cut (grid0.coords t) X = ((cfg0.win 8).blk t).view.read (Elt Ideal) Y := by
  funext j
  change S256x8192.Idx at j
  show X j = Y (((cfg0.win 8).blk t).view.emb j)
  idx_vars j
  rw [emb8_eq]
  exact h j0 j1

theorem covered8 (i : S4096x8192.Idx) :
    ∃ t : Fin cfg0.N, (cfg0.win 8).flush t = true ∧ i ∈ ((cfg0.win 8).blk t).view.set := by
  idx_vars i
  have h0 : i0.val < 4096 := i0.isLt
  let t : Fin cfg0.N := ⟨i0.val / 256, by show _ < 16; omega⟩
  refine ⟨t, flush0_8 t, ?_⟩
  have h := ((cfg0.win 8).blk t).view.emb_mem_set (ix2 ⟨i0.val % 256, by omega⟩ i1 : S256x8192.Idx)
  rw [emb8_eq, show gRow t ⟨i0.val % 256, by omega⟩ = i0 from Fin.ext (by show 256 * (i0.val / 256) + i0.val % 256 = i0.val; omega)] at h
  exact h

theorem final8 (c : Dev nD) : (dats m 0 c).arrAt 8 cfg0.N = T8 (argsOf m c) :=
  (dats m 0 c).arrAt_eq_of_cover 8 (T8 (argsOf m c)) (fun t _ => by
    rw [Value.flushed8]
    exact at8 t _ _ fun j0 j1 => (after m c t.val t.isLt).dh j0 j1) covered8

theorem emb9_eq (t : Fin cfg0.N) (j : S64x8192.Idx) : (((cfg0.win 9).blk t).view.emb j : S64x8192.Idx) = j := by
  obtain ⟨e0, e1⟩ := (idx_eq t).2.2.2.2.2.2.2.2.2
  funext a; apply Fin.ext
  match a with
  | ⟨0, _⟩ => show win0_9.index t (0 : Fin 2) * 64 + 1 * (j 0).val = (j 0).val; omega
  | ⟨1, _⟩ => show win0_9.index t (1 : Fin 2) * 8192 + 1 * (j 1).val = (j 1).val; omega

theorem at9 (t : Fin cfg0.N) (X Y : Vec Ideal S64x8192 .f32) (h : ∀ j0 j1, X (ix2 j0 j1) = Y (ix2 j0 j1)) :
    (cfg0.win 9).cut (grid0.coords t) X = ((cfg0.win 9).blk t).view.read (Elt Ideal) Y := by
  funext j
  change S64x8192.Idx at j
  show X j = Y (((cfg0.win 9).blk t).view.emb j)
  rw [emb9_eq]
  idx_vars j
  exact h j0 j1

/-- The second buffer is written back at the last point. -/
theorem flush9 : ∀ t : Fin cfg0.N, (cfg0.win 9).flush t = true ↔ t.val = 15 :=
  (by decide +kernel : ∀ t : Fin grid0.N, _)

theorem covered9 (i : S64x8192.Idx) :
    ∃ t : Fin cfg0.N, (cfg0.win 9).flush t = true ∧ i ∈ ((cfg0.win 9).blk t).view.set := by
  refine ⟨⟨15, by decide⟩, (flush9 _).mpr rfl, ?_⟩
  have h := ((cfg0.win 9).blk ⟨15, by decide⟩).view.emb_mem_set i
  rw [emb9_eq] at h
  exact h

theorem final9 (c : Dev nD) : (dats m 0 c).arrAt 9 cfg0.N = T9 (argsOf m c) :=
  (dats m 0 c).arrAt_eq_of_cover 9 (T9 (argsOf m c)) (fun t hf => by
    rw [Value.flushed9]
    refine at9 t _ _ fun j0 j1 => ((after m c t.val t.isLt).dla j0 j1).trans ?_
    show (∑ R ∈ Finset.range (256 * (t.val + 1)), _) = _
    rw [(flush9 t).mp hf]
    rfl) covered9

theorem algebraic : Cert.algebraic_FinalIdeal_FinalRefIdeal := fun m ρ m' ρ' _ hag => by
  refine ⟨fun c => T8 (argsOf m c), fun c => T9 (argsOf m c), ?_, ?_⟩
  · refine (θ_run _ _ _).mono (fun r h c => ?_) (Cert.FinalIdeal.Value.run_blocks m ρ)
    obtain ⟨h8, h9, hk⟩ := h c
    exact ⟨h8.trans (final8 m c), h9.trans (final9 m c), hk⟩
  · refine (θ_run _ _ _).mono (fun r h c => ?_) (Cert.FinalRefIdeal.Value.run m' ρ')
    obtain ⟨h8, h9, hk⟩ := h c
    obtain ⟨e0, e1, e2, e3, e4, e5, e6, e7⟩ := hag c
    rw [e0, e1, e2, e3, e4, e5, e6, e7] at h8
    rw [e1, e2, e3, e4, e5, e7] at h9
    refine ⟨h8.trans ?_, h9.trans ?_, hk⟩
    · have e := Cert.FinalRefIdeal.Hand.ref8 (argsOf m c)
      simp only [argsOf, V_main_arg0, V_main_arg1, V_main_arg2, V_main_arg3, V_main_arg4, V_main_arg5, V_main_arg6, V_main_arg7] at e ⊢
      exact e
    · have e := Cert.FinalRefIdeal.Hand.ref9 (argsOf m c)
      simp only [argsOf, V_main_arg0, V_main_arg1, V_main_arg2, V_main_arg3, V_main_arg4, V_main_arg5, V_main_arg6, V_main_arg7] at e ⊢
      exact e

end Cert.FinalIdeal.Hand

end
-- ==== Proof.Pairs.Terms.lean ====
/- THE PAIRS CALL'S ARRAYS, entry by entry, over the extended reals: each segment's masked sum of log ratios, each pair's
loss, and each token's weight in the loss's gradient. -/
module

public import proofs.«01_k».proof.PairsIdeal
public import Idealize.ShloMosaic.Lib.Pointwise

@[expose] public section

set_option maxRecDepth 16384

noncomputable section

namespace Cert.PairsIdeal.Hand

open Idealize.ShloMosaic Idealize.ShloMosaic.TcCoe

/-- The call's arguments. -/
structure Args where
  /-- the policy's log probabilities -/
  lp : FVec Ideal S4096x1 .f32
  /-- the reference policy's log probabilities -/
  rp : FVec Ideal S4096x1 .f32
  /-- the loss mask -/
  mask : FVec Ideal S4096x1 .f32
  /-- where each segment begins -/
  lo : IVec S1x32 32
  /-- where each segment ends -/
  hi : IVec S1x32 32
  /-- the chosen and the rejected segment of each pair -/
  pair : IVec S16x2 32

namespace Args
variable (A : Args)

/-- Whether a token lies in a segment. -/
def member (t : Fin 4096) (s : Fin 32) : BitVec 1 :=
  IntOp.andi (IntOp.cmpi .sge (BitVec.ofNat 32 t.val) (A.lo (ix2 0 s))) (IntOp.cmpi .slt (BitVec.ofNat 32 t.val) (A.hi (ix2 0 s)))

/-- A segment's masked sum of log ratios. -/
def delta (s : Fin 32) : EReal :=
  ∑ t : Fin 4096, Scalar.select (A.member t s) (A.mask (ix2 t 0) * (A.lp (ix2 t 0) - A.rp (ix2 t 0))) 0

/-- What the pair's index `k` holds, as a choice among the segments. -/
def hot (i : Fin 16) (k : Fin 2) (s : Fin 32) : BitVec 1 := IntOp.cmpi .eq (BitVec.ofNat 32 s.val) (A.pair (ix2 i k))

/-- The chosen segment's sum, or the rejected one's. -/
def pick (i : Fin 16) (k : Fin 2) : EReal := ∑ s : Fin 32, Scalar.select (A.hot i k s) (A.delta s) 0

/-- A pair's margin. -/
def z (i : Fin 16) : EReal := Ideal.ofBits .f32 0x3DCCCCCD#32 * (A.pick i 0 - A.pick i 1)

/-- A pair's loss. -/
def loss (i : Fin 16) : EReal := max (-A.z i) 0 + Ideal.log1p (Ideal.exp (-max (A.z i) (-A.z i)))

/-- A pair's weight. -/
def coef (i : Fin 16) : EReal :=
  Ideal.div (Ideal.ofBits .f32 0x3DCCCCCD#32 * Ideal.logistic (-A.z i)) (Ideal.ofBits .f32 0x41800000#32)

/-- A segment's weight. -/
def weight (s : Fin 32) : EReal :=
  ∑ i : Fin 16, (Scalar.select (A.hot i 0 s) (A.coef i) 0 - Scalar.select (A.hot i 1 s) (A.coef i) 0)

/-- A token's weight. -/
def k (t : Fin 4096) : EReal := A.mask (ix2 t 0) * ∑ s : Fin 32, Scalar.select (A.member t s) (A.weight s) 0

end Args
end Cert.PairsIdeal.Hand

end
-- ==== Proof.Pairs.Point.lean ====
/- THE PAIRS CALL over the extended reals leaves the four arrays. -/
module

public import proofs.«01_k».proof.Proof.Pairs.Terms
public import proofs.«01_k».proof.Proof.Gen.PairsIdeal.Value
public import Idealize.ShloMosaic.Lib.IdealHost

@[expose] public section

set_option maxRecDepth 16384

noncomputable section

namespace Cert.PairsIdeal.Hand

open Cert.PairsIdeal.Gen
open Idealize.ShloMosaic Idealize.ShloMosaic.TcCoe

variable (A : Args)

theorem member_apply (t : Fin 4096) (s : Fin 32) : k0_pay2 (F := Ideal) A.lo A.hi (ix2 t s) = A.member t s := by
  unfold Args.member
  pointwise [k0_pay2]

theorem delta_apply (s : Fin 32) : k0_pay3 (F := Ideal) A.lp A.rp A.mask A.lo A.hi (ix2 0 s) = A.delta s := by
  have e := member_apply A
  generalize k0_pay2 (F := Ideal) A.lo A.hi = M at e
  unfold Args.delta
  pointwise [k0_pay3, k0_pay1, member_apply A]

theorem ld_4096x1 (x : Vec Ideal S4096x1 .f32) : View.ld x r0_0 = x := View.ld_unit_zero (S := S4096x1) Value.hz0 _ x

theorem ld_1x32 (x : Vec Ideal S1x32 .i32) : View.ld x r0_1 = x := View.ld_unit_zero (S := S1x32) Value.hz3 _ x

theorem col0 (i : Fin 16) : View.ld (Val := Elt Ideal) (e' := .i32) A.pair r0_2 (ix2 i 0 : S16x1.Idx) = A.pair (ix2 i 0) := by
  show A.pair (r0_2.idx (ix2 i 0 : S16x1.Idx)) = _
  congr 1; funext a; apply Fin.ext
  match a with
  | ⟨0, _⟩ => show 0 + 1 * i.val = i.val; omega
  | ⟨1, _⟩ => rfl

theorem col1 (i : Fin 16) : View.ld (Val := Elt Ideal) (e' := .i32) A.pair r0_3 (ix2 i 0 : S16x1.Idx) = A.pair (ix2 i 1) := by
  show A.pair (r0_3.idx (ix2 i 0 : S16x1.Idx)) = _
  congr 1; funext a; apply Fin.ext
  match a with
  | ⟨0, _⟩ => show 0 + 1 * i.val = i.val; omega
  | ⟨1, _⟩ => rfl

theorem hot0 (i : Fin 16) (s : Fin 32) : k0_pay4 (F := Ideal) (View.ld (Val := Elt Ideal) (e' := .i32) A.pair r0_2) (ix2 i s) = A.hot i 0 s := by
  have e := col0 A
  generalize View.ld (Val := Elt Ideal) (e' := .i32) A.pair r0_2 = P at e ⊢
  unfold Args.hot
  pointwise [k0_pay4, e]

theorem hot1 (i : Fin 16) (s : Fin 32) : k0_pay5 (F := Ideal) (View.ld (Val := Elt Ideal) (e' := .i32) A.pair r0_3) (ix2 i s) = A.hot i 1 s := by
  have e := col1 A
  generalize View.ld (Val := Elt Ideal) (e' := .i32) A.pair r0_3 = P at e ⊢
  unfold Args.hot
  pointwise [k0_pay5, e]

section
variable {V0 V1 : IVec S16x32 1} {D : FVec Ideal S1x32 .f32}
  (h0 : ∀ i s, V0 (ix2 i s) = A.hot i 0 s) (h1 : ∀ i s, V1 (ix2 i s) = A.hot i 1 s)

theorem pick0 (i : Fin 16) : k0_pay6 (F := Ideal) A.lp A.rp A.mask A.lo A.hi (View.ld (Val := Elt Ideal) (e' := .i32) A.pair r0_2) (ix2 i 0) = A.pick i 0 := by
  unfold Args.pick
  pointwise [k0_pay6, delta_apply A, hot0 A]

theorem delta7 (s : Fin 32) : k0_pay7 (F := Ideal) A.lp A.rp A.mask A.lo A.hi (ix2 0 s) = A.delta s := by
  pointwise [k0_pay7, delta_apply A]

variable {W : FVec Ideal S16x1 .f32} (hW : ∀ i, W (ix2 i 0) = A.pick i 0) (hD : ∀ s, D (ix2 0 s) = A.delta s)

include h1 hW hD in
theorem z_apply (i : Fin 16) : k0_pay8 (F := Ideal) V1 W (Scalar.ofBits .f32 0x00000000#32) D (ix2 i 0) = A.z i := by
  unfold Args.z Args.pick
  pointwise [k0_pay8, h1, hW, hD]
  rfl

include h1 hW hD in
theorem loss_apply (i : Fin 16) : k0_pay9 (F := Ideal) V1 W (Scalar.ofBits .f32 0x00000000#32) D (ix2 i 0) = A.loss i := by
  have e := z_apply A h1 hW hD
  unfold Args.loss k0_pay9
  generalize k0_pay8 (F := Ideal) V1 W (Scalar.ofBits .f32 0x00000000#32) D = Z at e ⊢
  pointwise [e]
  rw [zero_sub, zero_sub]
  rfl

include h0 h1 hW hD in
theorem k_apply {M : IVec S4096x32 1} (hM : ∀ t s, M (ix2 t s) = A.member t s) (t : Fin 4096) :
    k0_pay10 (F := Ideal) A.mask M V0 V1 W (Scalar.ofBits .f32 0x00000000#32) D (ix2 t 0) = A.k t := by
  have e := z_apply A h1 hW hD
  unfold Args.k Args.weight Args.coef k0_pay10
  generalize k0_pay8 (F := Ideal) V1 W (Scalar.ofBits .f32 0x00000000#32) D = Z at e ⊢
  pointwise [e, hM, h0, h1]
  simp only [zero_sub]

end

/-! ### The arrays -/

def T6 : FVec Ideal S16x1 .f32 := fun j => A.loss (j 0)
def T7 : FVec Ideal S1x32 .f32 := fun j => A.delta (j 1)
def T8 : FVec Ideal S4096x1 .f32 := fun j => A.lp j - A.rp j
def T9 : FVec Ideal S4096x1 .f32 := fun j => A.k (j 0)

theorem out6 : Value.G6 (F := Ideal) A.lp A.rp A.mask A.lo A.hi A.pair = T6 A := by
  funext j
  idx_vars j
  obtain rfl : j1 = 0 := Subsingleton.elim _ _
  unfold Value.G6
  refine loss_apply A (fun i s => ?_) (fun i => ?_) (fun s => ?_) j0
  · unfold k0_pay11; exact hot1 A i s
  · unfold k0_pay12; rw [ld_4096x1, ld_4096x1, ld_4096x1, ld_1x32, ld_1x32]; exact pick0 A i
  · unfold k0_pay13; rw [ld_4096x1, ld_4096x1, ld_4096x1, ld_1x32, ld_1x32]; exact delta7 A s

theorem out7 : Value.G7 (F := Ideal) A.lp A.rp A.mask A.lo A.hi A.pair = T7 A := by
  refine (Value.out7_eq _ _ _ _ _ _).symm.trans ?_
  unfold out0_7
  rw [View.canon_unit_zero Value.hz7, ld_4096x1, ld_4096x1, ld_4096x1, ld_1x32, ld_1x32]
  funext j
  idx_vars j
  obtain rfl : j0 = 0 := Subsingleton.elim _ _
  exact delta_apply A j1

theorem out8 : Value.G8 (F := Ideal) A.lp A.rp A.mask A.lo A.hi A.pair = T8 A := by
  rfl

theorem out9 : Value.G9 (F := Ideal) A.lp A.rp A.mask A.lo A.hi A.pair = T9 A := by
  funext j
  idx_vars j
  obtain rfl : j1 = 0 := Subsingleton.elim _ _
  unfold Value.G9
  refine k_apply A (fun i s => hot0 A i s) (fun i s => ?_) (fun i => ?_) (fun s => ?_) (fun t s => member_apply A t s) j0
  · unfold k0_pay11; exact hot1 A i s
  · unfold k0_pay12; rw [ld_4096x1, ld_4096x1, ld_4096x1, ld_1x32, ld_1x32]; exact pick0 A i
  · unfold k0_pay13; rw [ld_4096x1, ld_4096x1, ld_4096x1, ld_1x32, ld_1x32]; exact delta7 A s

end Cert.PairsIdeal.Hand

end
-- ==== Proof.Pairs.Same.lean ====
/- THE REFERENCE of the pairs call over the extended reals computes the four arrays, when the pairs' indices are segments and
no two of them are the same. -/
module

public import proofs.«01_k».proof.Proof.Pairs.Point
public import proofs.«01_k».proof.Proof.Gen.PairsRefIdeal.Run
public import proofs.«01_k».proof.Proof.Gen.Pre_segments_distinct
public import Idealize.ShloMosaic.Lib.ValueIdxCore
public import Idealize.ShloMosaic.Lib.Routing.OpsSet
public import Idealize.ShloMosaic.Lib.Routing.OpsPair
public import Idealize.ShloMosaic.Lib.ReduceAll
public import Idealize.ShloMosaic.Lib.Pointwise
public import Idealize.ShloMosaic.Lib.IdealHost
public import proofs.«01_k».proof.Defs
public import Idealize.ShloMosaic.Adequacy

@[expose] public section

set_option maxRecDepth 16384

noncomputable section

namespace Cert.PairsRefIdeal.Hand

open Cert.PairsRefIdeal.Gen
open Cert.PairsIdeal.Hand (Args T6 T7 T8 T9)
open Idealize.ShloMosaic Idealize.ShloMosaic.TcCoe Idealize.SL.Sem

/-- The reference has no semaphore. -/
theorem no_cell (s : SemLoc Cert.PairsRefIdeal.sig) : False := by
  match s with
  | .reg s => exact absurd s.isLt (Nat.not_lt_zero _)
  | .dma s => exact absurd s.isLt (Nat.not_lt_zero _)

/-- The reference leaves its arguments, and every counter at zero. -/
theorem frame : Cert.quiescent_PairsRefIdeal := by
  unfold Cert.quiescent_PairsRefIdeal
  intro m ρ _
  refine (θ_run _ _ _).mono (fun r h => ⟨fun c => (h c).2.2.2.2, ?_⟩) (Cert.PairsRefIdeal.Value.run m ρ)
  funext g
  obtain ⟨t, s⟩ := g
  exact (no_cell s).elim

variable (A : Args)

/-! ### The reference's terms -/

def memF : FVec Ideal S4096x32 .f32 :=
  uitofp .f32 (andi (cmpi .sge (iotaInDim S4096x32 32 0) (broadcastInDim S4096x32 ![0, 1] bcast_S1x32_S4096x32_0_1 A.lo)) (cmpi .slt (iotaInDim S4096x32 32 0) (broadcastInDim S4096x32 ![0, 1] bcast_S1x32_S4096x32_0_1 A.hi)))

def sums (M : FVec Ideal S4096x32 .f32) : FVec Ideal S32 .f32 :=
  Host.dotGeneral dot_S4096x32_S4096_S32_0_0_1_n_n_n none M (shapeCast _ (mulf A.mask (subf A.lp A.rp)) shapeCasts_S4096x1_S4096)

def place : IVec S16x2x1 32 :=
  broadcastInDim S16x2x1 ![0, 1] bcast_S16x2_S16x2x1_0_1 (select (cmpi .slt A.pair (broadcastInDim S16x2 ![] bcast_S_S16x2 (constantI S_ 32 0#32))) (addi A.pair (broadcastInDim S16x2 ![] bcast_S_S16x2 (constantI S_ 32 32#32))) A.pair)

def margin (G : FVec Ideal S16x2 .f32) : FVec Ideal S16 .f32 :=
  mulf (broadcastInDim S16 ![] bcast_S_S16 (constant S_ .f32 0x3DCCCCCD#32)) (subf (shapeCast _ (extractStridedSlice S16x1 ![0, 0] G slices_S16x2_S16x1_0_0) shapeCasts_S16x1_S16) (shapeCast _ (extractStridedSlice S16x1 ![0, 1] G slices_S16x2_S16x1_0_1) shapeCasts_S16x1_S16))

def losses (Z : FVec Ideal S16 .f32) : FVec Ideal S16x1 .f32 :=
  broadcastInDim S16x1 ![0] bcast_S16_S16x1_0 (addf (maximumf (Host.negf Z) (broadcastInDim S16 ![] bcast_S_S16 (constant S_ .f32 0x00000000#32))) (Host.log1p (Host.exp (Host.negf (Host.absf Z)))))

def coefs (Z : FVec Ideal S16 .f32) : FVec Ideal S16 .f32 :=
  Host.divf (mulf (broadcastInDim S16 ![] bcast_S_S16 (constant S_ .f32 0x3DCCCCCD#32)) (Host.divf (broadcastInDim S16 ![] bcast_S_S16 (constant S_ .f32 0x3F800000#32)) (addf (broadcastInDim S16 ![] bcast_S_S16 (constant S_ .f32 0x3F800000#32)) (Host.exp (Host.negf (Host.negf Z)))))) (broadcastInDim S16 ![] bcast_S_S16 (constant S_ .f32 0x41800000#32))

def both (C : FVec Ideal S16 .f32) : FVec Ideal S16x2 .f32 :=
  concatenate S16x2 1 [⟨S16x1, (broadcastInDim S16x1 ![0] bcast_S16_S16x1_0 C)⟩, ⟨S16x1, (broadcastInDim S16x1 ![0] bcast_S16_S16x1_0 (Host.negf C))⟩] concatenates_S16x1_S16x1_S16x2_d1

def scattered (I : IVec S16x2x1 32) (U : FVec Ideal S16x2 .f32) : FVec Ideal S32 .f32 :=
  Host.scatter scatter_S32_S16x2x1_S16x2_n_0_0_2 (fun _ b => b) (broadcastInDim S32 ![] bcast_S_S32 (constant S_ .f32 0x00000000#32)) I U

def tokens (M : FVec Ideal S4096x32 .f32) (W : FVec Ideal S32 .f32) : FVec Ideal S4096x1 .f32 :=
  mulf A.mask (broadcastInDim S4096x1 ![0] bcast_S4096_S4096x1_0 (Host.dotGeneral dot_S4096x32_S32_S4096_1_0_0_n_n_n none M W))

def gathered : FVec Ideal S16x2 .f32 := Host.gather gather_S32_S16x2x1_S16x2_n_0_n_n_0_2_1 (sums A (memF A)) (place A)

/-! ### The choices -/

theorem mul_bit (b : BitVec 1) (x : EReal) : (FloatOps.uitofp .f32 b : Ideal .f32) * x = Scalar.select b x 0 := by
  have h : b = 0#1 ∨ b = 1#1 := by revert b; decide
  rcases h with rfl | rfl
  · show (((0 : ℕ) : ℝ) : EReal) * x = 0
    simp
  · show (((1 : ℕ) : ℝ) : EReal) * x = x
    simp

theorem memF_apply (t : Fin 4096) (s : Fin 32) : memF A (ix2 t s) = (FloatOps.uitofp .f32 (A.member t s) : Ideal .f32) := by
  unfold memF Args.member
  pointwise []

theorem sums_apply (s : Fin 32) : sums A (memF A) (ix1 s) = A.delta s := by
  have e := memF_apply A
  unfold sums Args.delta
  generalize memF A = M at e ⊢
  pointwise [e]
  exact Finset.sum_congr rfl fun t _ => mul_bit _ _

theorem row_sums : broadcastInDim S1x32 ![1] bcast_S32_S1x32_1 (sums A (memF A)) = T7 A := by
  have e := sums_apply A
  generalize sums A (memF A) = D at e ⊢
  funext j
  idx_vars j
  show _ = A.delta j1
  pointwise [e]

section
variable {A} {p : Fin 16 → Fin 2 → Fin 32} (hp : ∀ i k, A.pair (ix2 i k) = BitVec.ofNat 32 (p i k).val)

include hp in
theorem hot_eq (i : Fin 16) (k : Fin 2) (s : Fin 32) (x : EReal) : Scalar.select (A.hot i k s) x 0 = if s = p i k then x else 0 := by
  unfold Args.hot
  rw [hp]
  by_cases h : s = p i k
  · rw [h, if_pos rfl]
    simp [IntOp.cmpi, Scalar.select]
  · rw [if_neg h]
    have : BitVec.ofNat 32 s.val ≠ BitVec.ofNat 32 (p i k).val := fun e => h (Fin.ext (by
      have e := congrArg BitVec.toNat e
      rw [BitVec.toNat_ofNat, BitVec.toNat_ofNat] at e
      omega))
    simp only [IntOp.cmpi, Scalar.select, beq_eq_false_iff_ne.mpr this]
    rfl

include hp in
theorem pick_eq (i : Fin 16) (k : Fin 2) : A.pick i k = A.delta (p i k) := by
  unfold Args.pick
  simp only [hot_eq hp]
  rw [Finset.sum_ite_eq' Finset.univ (p i k), if_pos (Finset.mem_univ _)]

include hp in
theorem place_apply (i : Fin 16) (k : Fin 2) : place A (ix3 i k 0) = BitVec.ofNat 32 (p i k).val := by
  unfold place
  pointwise [hp]
  refine Routing.wrap_of_lt _ _ ?_
  rw [BitVec.toNat_ofNat]
  omega

theorem word_toInt (q : Fin 32) : (BitVec.ofNat 32 q.val).toInt = (q.val : Int) := by
  revert q; decide

include hp in
theorem gathered_apply (i : Fin 16) (k : Fin 2) : gathered A (ix2 i k) = A.delta (p i k) := by
  have e := place_apply hp i k
  unfold gathered
  refine (ValueIdx.gather_take_apply (N := 32) (R := 16) (C := 2) (by omega) _ _ _ _).trans ?_
  refine Eq.trans (congrArg _ (congrArg ix1 (Fin.ext ?_))) (sums_apply A (p i k))
  have e1 : ValueIdx.takeIdx (ix2 i k : S16x2.Idx) = (ix3 i k 0 : S16x2x1.Idx) := by
    funext a
    match a with
    | ⟨0, _⟩ => rfl
    | ⟨1, _⟩ => rfl
    | ⟨2, _⟩ => rfl
  show min (place A (ValueIdx.takeIdx (ix2 i k : S16x2.Idx))).toInt.toNat (32 - 1) = (p i k).val
  rw [e1, e, word_toInt]
  omega

include hp in
theorem margin_apply (i : Fin 16) : margin (gathered A) (ix1 i) = A.z i := by
  have e := gathered_apply hp
  unfold Args.z margin
  rw [pick_eq hp, pick_eq hp]
  generalize gathered A = G at e ⊢
  pointwise [e]

include hp in
theorem losses_apply (i : Fin 16) : losses (margin (gathered A)) (ix2 i 0) = A.loss i := by
  have e := margin_apply hp
  unfold Args.loss losses
  generalize margin (gathered A) = Z at e ⊢
  pointwise [e]
  rfl

include hp in
theorem coefs_apply (i : Fin 16) : coefs (margin (gathered A)) (ix1 i) = A.coef i := by
  have e := margin_apply hp
  unfold Args.coef coefs
  generalize margin (gathered A) = Z at e ⊢
  pointwise [e]
  rfl

include hp in
theorem both0 (i : Fin 16) : both (coefs (margin (gathered A))) (ix2 i 0) = A.coef i := by
  have e := coefs_apply hp
  unfold both
  generalize coefs (margin (gathered A)) = C at e ⊢
  pointwise [e]

include hp in
theorem both1 (i : Fin 16) : both (coefs (margin (gathered A))) (ix2 i 1) = -A.coef i := by
  have e := coefs_apply hp
  unfold both
  generalize coefs (margin (gathered A)) = C at e ⊢
  pointwise [e]

include hp in
theorem lands (i : Fin 16) (k : Fin 2) (s : Fin 32) :
    scatter_S32_S16x2x1_S16x2_n_0_0_2.resultIdx? (ix2 i k) (place A) = some (ix1 s) ↔ p i k = s := by
  refine (Routing.resultIdx?_ix1 (N := 32) _ _ _ s).trans ?_
  have h1 : scatter_S32_S16x2x1_S16x2_n_0_0_2.start (ix2 i k) (place A) 0 = ((p i k).val : Int) := by
    unfold ScatterDims.start
    rw [dif_pos (show (0 : Fin 1) ∈ scatter_S32_S16x2x1_S16x2_n_0_0_2.scatterDimsToOperandDims from List.mem_singleton.mpr rfl)]
    refine Eq.trans (congrArg (fun j => (place A j).toInt) (?_ : _ = (ix3 i k 0 : S16x2x1.Idx))) ?_
    · funext b; refine Fin.ext ?_
      match b with
      | ⟨0, _⟩ => rfl
      | ⟨1, _⟩ => rfl
      | ⟨2, _⟩ => rfl
    · show (place A (ix3 i k 0)).toInt = _
      rw [place_apply hp, word_toInt]
  have h2 : scatter_S32_S16x2x1_S16x2_n_0_0_2.window (ix2 i k) 0 = 0 := rfl
  rw [h1, h2]
  constructor
  · intro h; exact Fin.ext (by omega)
  · rintro rfl; omega

variable (hinj : ∀ i k i' k', p i k = p i' k' → i = i' ∧ k = k')

include hp hinj in
theorem weight_at0 (i : Fin 16) : A.weight (p i 0) = A.coef i := by
  unfold Args.weight
  simp only [hot_eq hp]
  rw [Finset.sum_eq_single i]
  · rw [if_pos rfl, if_neg fun h => absurd (hinj _ _ _ _ h).2 (by decide), sub_zero]
  · intro j _ hj
    rw [if_neg fun h => hj (hinj _ _ _ _ h).1.symm, if_neg fun h => hj (hinj _ _ _ _ h).1.symm, sub_zero]
  · intro h; exact absurd (Finset.mem_univ _) h

include hp hinj in
theorem weight_at1 (i : Fin 16) : A.weight (p i 1) = -A.coef i := by
  unfold Args.weight
  simp only [hot_eq hp]
  rw [Finset.sum_eq_single i]
  · rw [if_pos rfl, if_neg fun h => absurd (hinj _ _ _ _ h).2 (by decide), zero_sub]
  · intro j _ hj
    rw [if_neg fun h => hj (hinj _ _ _ _ h).1.symm, if_neg fun h => hj (hinj _ _ _ _ h).1.symm, sub_zero]
  · intro h; exact absurd (Finset.mem_univ _) h

include hp hinj in
theorem both_weight (i : Fin 16) (k : Fin 2) : both (coefs (margin (gathered A))) (ix2 i k) = A.weight (p i k) := by
  match k with
  | ⟨0, _⟩ => exact (both0 hp i).trans (weight_at0 hp hinj i).symm
  | ⟨1, _⟩ => exact (both1 hp i).trans (weight_at1 hp hinj i).symm

include hp hinj in
theorem scattered_apply (s : Fin 32) : scattered (place A) (both (coefs (margin (gathered A)))) (ix1 s) = A.weight s := by
  unfold scattered
  by_cases h : ∃ i k, p i k = s
  · obtain ⟨i, k, hs⟩ := h
    refine Routing.scatter_set_hit _ _ _ _ _ _ (fun j hj => ?_) (ix2 i k : S16x2.Idx) ((lands hp i k s).mpr hs)
    change S16x2.Idx at j
    idx_vars j
    rw [both_weight hp hinj, (lands hp j0 j1 s).mp hj]
  · refine (Routing.scatter_set_miss _ _ _ _ _ (fun j hj => ?_)).trans ?_
    · change S16x2.Idx at j
      idx_vars j
      exact h ⟨j0, j1, (lands hp j0 j1 s).mp hj⟩
    · unfold Args.weight
      simp only [hot_eq hp]
      rw [Finset.sum_eq_zero]
      · pointwise []
      · intro i _
        rw [if_neg fun e => h ⟨i, 0, e.symm⟩, if_neg fun e => h ⟨i, 1, e.symm⟩, sub_zero]

include hp hinj in
theorem tokens_apply (t : Fin 4096) :
    tokens A (memF A) (scattered (place A) (both (coefs (margin (gathered A))))) (ix2 t 0) = A.k t := by
  have e := scattered_apply hp hinj
  have e' := memF_apply A
  unfold Args.k tokens
  generalize scattered (place A) (both (coefs (margin (gathered A)))) = W at e ⊢
  generalize memF A = M at e' ⊢
  pointwise [e, e']
  refine congrArg _ (Finset.sum_congr rfl fun s _ => mul_bit _ _)
end

/-! ### The precondition, read -/

theorem word_of_range (b : BitVec 32) (h0 : IntOp.cmpi .sge b 0#32 = 1#1) (h1 : IntOp.cmpi .slt b 32#32 = 1#1) :
    b.toNat < 32 := by
  have e0 : (0#32).sle b = true := by
    cases h : (0#32).sle b with
    | true => rfl
    | false => simp [IntOp.cmpi, h] at h0
  have e1 : b.slt 32#32 = true := by
    cases h : b.slt 32#32 with
    | true => rfl
    | false => simp [IntOp.cmpi, h] at h1
  rw [BitVec.sle_iff_toInt_le] at e0
  rw [BitVec.slt_iff_toInt_lt] at e1
  have a0 : (0#32).toInt = 0 := by decide
  have a1 : (32#32).toInt = 32 := by decide
  rw [a0] at e0
  rw [a1] at e1
  rw [BitVec.toInt_eq_toNat_cond] at e0 e1
  have := b.isLt
  split at e0 <;> omega

theorem and_bit (a b : BitVec 1) (h : IntOp.andi a b = 1#1) : a = 1#1 ∧ b = 1#1 := by
  revert a b; decide

theorem or_bit (a b : BitVec 1) (h : IntOp.ori a b = 1#1) : a = 1#1 ∨ b = 1#1 := by
  revert a b; decide

/-- The place of index `k` of pair `i` among all the indices. -/
def flat (i : Fin 16) (k : Fin 2) : Fin 32 := ⟨2 * i.val + k.val, by omega⟩

theorem flat_inj {i i' : Fin 16} {k k' : Fin 2} (h : flat i k = flat i' k') : i = i' ∧ k = k' := by
  have h := congrArg Fin.val h
  have h : 2 * i.val + k.val = 2 * i'.val + k'.val := h
  exact ⟨Fin.ext (by omega), Fin.ext (by omega)⟩

theorem flat_apply (P : IVec S16x2 32) (h : S16x2.ShapeCasts S32) (i : Fin 16) (k : Fin 2) :
    shapeCast S32 P h (ix1 (flat i k)) = P (ix2 i k) := by
  refine (shapeCast_apply P h (ix1 (flat i k)) (ix2 i k : S16x2.Idx) ?_)
  rw [Shape.rowMajor_val_two, Shape.rowMajor_val_one]
  show i.val * 2 + k.val = 2 * i.val + k.val
  omega

theorem pre_read [Cert.Pre_segments_distinct.Facts] (h : Cert.Pre_segments_distinct.fn (F := Ideal) A.lp A.rp A.mask A.lo A.hi A.pair = fun _ => 1#1)
    (i : Fin 16) (k : Fin 2) (i' : Fin 16) (k' : Fin 2) :
    (IntOp.cmpi .ne (A.pair (ix2 i k)) (A.pair (ix2 i' k')) = 1#1 ∨ flat i k = flat i' k') ∧ (A.pair (ix2 i k)).toNat < 32 := by
  have e := congrFun h default
  unfold Cert.Pre_segments_distinct.fn Cert.Pre_segments_distinct.fn_part1 at e
  have : Subsingleton Cert.Pre_segments_distinct.S_.Idx := ⟨fun a b => funext fun x => x.elim0⟩
  have e' := Host.reduce_andi_all _ _ _ _ _ e (ix2 (flat i k) (flat i' k'))
  have g := flat_apply A.pair Cert.Pre_segments_distinct.Facts.shapeCasts_S16x2_S32
  generalize shapeCast Cert.Pre_segments_distinct.S32 A.pair Cert.Pre_segments_distinct.Facts.shapeCasts_S16x2_S32 = Q at e' g
  pointwise [g] at e'
  obtain ⟨e1, h1⟩ := and_bit _ _ e'
  obtain ⟨e2, h0⟩ := and_bit _ _ e1
  refine ⟨(or_bit _ _ e2).imp_right fun q => Fin.ext ?_, word_of_range _ h0 h1⟩
  have q' : BitVec.ofNat 32 (flat i k).val = BitVec.ofNat 32 (flat i' k').val := by
    by_contra hn
    simp only [IntOp.cmpi, beq_eq_false_iff_ne.mpr hn] at q
    exact absurd q (by decide)
  have q' := congrArg BitVec.toNat q'
  rw [BitVec.toNat_ofNat, BitVec.toNat_ofNat] at q'
  omega

/-- The precondition gives the segments that the indices name, all different. -/
theorem segments [Cert.Pre_segments_distinct.Facts] (h : Cert.Pre_segments_distinct.fn (F := Ideal) A.lp A.rp A.mask A.lo A.hi A.pair = fun _ => 1#1) :
    ∃ p : Fin 16 → Fin 2 → Fin 32, (∀ i k, A.pair (ix2 i k) = BitVec.ofNat 32 (p i k).val) ∧ ∀ i k i' k', p i k = p i' k' → i = i' ∧ k = k' := by
  refine ⟨fun i k => ⟨(A.pair (ix2 i k)).toNat, (pre_read A h i k i k).2⟩, fun i k => ?_, fun i k i' k' q => ?_⟩
  · exact BitVec.eq_of_toNat_eq (by rw [BitVec.toNat_ofNat]; exact (Nat.mod_eq_of_lt (A.pair (ix2 i k)).isLt).symm)
  · have q : A.pair (ix2 i k) = A.pair (ix2 i' k') := BitVec.eq_of_toNat_eq (Fin.mk.inj q)
    rcases (pre_read A h i k i' k').1 with hn | hf
    · rw [q] at hn
      simp [IntOp.cmpi] at hn
    · exact flat_inj hf

end Cert.PairsRefIdeal.Hand

end
-- ==== Proof.Pairs.Claims.lean ====
/- THE PAIRS CALL'S VALUE CLAIM: over the extended reals the call's arrays are its reference's. -/
module

public import proofs.«01_k».proof.Proof.Pairs.Same
public import Idealize.ShloMosaic.Adequacy

@[expose] public section

set_option maxRecDepth 16384

noncomputable section

namespace Cert.PairsIdeal.Hand

open Idealize.ShloMosaic Idealize.ShloMosaic.TcCoe Idealize.SL.Sem

/-- The call's arguments in memory. -/
def argsOf (m : (ℓ : Loc Cert.PairsIdeal.nD Cert.PairsIdeal.τ Cert.PairsIdeal.sig) → Buf (Elt Ideal) ℓ) (c : Dev Cert.PairsIdeal.nD) : Args where
  lp := m ((c.tc : Thread nD τ).loc main_arg0)
  rp := m ((c.tc : Thread nD τ).loc main_arg1)
  mask := m ((c.tc : Thread nD τ).loc main_arg2)
  lo := m ((c.tc : Thread nD τ).loc main_arg3)
  hi := m ((c.tc : Thread nD τ).loc main_arg4)
  pair := m ((c.tc : Thread nD τ).loc main_arg5)

/-- The reference's arguments in memory. -/
def refArgs (m : (ℓ : Loc Cert.PairsRefIdeal.nD Cert.PairsRefIdeal.τ Cert.PairsRefIdeal.sig) → Buf (Elt Ideal) ℓ) (c : Dev Cert.PairsRefIdeal.nD) : Args where
  lp := m ((c.tc : Thread Cert.PairsRefIdeal.nD Cert.PairsRefIdeal.τ).loc Cert.PairsRefIdeal.main_arg0)
  rp := m ((c.tc : Thread Cert.PairsRefIdeal.nD Cert.PairsRefIdeal.τ).loc Cert.PairsRefIdeal.main_arg1)
  mask := m ((c.tc : Thread Cert.PairsRefIdeal.nD Cert.PairsRefIdeal.τ).loc Cert.PairsRefIdeal.main_arg2)
  lo := m ((c.tc : Thread Cert.PairsRefIdeal.nD Cert.PairsRefIdeal.τ).loc Cert.PairsRefIdeal.main_arg3)
  hi := m ((c.tc : Thread Cert.PairsRefIdeal.nD Cert.PairsRefIdeal.τ).loc Cert.PairsRefIdeal.main_arg4)
  pair := m ((c.tc : Thread Cert.PairsRefIdeal.nD Cert.PairsRefIdeal.τ).loc Cert.PairsRefIdeal.main_arg5)

open Cert.PairsRefIdeal.Hand in
theorem loss_term (m : (ℓ : Loc Cert.PairsRefIdeal.nD Cert.PairsRefIdeal.τ Cert.PairsRefIdeal.sig) → Buf (Elt Ideal) ℓ) (c : Dev Cert.PairsRefIdeal.nD) :
    Cert.PairsRefIdeal.Value.res_main_v59 m c = losses (margin (gathered (refArgs m c))) := by
  unfold Cert.PairsRefIdeal.Value.res_main_v59
  rfl

open Cert.PairsRefIdeal.Hand in
theorem k_term (m : (ℓ : Loc Cert.PairsRefIdeal.nD Cert.PairsRefIdeal.τ Cert.PairsRefIdeal.sig) → Buf (Elt Ideal) ℓ) (c : Dev Cert.PairsRefIdeal.nD) :
    Cert.PairsRefIdeal.Value.res_main_v58 m c
      = tokens (refArgs m c) (memF (refArgs m c)) (scattered (place (refArgs m c)) (both (coefs (margin (gathered (refArgs m c)))))) := by
  unfold Cert.PairsRefIdeal.Value.res_main_v58
  rfl

theorem algebraic [Cert.Pre_segments_distinct.Facts] :
    Cert.algebraic_PairsIdeal_PairsRefIdeal_pre_segments_distinct := fun m ρ m' ρ' hpre hag => by
  refine ⟨fun c => T6 (argsOf m c), fun c => T7 (argsOf m c), fun c => T8 (argsOf m c), fun c => T9 (argsOf m c), ?_, ?_⟩
  · refine (θ_run _ _ _).mono (fun r h c => ?_) (Cert.PairsIdeal.Value.run m ρ)
    obtain ⟨h6, h7, h8, h9, hk⟩ := h c
    exact ⟨h6.trans (out6 (argsOf m c)), h7.trans (out7 (argsOf m c)), h8.trans (out8 (argsOf m c)), h9.trans (out9 (argsOf m c)), hk⟩
  · refine (θ_run _ _ _).mono (fun r h c => ?_) (Cert.PairsRefIdeal.Value.run m' ρ')
    obtain ⟨h6, h7, h8, h9, hk⟩ := h c
    obtain ⟨e0, e1, e2, e3, e4, e5⟩ := hag c
    have e : refArgs m' c = argsOf m c := by
      unfold refArgs argsOf
      rw [e0, e1, e2, e3, e4, e5]
    obtain ⟨p, hp, hinj⟩ := Cert.PairsRefIdeal.Hand.segments (argsOf m c) (hpre c)
    refine ⟨(h6.trans (loss_term m' c)).trans ?_, h7.trans ?_, h8.trans ?_, (h9.trans (k_term m' c)).trans ?_, hk⟩
    · rw [e]
      funext j
      change Cert.PairsIdeal.S16x1.Idx at j
      idx_vars j
      obtain rfl : j1 = 0 := Subsingleton.elim _ _
      exact Cert.PairsRefIdeal.Hand.losses_apply hp j0
    · show broadcastInDim Cert.PairsRefIdeal.S1x32 ![1] Cert.PairsRefIdeal.Facts₀.bcast_S32_S1x32_1
        (Cert.PairsRefIdeal.Hand.sums (refArgs m' c) (Cert.PairsRefIdeal.Hand.memF (refArgs m' c))) = _
      rw [e]
      exact Cert.PairsRefIdeal.Hand.row_sums (argsOf m c)
    · show subf (refArgs m' c).lp (refArgs m' c).rp = _
      rw [e]
      rfl
    · rw [e]
      funext j
      change Cert.PairsIdeal.S4096x1.Idx at j
      idx_vars j
      obtain rfl : j1 = 0 := Subsingleton.elim _ _
      exact Cert.PairsRefIdeal.Hand.tokens_apply hp hinj j0

end Cert.PairsIdeal.Hand

end
-- ==== Proof.LoraB.Claims.lean ====
/- THE GRADIENT OF THE SECOND LoRA FACTOR, from the backward call's blocks: the scaled product, a row per vocabulary entry. -/
module

public import proofs.«01_k».proof.Proof.Gen.LoraB.Run
public import proofs.«01_k».proof.Proof.Gen.LoraBIdeal.Run
public import proofs.«01_k».proof.Proof.Gen.LoraBRefIdeal.Run
public import Idealize.ShloMosaic.Lib.ValueIdxCore
public import Idealize.ShloMosaic.Lib.Pointwise
public import Idealize.ShloMosaic.Lib.IdealHost
public import proofs.«01_k».proof.Defs
public import Idealize.ShloMosaic.Adequacy

@[expose] public section

set_option maxRecDepth 16384

noncomputable section

namespace Cert.LoraB.Hand

open Idealize.ShloMosaic Idealize.ShloMosaic.TcCoe Idealize.SL.Sem

/-! ### The frames: the programs have no semaphore -/

theorem frame : Cert.quiescent_LoraB := by
  unfold Cert.quiescent_LoraB
  intro m ρ _
  refine (θ_run _ _ _).mono (fun r h => ⟨fun c => (h c).2, ?_⟩) (Cert.LoraB.Value.run m ρ)
  funext g
  obtain ⟨t, s⟩ := g
  match s with
  | .reg s => exact absurd s.isLt (Nat.not_lt_zero _)
  | .dma s => exact absurd s.isLt (Nat.not_lt_zero _)

theorem frame_ideal : Cert.quiescent_LoraBIdeal := by
  unfold Cert.quiescent_LoraBIdeal
  intro m ρ _
  refine (θ_run _ _ _).mono (fun r h => ⟨fun c => (h c).2, ?_⟩) (Cert.LoraBIdeal.Value.run m ρ)
  funext g
  obtain ⟨t, s⟩ := g
  match s with
  | .reg s => exact absurd s.isLt (Nat.not_lt_zero _)
  | .dma s => exact absurd s.isLt (Nat.not_lt_zero _)

theorem frame_ref : Cert.quiescent_LoraBRefIdeal := by
  unfold Cert.quiescent_LoraBRefIdeal
  intro m ρ _
  refine (θ_run _ _ _).mono (fun r h => ⟨fun c => (h c).2, ?_⟩) (Cert.LoraBRefIdeal.Value.run m ρ)
  funext g
  obtain ⟨t, s⟩ := g
  match s with
  | .reg s => exact absurd s.isLt (Nat.not_lt_zero _)
  | .dma s => exact absurd s.isLt (Nat.not_lt_zero _)

/-! ### The array -/

/-- The scaled product: entry `(v, r)` lies in block `v / 768`, column `v % 768`. -/
def T (x : FVec Ideal Cert.LoraBIdeal.S21x64x768 .f32) (ds : FVec Ideal Cert.LoraBIdeal.S1 .f32) : FVec Ideal Cert.LoraBIdeal.S16032x64 .f32 :=
  fun j => Ideal.ofBits .f32 0x40000000#32 * ds (ix1 0)
    * x (ix3 ⟨(j 0).val / 768, by have : (j 0).val < 16032 := (j 0).isLt; omega⟩ (j 1) ⟨(j 0).val % 768, Nat.mod_lt _ (by decide)⟩)

section
open Cert.LoraBIdeal.Gen Cert.LoraBIdeal

theorem rows (x : FVec Ideal S21x768x64 .f32) (a : Fin 16128) (b : Fin 64) :
    shapeCast S16128x64 x shapeCasts_S21x768x64_S16128x64 (ix2 a b) = x (ix3 ⟨a.val / 768, by omega⟩ ⟨a.val % 768, Nat.mod_lt _ (by decide)⟩ b) := by
  refine shapeCast_apply x _ _ _ ?_
  rw [Shape.rowMajor_val_two, Shape.rowMajor_val_three]
  show (a.val / 768 * 768 + a.val % 768) * 64 + b.val = a.val * 64 + b.val
  omega

theorem kernel_eq (x : FVec Ideal S21x64x768 .f32) (ds : FVec Ideal S1 .f32) :
    mulf (broadcastInDim S16032x64 ![0, 1] bcast_S1x1_S16032x64_0_1 (broadcastInDim S1x1 ![1] bcast_S1_S1x1_1 (mulf (broadcastInDim S1 ![] bcast_S_S1 (constant S_ .f32 0x40000000#32)) ds))) (extractStridedSlice S16032x64 ![0, 0] (shapeCast _ (transpose S21x768x64 [0, 2, 1] x transposes_S21x64x768_S21x768x64_0_2_1) shapeCasts_S21x768x64_S16128x64) slices_S16128x64_S16032x64_0_0) = T x ds := by
  have e := rows (transpose S21x768x64 [0, 2, 1] x transposes_S21x64x768_S21x768x64_0_2_1)
  generalize shapeCast S16128x64 (transpose S21x768x64 [0, 2, 1] x transposes_S21x64x768_S21x768x64_0_2_1) shapeCasts_S21x768x64_S16128x64 = Y at e ⊢
  funext j
  idx_vars j
  pointwise [e]
  rfl
end

section
open Cert.LoraBRefIdeal.Gen Cert.LoraBRefIdeal

theorem columns (x : FVec Ideal S64x21x768 .f32) (b : Fin 64) (a : Fin 16128) :
    shapeCast S64x16128 x shapeCasts_S64x21x768_S64x16128 (ix2 b a) = x (ix3 b ⟨a.val / 768, by omega⟩ ⟨a.val % 768, Nat.mod_lt _ (by decide)⟩) := by
  refine shapeCast_apply x _ _ _ ?_
  rw [Shape.rowMajor_val_two, Shape.rowMajor_val_three]
  show (b.val * 21 + a.val / 768) * 768 + a.val % 768 = b.val * 16128 + a.val
  omega

theorem reference_eq (x : FVec Ideal S21x64x768 .f32) (ds : FVec Ideal S1 .f32) :
    mulf (broadcastInDim S16032x64 ![0, 1] bcast_S1x1_S16032x64_0_1 (broadcastInDim S1x1 ![1] bcast_S1_S1x1_1 (mulf (broadcastInDim S1 ![] bcast_S_S1 (constant S_ .f32 0x40000000#32)) ds))) (transpose S16032x64 [1, 0] (extractStridedSlice S64x16032 ![0, 0] (shapeCast _ (transpose S64x21x768 [1, 0, 2] x transposes_S21x64x768_S64x21x768_1_0_2) shapeCasts_S64x21x768_S64x16128) slices_S64x16128_S64x16032_0_0) transposes_S64x16032_S16032x64_1_0) = T x ds := by
  have e := columns (transpose S64x21x768 [1, 0, 2] x transposes_S21x64x768_S64x21x768_1_0_2)
  generalize shapeCast S64x16128 (transpose S64x21x768 [1, 0, 2] x transposes_S21x64x768_S64x21x768_1_0_2) shapeCasts_S64x21x768_S64x16128 = Y at e ⊢
  funext j
  idx_vars j
  pointwise [e]
  rfl
end

theorem algebraic : Cert.algebraic_LoraBIdeal_LoraBRefIdeal := fun m ρ m' ρ' _ hag => by
  refine ⟨fun c => T (m ((c.tc : Thread Cert.LoraBIdeal.nD Cert.LoraBIdeal.τ).loc Cert.LoraBIdeal.main_arg0))
    (m ((c.tc : Thread Cert.LoraBIdeal.nD Cert.LoraBIdeal.τ).loc Cert.LoraBIdeal.main_arg1)), ?_, ?_⟩
  · refine (θ_run _ _ _).mono (fun r h c => ?_) (Cert.LoraBIdeal.Value.run m ρ)
    obtain ⟨h0, hk⟩ := h c
    exact ⟨h0.trans (kernel_eq _ _), hk⟩
  · refine (θ_run _ _ _).mono (fun r h c => ?_) (Cert.LoraBRefIdeal.Value.run m' ρ')
    obtain ⟨h0, hk⟩ := h c
    obtain ⟨e0, e1⟩ := hag c
    refine ⟨(h0.trans (reference_eq _ _)).trans ?_, hk⟩
    rw [e0, e1]

end Cert.LoraB.Hand

end
-- ==== Proof.Norm.Rows.lean ====
/- THE NORM CALL, row by row: over the reals a row of a block and the same row of the whole array get the same scale,
codes, reciprocal root and LoRA activations. -/
module

public import proofs.«01_k».proof.Proof.Gen.NormIdeal.Value
public import proofs.«01_k».proof.Proof.Gen.NormRefIdeal.Value
public import Idealize.ShloMosaic.Lib.Pointwise

@[expose] public section

set_option maxRecDepth 16384

noncomputable section

namespace Cert.NormRows

open Idealize.ShloMosaic Idealize.ShloMosaic.TcCoe

/-- Equal rows have equal maxima, whatever the arrays around them. -/
theorem max_same {n0 n0' n1 : ℕ} (h : (⟨2, ![n0, n1]⟩ : Shape).Reduces [1] ⟨1, ![n0]⟩)
    (h' : (⟨2, ![n0', n1]⟩ : Shape).Reduces [1] ⟨1, ![n0']⟩) (v : FVec Ideal ⟨2, ![n0, n1]⟩ .f32)
    (w : FVec Ideal ⟨2, ![n0', n1]⟩ .f32)
    (hφ : FKind.Formats .f32) (hacc : 0xFF800000#32 = FKind.maximumf.neutral .f32 hφ) (r : Fin n0) (R : Fin n0')
    (hv : ∀ c : Fin n1, v (ix2 r c) = w (ix2 R c)) :
    multiReduction .maximumf [1] ⟨1, ![n0]⟩ v 0xFF800000#32 h hφ hacc (ix1 r)
      = multiReduction .maximumf [1] ⟨1, ![n0']⟩ w 0xFF800000#32 h' hφ hacc (ix1 R) := by
  rw [multiReduction_maximumf_eq_fold, multiReduction_maximumf_eq_fold, Shape.Reduces.fold_fiber_r2_a1,
    Shape.Reduces.fold_fiber_r2_a1]
  congr 1
  funext c
  exact hv c

/-- The scale of a row, of its maximum. -/
theorem select_same (M : FVec Ideal Cert.NormIdeal.S256 .f32) (N : FVec Ideal Cert.NormRefIdeal.S4096 .f32)
    (s : Cert.NormIdeal.S256.ShapeCasts Cert.NormIdeal.S256x1) (s' : Cert.NormRefIdeal.S4096.ShapeCasts Cert.NormRefIdeal.S4096x1)
    (r : Fin 256) (R : Fin 4096) (c1 c2 c3 : Ideal .f32) (h : M (ix1 r) = N (ix1 R)) :
    select (cmpf .oeq (shapeCast Cert.NormIdeal.S256x1 M s) (broadcast Cert.NormIdeal.S256x1 c3)) (broadcast Cert.NormIdeal.S256x1 c2)
        (divf (shapeCast Cert.NormIdeal.S256x1 M s) (broadcast Cert.NormIdeal.S256x1 c1)) (ix2 r 0)
      = select (cmpf .oeq (shapeCast Cert.NormRefIdeal.S4096x1 N s') (broadcast Cert.NormRefIdeal.S4096x1 c3)) (broadcast Cert.NormRefIdeal.S4096x1 c2)
        (divf (shapeCast Cert.NormRefIdeal.S4096x1 N s') (broadcast Cert.NormRefIdeal.S4096x1 c1)) (ix2 R 0) := by
  have f : shapeCast Cert.NormIdeal.S256x1 M s (ix2 r 0) = M (ix1 r) := by pointwise []
  have f' : shapeCast Cert.NormRefIdeal.S4096x1 N s' (ix2 R 0) = N (ix1 R) := by pointwise []
  generalize shapeCast Cert.NormIdeal.S256x1 M s = b at f ⊢
  generalize shapeCast Cert.NormRefIdeal.S4096x1 N s' = b' at f' ⊢
  show Scalar.select (FloatOps.cmpf .oeq (b (ix2 r 0)) c3) c2 (FloatOps.divf (b (ix2 r 0)) c1)
    = Scalar.select (FloatOps.cmpf .oeq (b' (ix2 R 0)) c3) c2 (FloatOps.divf (b' (ix2 R 0)) c1)
  rw [f, f', h]

/-- A code, of the entry and its row's scale. -/
theorem clip_same (u b : FVec Ideal Cert.NormIdeal.S256x8192 .f32) (w b' : FVec Ideal Cert.NormRefIdeal.S4096x8192 .f32)
    (hb : FTy.bits .fp8e4m3 < FTy.bits .f32) (r : Fin 256) (R : Fin 4096) (k : Fin 8192) (c1 c2 : Ideal .f32)
    (h : u (ix2 r k) = w (ix2 R k)) (h' : b (ix2 r k) = b' (ix2 R k)) :
    truncf .fp8e4m3 (minimumf (broadcast Cert.NormIdeal.S256x8192 c1) (maximumf (broadcast Cert.NormIdeal.S256x8192 c2) (divf u b))) hb (ix2 r k)
      = truncf .fp8e4m3 (minimumf (broadcast Cert.NormRefIdeal.S4096x8192 c1) (maximumf (broadcast Cert.NormRefIdeal.S4096x8192 c2) (divf w b'))) hb (ix2 R k) := by
  show FloatOps.truncf _ _ (FloatOps.minimumf c1 (FloatOps.maximumf c2 (FloatOps.divf (u (ix2 r k)) (b (ix2 r k)))))
    = FloatOps.truncf _ _ (FloatOps.minimumf c1 (FloatOps.maximumf c2 (FloatOps.divf (w (ix2 R k)) (b' (ix2 R k)))))
  rw [h, h']

variable (P : Vec Ideal Cert.NormIdeal.S256x8192 .bf16) (Q : Vec Ideal Cert.NormRefIdeal.S4096x8192 .bf16)
  (g : Vec Ideal Cert.NormIdeal.S1x8192 .f32) (a : Vec Ideal Cert.NormIdeal.S64x8192 .bf16)
  (r : Fin 256) (R : Fin 4096) (h : ∀ k : Fin 8192, P (ix2 r k) = Q (ix2 R k))

include h

theorem rs_same : Cert.NormIdeal.Gen.k0_pay3 P (ix2 r 0) = Cert.NormRefIdeal.Gen.k0_pay3 Q (ix2 R 0) := by
  pointwise [Cert.NormIdeal.Gen.k0_pay3, Cert.NormRefIdeal.Gen.k0_pay3, Cert.NormIdeal.Gen.k0_pay2, Cert.NormRefIdeal.Gen.k0_pay2, h]

theorem xn_same (k : Fin 8192) :
    Cert.NormIdeal.Gen.k0_pay4 P g (ix2 r k) = Cert.NormRefIdeal.Gen.k0_pay4 Q g (ix2 R k) := by
  have e := rs_same P Q r R h
  unfold Cert.NormIdeal.Gen.k0_pay4 Cert.NormRefIdeal.Gen.k0_pay4
  generalize Cert.NormIdeal.Gen.k0_pay3 P = u at e ⊢
  generalize Cert.NormRefIdeal.Gen.k0_pay3 Q = w at e ⊢
  pointwise [Cert.NormIdeal.Gen.k0_pay2, Cert.NormRefIdeal.Gen.k0_pay2, h, e]

theorem scale_same : Cert.NormIdeal.Gen.k0_pay5 P g (ix2 r 0) = Cert.NormRefIdeal.Gen.k0_pay5 Q g (ix2 R 0) := by
  have e := xn_same P Q g r R h
  unfold Cert.NormIdeal.Gen.k0_pay5 Cert.NormRefIdeal.Gen.k0_pay5
  generalize Cert.NormIdeal.Gen.k0_pay4 P g = u at e ⊢
  generalize Cert.NormRefIdeal.Gen.k0_pay4 Q g = w at e ⊢
  have eM := max_same Cert.NormIdeal.Gen.reduces_S256x8192_S256 Cert.NormRefIdeal.Gen.reduces_S4096x8192_S4096 (absf u) (absf w) (.inl rfl) rfl r R
    (fun c => by show FloatOps.absf (u (ix2 r c)) = FloatOps.absf (w (ix2 R c)); rw [e])
  generalize multiReduction .maximumf [1] Cert.NormIdeal.S256 (absf u) 0xFF800000#32 Cert.NormIdeal.Gen.reduces_S256x8192_S256 (.inl rfl) rfl = M at eM ⊢
  generalize multiReduction .maximumf [1] Cert.NormRefIdeal.S4096 (absf w) 0xFF800000#32 Cert.NormRefIdeal.Gen.reduces_S4096x8192_S4096 (.inl rfl) rfl = N at eM ⊢
  generalize (Scalar.ofBits .f32 0x43E00000#32 : Ideal .f32) = c1
  generalize (Scalar.ofBits .f32 0x3F800000#32 : Ideal .f32) = c2
  generalize (Scalar.ofBits .f32 0x00000000#32 : Ideal .f32) = c3
  exact select_same M N _ _ r R c1 c2 c3 eM

theorem codes_same (k : Fin 8192) :
    Cert.NormIdeal.Gen.k0_pay6 P g (ix2 r k) = Cert.NormRefIdeal.Gen.k0_pay6 Q g (ix2 R k) := by
  have e := xn_same P Q g r R h
  have e' := scale_same P Q g r R h
  unfold Cert.NormIdeal.Gen.k0_pay6 Cert.NormRefIdeal.Gen.k0_pay6
  generalize Cert.NormIdeal.Gen.k0_pay4 P g = u at e ⊢
  generalize Cert.NormRefIdeal.Gen.k0_pay4 Q g = w at e ⊢
  generalize Cert.NormIdeal.Gen.k0_pay5 P g = u' at e' ⊢
  generalize Cert.NormRefIdeal.Gen.k0_pay5 Q g = w' at e' ⊢
  have f : ∀ k : Fin 8192, broadcastTo Cert.NormIdeal.S256x8192 u' Cert.NormIdeal.Gen.broadcasts_S256x1_S256x8192 (ix2 r k) = u' (ix2 r 0) := fun k => by
    pointwise []
  have f' : ∀ k : Fin 8192, broadcastTo Cert.NormRefIdeal.S4096x8192 w' Cert.NormRefIdeal.Gen.broadcasts_S4096x1_S4096x8192 (ix2 R k) = w' (ix2 R 0) := fun k => by
    pointwise []
  generalize broadcastTo Cert.NormIdeal.S256x8192 u' Cert.NormIdeal.Gen.broadcasts_S256x1_S256x8192 = b at f ⊢
  generalize broadcastTo Cert.NormRefIdeal.S4096x8192 w' Cert.NormRefIdeal.Gen.broadcasts_S4096x1_S4096x8192 = b' at f' ⊢
  exact clip_same u b w b' _ r R k _ _ (e k) ((f k).trans (e'.trans (f' k).symm))

theorem lora_same (k : Fin 64) :
    Cert.NormIdeal.Gen.k0_pay1 (Cert.NormIdeal.Gen.k0_pay4 P g) a (ix2 r k)
      = Cert.NormRefIdeal.Gen.k0_pay1 (Cert.NormRefIdeal.Gen.k0_pay7 Q g) a (ix2 R k) := by
  have e := xn_same P Q g r R h
  unfold Cert.NormRefIdeal.Gen.k0_pay7
  generalize Cert.NormIdeal.Gen.k0_pay4 P g = u at e ⊢
  generalize Cert.NormRefIdeal.Gen.k0_pay4 Q g = w at e ⊢
  pointwise [Cert.NormIdeal.Gen.k0_pay1, Cert.NormRefIdeal.Gen.k0_pay1, e]

end Cert.NormRows

end
-- ==== Proof.Norm.Claims.lean ====
/- THE NORM CALL'S VALUE CLAIM: over the reals the call's arrays are its reference's. -/
module

public import proofs.«01_k».proof.Proof.Norm.Rows
public import proofs.«01_k».proof.Proof.Whole
public import proofs.«01_k».proof.Defs
public import Idealize.ShloMosaic.Adequacy

@[expose] public section

set_option maxRecDepth 16384

noncomputable section

namespace Cert.NormIdeal.Hand

open Cert.NormIdeal.Gen
open Idealize.ShloMosaic Idealize.ShloMosaic.TcCoe Idealize.SL.Sem
open Cert.NormRefIdeal.Value (G3 G4 G5 G6)

variable (m : (ℓ : Loc nD τ sig) → Buf (Elt Ideal) ℓ)

/-- Where each window's block lies, at each grid point. -/
theorem idx_eq : ∀ t : Fin cfg0.N,
    (win0_0.index t (0 : Fin 2) = t.val ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- The row of the array that is row `r` of the block at point `t`. -/
def gRow (t : Fin cfg0.N) (r : Fin 256) : Fin 4096 := ⟨256 * t.val + r.val, by have : t.val < 16 := t.isLt; omega⟩

theorem rows (c : Dev nD) (t : Fin cfg0.N) (r : Fin 256) (k : Fin 8192) :
    (iblk m c 0 t : Vec Ideal S256x8192 .bf16) (ix2 r k) = (V m c main_arg0 : Vec Ideal S4096x8192 .bf16) (ix2 (gRow t r) k) := by
  obtain ⟨⟨e0, e1⟩, -⟩ := idx_eq t
  show V m c main_arg0 (((cfg0.win 0).blk t).view.emb (ix2 r k)) = _
  congr 1; funext a; apply Fin.ext
  match a with
  | ⟨0, _⟩ => show win0_0.index t (0 : Fin 2) * 256 + 1 * r.val = 256 * t.val + r.val; omega
  | ⟨1, _⟩ => show win0_0.index t (1 : Fin 2) * 8192 + 1 * k.val = k.val; omega

theorem iblk1_eq (c : Dev nD) (t : Fin cfg0.N) : (iblk m c 1 t) = V m c main_arg1 := by
  obtain ⟨-, e, -⟩ := idx_eq t
  funext j
  show V m c main_arg1 (((cfg0.win 1).blk t).view.emb j) = V m c main_arg1 j
  congr 1; funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

theorem iblk2_eq (c : Dev nD) (t : Fin cfg0.N) : (iblk m c 2 t) = V m c main_arg2 := by
  obtain ⟨-, -, e, -⟩ := idx_eq t
  funext j
  show V m c main_arg2 (((cfg0.win 2).blk t).view.emb j) = V m c main_arg2 j
  congr 1; funext a; apply Fin.ext
  match a with
  | ⟨0, _⟩ => show win0_2.index t (0 : Fin 2) * 64 + 1 * (j 0).val = (j 0).val; omega
  | ⟨1, _⟩ => show win0_2.index t (1 : Fin 2) * 8192 + 1 * (j 1).val = (j 1).val; omega

/-! ### Output window 3 -/

theorem out3_eq (x0 : Vec Ideal S256x8192 .bf16) (x1 : Vec Ideal S1x8192 .f32) (x2 : Vec Ideal S64x8192 .bf16) :
    out0_3 x0 x1 x2 = k0_pay6 x0 x1 := by
  unfold out0_3
  rw [View.canon_unit_zero Cert.Whole.hz2, View.ld_unit_zero (S := S256x8192) Cert.Whole.hz2 _ x0, View.ld_unit_zero (S := S1x8192) Cert.Whole.hz2 _ x1]

theorem emb3_eq (t : Fin cfg0.N) (j0 : Fin 256) (j1 : Fin 8192) :
    (((cfg0.win 3).blk t).view.emb (ix2 j0 j1 : S256x8192.Idx) : S4096x8192.Idx) = ix2 (gRow t j0) j1 := by
  obtain ⟨-, -, -, e, -⟩ := idx_eq t
  funext a; apply Fin.ext
  match a with
  | ⟨0, _⟩ => show win0_3.index t (0 : Fin 2) * 256 + 1 * j0.val = 256 * t.val + j0.val; omega
  | ⟨1, _⟩ => show win0_3.index t (1 : Fin 2) * 8192 + 1 * j1.val = j1.val; omega

theorem at3 (t : Fin cfg0.N) (X : Vec Ideal S256x8192 .fp8e4m3) (Y : Vec Ideal S4096x8192 .fp8e4m3) (h : ∀ j0 j1, X (ix2 j0 j1) = Y (ix2 (gRow t j0) j1)) :
    (cfg0.win 3).cut (grid0.coords t) X = ((cfg0.win 3).blk t).view.read (Elt Ideal) Y := by
  funext j
  change S256x8192.Idx at j
  show X j = Y (((cfg0.win 3).blk t).view.emb j)
  idx_vars j
  rw [emb3_eq]
  exact h j0 j1

theorem flushed3_eq (c : Dev nD) (t : Fin cfg0.N) :
    (dats m 0 c).flushed 3 t = ((cfg0.win 3).blk t).view.read (Elt Ideal) (G3 (V m c main_arg0) (V m c main_arg1) (V m c main_arg2)) := by
  rw [Value.flushed3, out3_eq, iblk1_eq]
  refine at3 t _ _ fun j0 j1 => ?_
  exact Cert.NormRows.codes_same _ _ _ j0 (gRow t j0) (rows m c t j0) j1

theorem covered3 (i : S4096x8192.Idx) :
    ∃ t : Fin cfg0.N, (cfg0.win 3).flush t = true ∧ i ∈ ((cfg0.win 3).blk t).view.set := by
  idx_vars i
  have h0 : i0.val < 4096 := i0.isLt
  let t : Fin cfg0.N := ⟨i0.val / 256, by show _ < 16; omega⟩
  refine ⟨t, flush0_3 t, ?_⟩
  have h := ((cfg0.win 3).blk t).view.emb_mem_set (ix2 ⟨i0.val % 256, by omega⟩ i1 : S256x8192.Idx)
  rw [emb3_eq, show gRow t ⟨i0.val % 256, by omega⟩ = i0 from Fin.ext (by show 256 * (i0.val / 256) + i0.val % 256 = i0.val; omega)] at h
  exact h

theorem final3 (c : Dev nD) : (dats m 0 c).arrAt 3 cfg0.N
    = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2))
    (fun t _ => flushed3_eq m c t) covered3).trans (by rw [V_main_arg0, V_main_arg1, V_main_arg2])

/-! ### Output window 4 -/

theorem out4_eq (x0 : Vec Ideal S256x8192 .bf16) (x1 : Vec Ideal S1x8192 .f32) (x2 : Vec Ideal S64x8192 .bf16) :
    out0_4 x0 x1 x2 = k0_pay5 x0 x1 := by
  unfold out0_4
  rw [View.canon_unit_zero Cert.Whole.hz2, View.ld_unit_zero (S := S256x8192) Cert.Whole.hz2 _ x0, View.ld_unit_zero (S := S1x8192) Cert.Whole.hz2 _ x1]

theorem emb4_eq (t : Fin cfg0.N) (j0 : Fin 256) (j1 : Fin 1) :
    (((cfg0.win 4).blk t).view.emb (ix2 j0 j1 : S256x1.Idx) : S4096x1.Idx) = ix2 (gRow t j0) j1 := by
  obtain ⟨-, -, -, -, e, -⟩ := idx_eq t
  funext a; apply Fin.ext
  match a with
  | ⟨0, _⟩ => show win0_4.index t (0 : Fin 2) * 256 + 1 * j0.val = 256 * t.val + j0.val; omega
  | ⟨1, _⟩ => show win0_4.index t (1 : Fin 2) * 1 + 1 * j1.val = j1.val; omega

theorem at4 (t : Fin cfg0.N) (X : Vec Ideal S256x1 .f32) (Y : Vec Ideal S4096x1 .f32) (h : ∀ j0 j1, X (ix2 j0 j1) = Y (ix2 (gRow t j0) j1)) :
    (cfg0.win 4).cut (grid0.coords t) X = ((cfg0.win 4).blk t).view.read (Elt Ideal) Y := by
  funext j
  change S256x1.Idx at j
  show X j = Y (((cfg0.win 4).blk t).view.emb j)
  idx_vars j
  rw [emb4_eq]
  exact h j0 j1

theorem flushed4_eq (c : Dev nD) (t : Fin cfg0.N) :
    (dats m 0 c).flushed 4 t = ((cfg0.win 4).blk t).view.read (Elt Ideal) (G4 (V m c main_arg0) (V m c main_arg1) (V m c main_arg2)) := by
  rw [Value.flushed4, out4_eq, iblk1_eq]
  refine at4 t _ _ fun j0 j1 => ?_
  obtain rfl : j1 = (0 : Fin 1) := Subsingleton.elim (α := Fin 1) _ _
  exact Cert.NormRows.scale_same _ _ _ j0 (gRow t j0) (rows m c t j0)

theorem covered4 (i : S4096x1.Idx) :
    ∃ t : Fin cfg0.N, (cfg0.win 4).flush t = true ∧ i ∈ ((cfg0.win 4).blk t).view.set := by
  idx_vars i
  have h0 : i0.val < 4096 := i0.isLt
  let t : Fin cfg0.N := ⟨i0.val / 256, by show _ < 16; omega⟩
  refine ⟨t, flush0_4 t, ?_⟩
  have h := ((cfg0.win 4).blk t).view.emb_mem_set (ix2 ⟨i0.val % 256, by omega⟩ i1 : S256x1.Idx)
  rw [emb4_eq, show gRow t ⟨i0.val % 256, by omega⟩ = i0 from Fin.ext (by show 256 * (i0.val / 256) + i0.val % 256 = i0.val; omega)] at h
  exact h

theorem final4 (c : Dev nD) : (dats m 0 c).arrAt 4 cfg0.N
    = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2))
    (fun t _ => flushed4_eq m c t) covered4).trans (by rw [V_main_arg0, V_main_arg1, V_main_arg2])

/-! ### Output window 5 -/

theorem out5_eq (x0 : Vec Ideal S256x8192 .bf16) (x1 : Vec Ideal S1x8192 .f32) (x2 : Vec Ideal S64x8192 .bf16) :
    out0_5 x0 x1 x2 = k0_pay3 x0 := by
  unfold out0_5
  rw [View.canon_unit_zero Cert.Whole.hz2, View.ld_unit_zero (S := S256x8192) Cert.Whole.hz2 _ x0]

theorem emb5_eq (t : Fin cfg0.N) (j0 : Fin 256) (j1 : Fin 1) :
    (((cfg0.win 5).blk t).view.emb (ix2 j0 j1 : S256x1.Idx) : S4096x1.Idx) = ix2 (gRow t j0) j1 := by
  obtain ⟨-, -, -, -, -, e, -⟩ := idx_eq t
  funext a; apply Fin.ext
  match a with
  | ⟨0, _⟩ => show win0_5.index t (0 : Fin 2) * 256 + 1 * j0.val = 256 * t.val + j0.val; omega
  | ⟨1, _⟩ => show win0_5.index t (1 : Fin 2) * 1 + 1 * j1.val = j1.val; omega

theorem at5 (t : Fin cfg0.N) (X : Vec Ideal S256x1 .f32) (Y : Vec Ideal S4096x1 .f32) (h : ∀ j0 j1, X (ix2 j0 j1) = Y (ix2 (gRow t j0) j1)) :
    (cfg0.win 5).cut (grid0.coords t) X = ((cfg0.win 5).blk t).view.read (Elt Ideal) Y := by
  funext j
  change S256x1.Idx at j
  show X j = Y (((cfg0.win 5).blk t).view.emb j)
  idx_vars j
  rw [emb5_eq]
  exact h j0 j1

theorem flushed5_eq (c : Dev nD) (t : Fin cfg0.N) :
    (dats m 0 c).flushed 5 t = ((cfg0.win 5).blk t).view.read (Elt Ideal) (G5 (V m c main_arg0) (V m c main_arg1) (V m c main_arg2)) := by
  rw [Value.flushed5, out5_eq]
  refine at5 t _ _ fun j0 j1 => ?_
  obtain rfl : j1 = (0 : Fin 1) := Subsingleton.elim (α := Fin 1) _ _
  exact Cert.NormRows.rs_same _ _ j0 (gRow t j0) (rows m c t j0)

theorem covered5 (i : S4096x1.Idx) :
    ∃ t : Fin cfg0.N, (cfg0.win 5).flush t = true ∧ i ∈ ((cfg0.win 5).blk t).view.set := by
  idx_vars i
  have h0 : i0.val < 4096 := i0.isLt
  let t : Fin cfg0.N := ⟨i0.val / 256, by show _ < 16; omega⟩
  refine ⟨t, flush0_5 t, ?_⟩
  have h := ((cfg0.win 5).blk t).view.emb_mem_set (ix2 ⟨i0.val % 256, by omega⟩ i1 : S256x1.Idx)
  rw [emb5_eq, show gRow t ⟨i0.val % 256, by omega⟩ = i0 from Fin.ext (by show 256 * (i0.val / 256) + i0.val % 256 = i0.val; omega)] at h
  exact h

theorem final5 (c : Dev nD) : (dats m 0 c).arrAt 5 cfg0.N
    = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2))
    (fun t _ => flushed5_eq m c t) covered5).trans (by rw [V_main_arg0, V_main_arg1, V_main_arg2])

/-! ### Output window 6 -/

theorem out6_eq (x0 : Vec Ideal S256x8192 .bf16) (x1 : Vec Ideal S1x8192 .f32) (x2 : Vec Ideal S64x8192 .bf16) :
    out0_6 x0 x1 x2 = k0_pay1 (k0_pay4 x0 x1) x2 := by
  unfold out0_6
  rw [View.canon_unit_zero Cert.Whole.hz2, View.ld_unit_zero (S := S256x8192) Cert.Whole.hz2 _ x0, View.ld_unit_zero (S := S1x8192) Cert.Whole.hz2 _ x1, View.ld_unit_zero (S := S64x8192) Cert.Whole.hz2 _ x2]

theorem emb6_eq (t : Fin cfg0.N) (j0 : Fin 256) (j1 : Fin 64) :
    (((cfg0.win 6).blk t).view.emb (ix2 j0 j1 : S256x64.Idx) : S4096x64.Idx) = ix2 (gRow t j0) j1 := by
  obtain ⟨-, -, -, -, -, -, e⟩ := idx_eq t
  funext a; apply Fin.ext
  match a with
  | ⟨0, _⟩ => show win0_6.index t (0 : Fin 2) * 256 + 1 * j0.val = 256 * t.val + j0.val; omega
  | ⟨1, _⟩ => show win0_6.index t (1 : Fin 2) * 64 + 1 * j1.val = j1.val; omega

theorem at6 (t : Fin cfg0.N) (X : Vec Ideal S256x64 .bf16) (Y : Vec Ideal S4096x64 .bf16) (h : ∀ j0 j1, X (ix2 j0 j1) = Y (ix2 (gRow t j0) j1)) :
    (cfg0.win 6).cut (grid0.coords t) X = ((cfg0.win 6).blk t).view.read (Elt Ideal) Y := by
  funext j
  change S256x64.Idx at j
  show X j = Y (((cfg0.win 6).blk t).view.emb j)
  idx_vars j
  rw [emb6_eq]
  exact h j0 j1

theorem flushed6_eq (c : Dev nD) (t : Fin cfg0.N) :
    (dats m 0 c).flushed 6 t = ((cfg0.win 6).blk t).view.read (Elt Ideal) (G6 (V m c main_arg0) (V m c main_arg1) (V m c main_arg2)) := by
  rw [Value.flushed6, out6_eq, iblk1_eq, iblk2_eq]
  refine at6 t _ _ fun j0 j1 => ?_
  exact Cert.NormRows.lora_same _ _ _ _ j0 (gRow t j0) (rows m c t j0) j1

theorem covered6 (i : S4096x64.Idx) :
    ∃ t : Fin cfg0.N, (cfg0.win 6).flush t = true ∧ i ∈ ((cfg0.win 6).blk t).view.set := by
  idx_vars i
  have h0 : i0.val < 4096 := i0.isLt
  let t : Fin cfg0.N := ⟨i0.val / 256, by show _ < 16; omega⟩
  refine ⟨t, flush0_6 t, ?_⟩
  have h := ((cfg0.win 6).blk t).view.emb_mem_set (ix2 ⟨i0.val % 256, by omega⟩ i1 : S256x64.Idx)
  rw [emb6_eq, show gRow t ⟨i0.val % 256, by omega⟩ = i0 from Fin.ext (by show 256 * (i0.val / 256) + i0.val % 256 = i0.val; omega)] at h
  exact h

theorem final6 (c : Dev nD) : (dats m 0 c).arrAt 6 cfg0.N
    = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2))
    (fun t _ => flushed6_eq m c t) covered6).trans (by rw [V_main_arg0, V_main_arg1, V_main_arg2])

theorem algebraic : Cert.algebraic_NormIdeal_NormRefIdeal := fun m ρ m' ρ' _ hag => by
  refine ⟨fun c => G3 (m ((c : Thread nD τ).loc main_arg0)) (m ((c : Thread nD τ).loc main_arg1)) (m ((c : Thread nD τ).loc main_arg2)),
    fun c => G4 (m ((c : Thread nD τ).loc main_arg0)) (m ((c : Thread nD τ).loc main_arg1)) (m ((c : Thread nD τ).loc main_arg2)),
    fun c => G5 (m ((c : Thread nD τ).loc main_arg0)) (m ((c : Thread nD τ).loc main_arg1)) (m ((c : Thread nD τ).loc main_arg2)),
    fun c => G6 (m ((c : Thread nD τ).loc main_arg0)) (m ((c : Thread nD τ).loc main_arg1)) (m ((c : Thread nD τ).loc main_arg2)), ?_, ?_⟩
  · refine (θ_run _ _ _).mono (fun r h c => ?_) (Cert.NormIdeal.Value.run_blocks m ρ)
    obtain ⟨h3, h4, h5, h6, hk⟩ := h c
    exact ⟨h3.trans (final3 m c), h4.trans (final4 m c), h5.trans (final5 m c), h6.trans (final6 m c), hk⟩
  · refine (θ_run _ _ _).mono (fun r h c => ?_) (Cert.NormRefIdeal.Value.run m' ρ')
    obtain ⟨h3, h4, h5, h6, hk⟩ := h c
    obtain ⟨e0, e1, e2⟩ := hag c
    refine ⟨h3.trans ?_, h4.trans ?_, h5.trans ?_, h6.trans ?_, hk⟩ <;> rw [e0, e1, e2] <;> rfl

end Cert.NormIdeal.Hand

end
-- ==== Proof.Forward.Frame.lean ====
/-
  The FRAME of the forward call: on any memory its run ends, every argument array unchanged. What the body leaves in its
  buffers is not named here: the proof data relate nothing (`after := True`), and the run of one point is: from every
  buffer at any contents to every buffer at some contents, whichever of its two branches the point takes.
-/
module

public import proofs.«01_k».proof.Proof.Gen.Forward.Launch
public import proofs.«01_k».proof.Proof.Gen.Forward.Skeleton
public import proofs.«01_k».proof.Proof.Gen.Forward.Points
public import proofs.«01_k».proof.Proof.Gen.Forward.Frame
public import Idealize.ShloMosaic.Lib.Pipeline.FrameBody
public import Idealize.ShloMosaic.Lib.Tactic

@[expose] public section

set_option maxRecDepth 16384

noncomputable section

namespace Cert.Forward.Hand

open Cert.Forward.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c` owns the whole buffer `a` at some contents. -/
abbrev some_ (c : Dev nD) {S : Shape} {e : EltTy} (a : Memref sig .tc .vmem S e) : sProp 𝕄 :=
  iprop(∃ d, owns (c : Thread nD τ) a fullShare d)

set_option maxHeartbeats 4000000 in
/-- ONE POINT: the body, its buffers whole and owned at any contents, runs, and hands every buffer back at some contents. -/
theorem run_any (c : Dev nD) (i : grid0.Coords)
    (a2 : Memref sig .tc .vmem S1024x8192 .fp8e4m3) (h2 : a2.IsWhole) (a3 : Memref sig .tc .vmem S768x8192 .fp8e4m3) (h3 : a3.IsWhole)
    (a4 : Memref sig .tc .vmem S1024x1 .f32) (h4 : a4.IsWhole) (a5 : Memref sig .tc .vmem S1x768 .f32) (h5 : a5.IsWhole)
    (a6 : Memref sig .tc .vmem S1024x64 .bf16) (h6 : a6.IsWhole) (a7 : Memref sig .tc .vmem S768x64 .bf16) (h7 : a7.IsWhole)
    (a8 : Memref sig .tc .vmem S1024x1 .i32) (h8 : a8.IsWhole) (a9 : Memref sig .tc .vmem S1024x768 .f32) (h9 : a9.IsWhole)
    (a10 : Memref sig .tc .vmem S1024x1 .f32) (h10 : a10.IsWhole) (a11 : Memref sig .tc .vmem S1024x1 .f32) (h11 : a11.IsWhole)
    (a12 : Memref sig .tc .vmem S1024x128 .f32) (h12 : a12.IsWhole) (a13 : Memref sig .tc .vmem S1024x128 .f32) (h13 : a13.IsWhole)
    (a14 : Memref sig .tc .vmem S1024x128 .f32) (h14 : a14.IsWhole)
    (E : Set ℕ) (K : PUnit → sProp 𝕄) :
    iprop(some_ c a2 ∗ some_ c a3 ∗ some_ c a4 ∗ some_ c a5 ∗ some_ c a6 ∗ some_ c a7 ∗ some_ c a8 ∗ some_ c a9 ∗ some_ c a10 ∗ some_ c a11
        ∗ some_ c a12 ∗ some_ c a13 ∗ some_ c a14
        ∗ (iprop(some_ c a2 ∗ some_ c a3 ∗ some_ c a4 ∗ some_ c a5 ∗ some_ c a6 ∗ some_ c a7 ∗ some_ c a8 ∗ some_ c a9 ∗ some_ c a10
            ∗ some_ c a11 ∗ some_ c a12 ∗ some_ c a13 ∗ some_ c a14) -∗ K ⟨⟩))
      ⊢ wp frame (wpE (defs₀ (F := F)) Variants.none c none) E
          (cc0_forward i a2 h2 a3 h3 a4 h4 a5 h5 a6 h6 a7 h7 a8 h8 a9 h9 a10 h10 a11 h11 a12 h12 a13 h13 a14 h14) K := by
  simp only [cc0_forward_eq_skeleton]; unfold cc0_forward_skel
  simp only [k0_part1_eq_skeleton, k0_part2_eq_skeleton]
  unfold some_ owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  by_cases hc0 : (Scalar.cmpi .ne (Scalar.extui (Scalar.cmpi .eq (BitVec.ofNat 32 (i 1).val) 0#32)) 0#32) = 1#1 <;>
  by_cases hc1 : k0_cond2 i = 1#1
  all_goals
    sl_exec (disch := first | sl_exact hc0 | sl_exact hc1)
    sl_step
    iapply Hk
    isplitl [H2]; · iexists _, _; isplitr; swap; · iexact H2
                    ipureintro; rfl
    isplitl [H3]; · iexists _, _; isplitr; swap; · iexact H3
                    ipureintro; rfl
    isplitl [H4]; · iexists _, _; isplitr; swap; · iexact H4
                    ipureintro; rfl
    isplitl [H5]; · iexists _, _; isplitr; swap; · iexact H5
                    ipureintro; rfl
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    isplitl [H9]; · iexists _, _; isplitr; swap; · iexact H9
                    ipureintro; rfl
    isplitl [H10]; · iexists _, _; isplitr; swap; · iexact H10
                     ipureintro; rfl
    isplitl [H11]; · iexists _, _; isplitr; swap; · iexact H11
                     ipureintro; rfl
    isplitl [H12]; · iexists _, _; isplitr; swap; · iexact H12
                     ipureintro; rfl
    isplitl [H13]; · iexists _, _; isplitr; swap; · iexact H13
                     ipureintro; rfl
    iexists _, _; isplitr; swap; · iexact H14
    ipureintro; rfl

/-- The proof data: the arrays as launched, nothing said of what the body leaves, the scratch at anything throughout. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The scratch and the generator register, the scratch as memrefs. -/
theorem Phi_eq (c : Dev nD) :
    (Pipeline.ΦA spec0 c : sProp 𝕄)
      = iprop(iprop(some_ c (Memref.whole cc0_scratch0) ∗ some_ c (Memref.whole cc0_scratch1) ∗ some_ c (Memref.whole cc0_scratch2)) ∗ (∃ r, prngReg c r)) := by
  unfold Pipeline.ΦA some_; rw [scopedRest0_eq]; simp only [owns_whole]; try rfl

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body obligation at every point. -/
theorem body (c : Dev nD) : (rdat (F := F) m c).BodyObligation (defs₀ (F := F)) Variants.none () Set.univ := fun t Y hY => by
  rw [bigSep_W0, bigSep_W0, defs₀_row]
  rw [show (rdat m c).Φ t.castSucc = Pipeline.ΦA spec0 c from rfl, show (rdat m c).Φ t.succ = Pipeline.ΦA spec0 c from rfl,
    show (rdat m c).owesAt () t.succ = (rdat m c).owesAt () t.castSucc from rfl, Phi_eq]
  unfold bodyAt0
  iintro ⟨⟨⟨HS0, HS1, HS2⟩, Hg⟩, Ho, H0, H1, H2, H3, H4, H5, H6, H7, H8, H9⟩
  iapply (run_any c (cfg0.grid.coords t) _ _ _ _ _ _ _ _ _ _ _ _ _ _ _ _ _ _ _ _ _ _ _ _ _ _ Set.univ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexists _; isplitr; swap; · iexact H0
                  ipureintro; trivial
  isplitl [H1]; · iexists _; isplitr; swap; · iexact H1
                  ipureintro; trivial
  isplitl [H2]; · iexists _; isplitr; swap; · iexact H2
                  ipureintro; trivial
  isplitl [H3]; · iexists _; isplitr; swap; · iexact H3
                  ipureintro; trivial
  isplitl [H4]; · iexists _; isplitr; swap; · iexact H4
                  ipureintro; trivial
  isplitl [H5]; · iexists _; isplitr; swap; · iexact H5
                  ipureintro; trivial
  isplitl [H6]; · iexists _; isplitr; swap; · iexact H6
                  ipureintro; trivial
  isplitl [H7]; · iexists _; isplitr; swap; · iexact H7
                  ipureintro; trivial
  isplitl [H8]; · iexists _; isplitr; swap; · iexact H8
                  ipureintro; trivial
  iexists _; isplitr; swap; · iexact H9
  ipureintro; trivial

set_option backward.isDefEq.respectTransparency.types false in
/-- THE LAUNCH: every execution ends with the inputs' arrays as launched and every semaphore at zero. -/
theorem run_main : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := body m) (hshare := fun c => (rdat m c).share_full fun _ => rfl)
    (howed := fun _ _ => rfl) (V := V m) (hmain := hmain m Variants.none) (hA := fun _ _ => rfl) (hΦ := fun _ _ => rfl)

/-- THE FRAME: the seven argument arrays end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨RDat.FramePost.arr_in h.1 c 0 rfl, RDat.FramePost.arr_in h.1 c 1 rfl,
    RDat.FramePost.arr_in h.1 c 2 rfl, RDat.FramePost.arr_in h.1 c 3 rfl, RDat.FramePost.arr_in h.1 c 4 rfl,
    RDat.FramePost.arr_in h.1 c 5 rfl, RDat.FramePost.arr_in h.1 c 6 rfl⟩, h.2⟩) (run_main m ρ)

end Cert.Forward.Hand

end
-- ==== Proof.Forward.Point.lean ====
/-
  ONE POINT of the forward call: what the body leaves in each buffer, as a function of what it finds there.
-/
module

public import proofs.«01_k».proof.Proof.Whole
public import proofs.«01_k».proof.Proof.Gen.ForwardIdeal.Launch
public import proofs.«01_k».proof.Proof.Gen.ForwardIdeal.Skeleton
public import proofs.«01_k».proof.Proof.Gen.ForwardIdeal.Points
public import proofs.«01_k».proof.Proof.Gen.ForwardIdeal.Frame
public import Idealize.ShloMosaic.Lib.Pipeline.FrameBody
public import Idealize.ShloMosaic.Lib.Tactic
public import Idealize.ShloMosaic.Lib.Pipeline.ValueKit.Acc

@[expose] public section

set_option maxRecDepth 16384

noncomputable section

namespace Cert.ForwardIdeal.Hand

open Cert.ForwardIdeal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The two branches: the first column block of a row block, and the last. -/
abbrev first (i : grid0.Coords) : Prop :=
  (Scalar.cmpi .ne (Scalar.extui (Scalar.cmpi .eq (BitVec.ofNat 32 (i 1).val) 0#32)) 0#32) = 1#1
abbrev last (i : grid0.Coords) : Prop := k0_cond2 i = 1#1

section Step

variable (i : grid0.Coords) (x0 : Vec F S1024x8192 .fp8e4m3) (x1 : Vec F S768x8192 .fp8e4m3) (x2 : Vec F S1024x1 .f32)
  (x3 : Vec F S1x768 .f32) (x4 : Vec F S1024x64 .bf16) (x5 : Vec F S768x64 .bf16) (x6 : Vec F S1024x1 .i32)
  (M S P : Vec F S1024x128 .f32)

/-- The block of logits. -/
def blkL : Vec F S1024x768 .f32 := k0_pay14 i x0 x1 x4 x5 x2 x3
/-- The running maximum, lane by lane, after the block. -/
def newM : Vec F S1024x128 .f32 := k0_pay16 (blkL i x0 x1 x2 x3 x4 x5) (k0_pay15 i x0 x1 x4 x5 x2 x3 M)
/-- The running sum of exponentials, all but the block's last two lane groups added. -/
def midS : Vec F S1024x128 .f32 := k0_pay22 (blkL i x0 x1 x2 x3 x4 x5) M (k0_pay15 i x0 x1 x4 x5 x2 x3 M) S
/-- The running sum of exponentials after the block. -/
def newS : Vec F S1024x128 .f32 := k0_pay3 (blkL i x0 x1 x2 x3 x4 x5) (newM i x0 x1 x2 x3 x4 x5 M) (midS i x0 x1 x2 x3 x4 x5 M S)
/-- The label's logit, lane by lane, after the block. -/
def newP : Vec F S1024x128 .f32 :=
  k0_pay4 (k0_pay13 i) (blkL i x0 x1 x2 x3 x4 x5) x6 (k0_pay20 (k0_pay13 i) (blkL i x0 x1 x2 x3 x4 x5) P x6)
    (k0_pay21 (blkL i x0 x1 x2 x3 x4 x5)) (k0_pay23 (k0_pay13 i) x6)
/-- The logsumexp of the lanes, -/
def lseOf : Vec F S1024x1 .f32 := k0_pay8 (blkL i x0 x1 x2 x3 x4 x5) (newM i x0 x1 x2 x3 x4 x5 M) (midS i x0 x1 x2 x3 x4 x5 M S)
/-- and the label's log probability. -/
def lpOf : Vec F S1024x1 .f32 :=
  k0_pay9 (k0_pay13 i) (blkL i x0 x1 x2 x3 x4 x5) (newM i x0 x1 x2 x3 x4 x5 M) x6
    (k0_pay20 (k0_pay13 i) (blkL i x0 x1 x2 x3 x4 x5) P x6) (k0_pay21 (blkL i x0 x1 x2 x3 x4 x5))
    (midS i x0 x1 x2 x3 x4 x5 M S) (k0_pay23 (k0_pay13 i) x6)

end Step

set_option maxHeartbeats 4000000 in
/-- ONE POINT: with the running maximum, sum and label logit at `M`, `S`, `P` (in the first block of a row block whatever
    the buffers held: there they are reset), the body leaves the block of logits, the three updated, and — in the last
    block — the logsumexp and the label's log probability. -/
theorem run_point (c : Dev nD) (i : grid0.Coords)
    (a2 : Memref sig .tc .vmem S1024x8192 .fp8e4m3) (h2 : a2.IsWhole) (a3 : Memref sig .tc .vmem S768x8192 .fp8e4m3) (h3 : a3.IsWhole)
    (a4 : Memref sig .tc .vmem S1024x1 .f32) (h4 : a4.IsWhole) (a5 : Memref sig .tc .vmem S1x768 .f32) (h5 : a5.IsWhole)
    (a6 : Memref sig .tc .vmem S1024x64 .bf16) (h6 : a6.IsWhole) (a7 : Memref sig .tc .vmem S768x64 .bf16) (h7 : a7.IsWhole)
    (a8 : Memref sig .tc .vmem S1024x1 .i32) (h8 : a8.IsWhole) (a9 : Memref sig .tc .vmem S1024x768 .f32) (h9 : a9.IsWhole)
    (a10 : Memref sig .tc .vmem S1024x1 .f32) (h10 : a10.IsWhole) (a11 : Memref sig .tc .vmem S1024x1 .f32) (h11 : a11.IsWhole)
    (a12 : Memref sig .tc .vmem S1024x128 .f32) (h12 : a12.IsWhole) (a13 : Memref sig .tc .vmem S1024x128 .f32) (h13 : a13.IsWhole)
    (a14 : Memref sig .tc .vmem S1024x128 .f32) (h14 : a14.IsWhole)
    (x0 : Vec F S1024x8192 .fp8e4m3) (x1 : Vec F S768x8192 .fp8e4m3) (x2 : Vec F S1024x1 .f32)
    (x3 : Vec F S1x768 .f32) (x4 : Vec F S1024x64 .bf16) (x5 : Vec F S768x64 .bf16) (x6 : Vec F S1024x1 .i32)
    (d9 : Vec F S1024x768 .f32) (d10 d11 : Vec F S1024x1 .f32) (y0 y1 y2 M S P : Vec F S1024x128 .f32)
    (h : first i ∧ M = k0_pay10 ∧ S = k0_pay11 ∧ P = k0_pay12 ∨ ¬first i ∧ M = y0 ∧ S = y1 ∧ P = y2)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare d9 ∗ owns (c : Thread nD τ) a10 fullShare d10
        ∗ owns (c : Thread nD τ) a11 fullShare d11 ∗ owns (c : Thread nD τ) a12 fullShare y0 ∗ owns (c : Thread nD τ) a13 fullShare y1
        ∗ owns (c : Thread nD τ) a14 fullShare y2
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare x6 ∗ owns (c : Thread nD τ) a9 fullShare (blkL i x0 x1 x2 x3 x4 x5)
            ∗ (∃ X, ⌜last i → X = lseOf i x0 x1 x2 x3 x4 x5 M S⌝ ∗ owns (c : Thread nD τ) a10 fullShare X)
            ∗ (∃ X, ⌜last i → X = lpOf i x0 x1 x2 x3 x4 x5 x6 M S P⌝ ∗ owns (c : Thread nD τ) a11 fullShare X)
            ∗ owns (c : Thread nD τ) a12 fullShare (newM i x0 x1 x2 x3 x4 x5 M)
            ∗ owns (c : Thread nD τ) a13 fullShare (newS i x0 x1 x2 x3 x4 x5 M S)
            ∗ owns (c : Thread nD τ) a14 fullShare (newP i x0 x1 x2 x3 x4 x5 x6 P)) -∗ K ⟨⟩))
      ⊢ wp frame (wpE (defs₀ (F := F)) Variants.none c none) E
          (cc0_forward i a2 h2 a3 h3 a4 h4 a5 h5 a6 h6 a7 h7 a8 h8 a9 h9 a10 h10 a11 h11 a12 h12 a13 h13 a14 h14) K := by
  simp only [cc0_forward_eq_skeleton]; unfold cc0_forward_skel
  simp only [k0_part1_eq_skeleton, k0_part2_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  rcases h with ⟨hc0, rfl, rfl, rfl⟩ | ⟨hc0, rfl, rfl, rfl⟩ <;> by_cases hc1 : last i
  all_goals
    sl_exec (disch := first | sl_exact hc0 | sl_exact hc1)
    sl_step
    iapply Hk
    isplitl [H2]; · iexists _; isplitr; swap; · iexact H2
                    ipureintro; exact e2
    isplitl [H3]; · iexists _; isplitr; swap; · iexact H3
                    ipureintro; exact e3
    isplitl [H4]; · iexists _; isplitr; swap; · iexact H4
                    ipureintro; exact e4
    isplitl [H5]; · iexists _; isplitr; swap; · iexact H5
                    ipureintro; exact e5
    isplitl [H6]; · iexists _; isplitr; swap; · iexact H6
                    ipureintro; exact e6
    isplitl [H7]; · iexists _; isplitr; swap; · iexact H7
                    ipureintro; exact e7
    isplitl [H8]; · iexists _; isplitr; swap; · iexact H8
                    ipureintro; exact e8
    isplitl [H9]; · iexists _; isplitr; swap; · iexact H9
                    ipureintro
                    sl_unfold_words
                    rw [read_last _ _ hz2]
                    simp (disch := decide) only [View.readAt_eq_ld, e2, e3, e4, e5, e6, e7, e8, View.ld_unit_lit']
                    rfl
    isplitl [H10]; · iexists _; isplitr; swap; · iexists _; isplitr; swap; · iexact H10
                                                 ipureintro; rfl
                     ipureintro; intro hl
                     first
                     | exact absurd hl hc1
                     | sl_unfold_words
                       rw [read_last _ _ hz2]
                       simp (disch := decide) only [View.readAt_eq_ld, e2, e3, e4, e5, e6, e7, e8, e12, e13, e14, View.ld_unit_lit', View.readCov_unit_lit', View.readCov_cons_unit_lit', k0_pay5, k0_pay6, k0_pay7, shapeCast_self]
                       rfl
    isplitl [H11]; · iexists _; isplitr; swap; · iexists _; isplitr; swap; · iexact H11
                                                 ipureintro; rfl
                     ipureintro; intro hl
                     first
                     | exact absurd hl hc1
                     | sl_unfold_words
                       rw [read_last _ _ hz2]
                       simp (disch := decide) only [View.readAt_eq_ld, e2, e3, e4, e5, e6, e7, e8, e12, e13, e14, View.ld_unit_lit', View.readCov_unit_lit', View.readCov_cons_unit_lit', k0_pay5, k0_pay6, k0_pay7, shapeCast_self]
                       rfl
    isplitl [H12]; · iexists _; isplitr; swap; · iexact H12
                     ipureintro
                     sl_unfold_words
                     rw [read_last _ _ hz2]
                     simp (disch := decide) only [View.readAt_eq_ld, e2, e3, e4, e5, e6, e7, e8, e12, e13, e14, View.ld_unit_lit', View.readCov_unit_lit', View.readCov_cons_unit_lit', k0_pay5, shapeCast_self]
                     rfl
    isplitl [H13]; · iexists _; isplitr; swap; · iexact H13
                     ipureintro
                     sl_unfold_words
                     rw [read_last _ _ hz2]
                     simp (disch := decide) only [View.readAt_eq_ld, e2, e3, e4, e5, e6, e7, e8, e12, e13, e14, View.ld_unit_lit', View.readCov_unit_lit', View.readCov_cons_unit_lit', k0_pay6, shapeCast_self]
                     rfl
    iexists _; isplitr; swap; · iexact H14
    ipureintro
    sl_unfold_words
    rw [read_last _ _ hz2]
    simp (disch := decide) only [View.readAt_eq_ld, e2, e3, e4, e5, e6, e7, e8, e12, e13, e14, View.ld_unit_lit', View.readCov_unit_lit', View.readCov_cons_unit_lit', k0_pay7, shapeCast_self]
    rfl

end Cert.ForwardIdeal.Hand

end
-- ==== Proof.Forward.Block.lean ====
/-
  ONE BLOCK of the forward call over the reals: the logits it computes are the row's logits at the block's columns, and the
  lane statistics move by six column groups.
-/
module

public import proofs.«01_k».proof.Proof.Forward.Point
public import proofs.«01_k».proof.Proof.Forward.Lanes
public import Idealize.ShloMosaic.Lib.Pointwise
public import Idealize.ShloMosaic.Lib.WordCmp

@[expose] public section

set_option maxRecDepth 16384

noncomputable section

namespace Cert.ForwardIdeal.Hand

open Cert.ForwardIdeal.Gen Cert.Lanes
open Idealize.ShloMosaic Idealize.ShloMosaic.TcCoe

/-- The call's arguments: the quantised tokens, the quantised table, their scales, the two low-rank factors, the labels. -/
structure Args where
  xq : Vec Ideal S4096x8192 .fp8e4m3
  wq : Vec Ideal S16032x8192 .fp8e4m3
  xs : Vec Ideal S4096x1 .f32
  ws : Vec Ideal S1x16032 .f32
  u : Vec Ideal S4096x64 .bf16
  b : Vec Ideal S16032x64 .bf16
  lab : Vec Ideal S4096x1 .i32

namespace Args
variable (A : Args)

/-- The logit of token `R` at vocabulary entry `c`. -/
def logit (R : Fin 4096) (c : Fin 16032) : EReal :=
  (∑ k : Fin 8192, A.xq (ix2 R k) * A.wq (ix2 c k)) * A.xs (ix2 R 0) * A.ws (ix2 0 c)
    + Ideal.ofBits .f32 0x40000000#32 * ∑ k : Fin 64, A.u (ix2 R k) * A.b (ix2 c k)

/-- A row of logits by column number, −∞ beyond the vocabulary. -/
def row (R : Fin 4096) (c : ℕ) : EReal := if h : c < 16032 then A.logit R ⟨c, h⟩ else ⊥

theorem row_pad (R : Fin 4096) {c : ℕ} (h : 16032 ≤ c) : A.row R c = ⊥ := dif_neg (by omega)

/-- The row with everything but the label's column at zero. -/
def pick (R : Fin 4096) (c : ℕ) : EReal := if BitVec.ofNat 32 c = A.lab (ix2 R 0) then A.row R c else 0

/-- The logsumexp of a row of logits, by way of its maximum. -/
def lse (R : Fin 4096) : EReal :=
  (Finset.range 16032).sup (A.row R)
    + Ideal.log (∑ c ∈ Finset.range 16032, Ideal.exp (A.row R c - (Finset.range 16032).sup (A.row R)))

end Args

theorem ofBits_bot : Ideal.ofBits .f32 0xFF800000#32 = ⊥ := by simp [Ideal.ofBits, Ideal.ieee]

/-- The row of the arrays that row `r` of row block `i` is. -/
def gRow (i : grid0.Coords) (r : Fin 1024) : Fin 4096 :=
  ⟨1024 * (i 0).val + r.val, by have h : (i 0).val < 4 := (i 0).isLt; have := r.isLt; omega⟩

/-- The staged blocks hold the arguments' rows and, as far as there are any, columns of the point. -/
structure Sees (A : Args) (i : grid0.Coords) (x0 : Vec Ideal S1024x8192 .fp8e4m3) (x1 : Vec Ideal S768x8192 .fp8e4m3)
    (x2 : Vec Ideal S1024x1 .f32) (x3 : Vec Ideal S1x768 .f32) (x4 : Vec Ideal S1024x64 .bf16) (x5 : Vec Ideal S768x64 .bf16)
    (x6 : Vec Ideal S1024x1 .i32) : Prop where
  xq : ∀ r k, x0 (ix2 r k) = A.xq (ix2 (gRow i r) k)
  wq : ∀ (q : Fin 768) k (h : 768 * (i 1).val + q.val < 16032), x1 (ix2 q k) = A.wq (ix2 ⟨_, h⟩ k)
  xs : ∀ r, x2 (ix2 r 0) = A.xs (ix2 (gRow i r) 0)
  ws : ∀ (q : Fin 768) (h : 768 * (i 1).val + q.val < 16032), x3 (ix2 0 q) = A.ws (ix2 0 ⟨_, h⟩)
  u : ∀ r k, x4 (ix2 r k) = A.u (ix2 (gRow i r) k)
  b : ∀ (q : Fin 768) k (h : 768 * (i 1).val + q.val < 16032), x5 (ix2 q k) = A.b (ix2 ⟨_, h⟩ k)
  lab : ∀ r, x6 (ix2 r 0) = A.lab (ix2 (gRow i r) 0)

/-- The block's column numbers. -/
theorem pay13_apply (i : grid0.Coords) (r : Fin 1024) (q : Fin 768) :
    k0_pay13 i (ix2 r q) = BitVec.ofNat 32 (768 * (i 1).val + q.val) := by
  have h1 : (i 1).val < 21 := (i 1).isLt
  have hq := q.isLt
  pointwise [k0_pay13]
  apply BitVec.eq_of_toNat_eq
  simp only [IntOp.addi, Scalar.muli, IntOp.muli, BitVec.toNat_add, BitVec.toNat_mul, BitVec.toNat_ofNat]
  omega

/-- What a row block starts from: no group seen. -/
theorem pay10_apply (r : Fin 1024) (l : Fin 128) : k0_pay10 (F := Ideal) (ix2 r l) = ⊥ := by
  pointwise [k0_pay10]; exact ofBits_bot
theorem pay11_apply (r : Fin 1024) (l : Fin 128) : k0_pay11 (F := Ideal) (ix2 r l) = 0 := by
  pointwise [k0_pay11]
theorem pay12_apply (r : Fin 1024) (l : Fin 128) : k0_pay12 (F := Ideal) (ix2 r l) = 0 := by
  pointwise [k0_pay12]

section
variable {A : Args} {i : grid0.Coords} {x0 : Vec Ideal S1024x8192 .fp8e4m3} {x1 : Vec Ideal S768x8192 .fp8e4m3}
    {x2 : Vec Ideal S1024x1 .f32} {x3 : Vec Ideal S1x768 .f32} {x4 : Vec Ideal S1024x64 .bf16} {x5 : Vec Ideal S768x64 .bf16}
    {x6 : Vec Ideal S1024x1 .i32} (h : Sees A i x0 x1 x2 x3 x4 x5 x6)
include h

/-- The block's logits. -/
theorem blkL_apply (r : Fin 1024) (q : Fin 768) :
    blkL i x0 x1 x2 x3 x4 x5 (ix2 r q) = A.row (gRow i r) (768 * (i 1).val + q.val) := by
  have h1 : (i 1).val < 21 := (i 1).isLt
  have hq := q.isLt
  unfold blkL k0_pay14
  have e := pay13_apply i r q
  generalize k0_pay13 i = v at e
  pointwise [e, h.xq, h.xs, h.u]
  rw [WordCmp.cmpi_slt_ofNat (b := 16032) (by omega) (by omega)]
  unfold Args.row
  by_cases hc : 768 * (i 1).val + q.val < 16032
  · rw [dif_pos hc, decide_eq_true hc]
    simp only [h.wq q _ hc, h.ws q hc, h.b q _ hc]
    rfl
  · rw [dif_neg hc, decide_eq_false hc]
    exact IdealRules.named_const.ideal_named_scalar _ _ _ _ rfl

/-- The running maximum after the block is the maximum over six more groups. -/
theorem newM_apply (M : Vec Ideal S1024x128 .f32) (r : Fin 1024) (l : Fin 128)
    (hM : M (ix2 r l) = laneMax (A.row (gRow i r)) (6 * (i 1).val) l.val) :
    newM i x0 x1 x2 x3 x4 x5 M (ix2 r l) = laneMax (A.row (gRow i r)) (6 * (i 1).val + 6) l.val := by
  have eL := fun q => blkL_apply h r q
  unfold newM k0_pay15
  rw [show k0_pay14 i x0 x1 x4 x5 x2 x3 = blkL i x0 x1 x2 x3 x4 x5 from rfl]
  generalize blkL i x0 x1 x2 x3 x4 x5 = L at eL
  pointwise [k0_pay16, eL, hM]
  rw [laneMax_six]
  generalize (i 1).val = J
  simp only [show ∀ k, 128 * (6 * J + k) + l.val = 768 * J + (128 * k + l.val) from fun k => by ring,
    show 128 * (6 * J) + l.val = 768 * J + l.val by ring, Nat.reduceMul]

/-- The running sum after the block. -/
theorem newS_apply (M S : Vec Ideal S1024x128 .f32) (r : Fin 1024) (l : Fin 128)
    (hM : M (ix2 r l) = laneMax (A.row (gRow i r)) (6 * (i 1).val) l.val)
    (hS : S (ix2 r l) = laneSum (A.row (gRow i r)) (6 * (i 1).val) l.val) :
    newS i x0 x1 x2 x3 x4 x5 M S (ix2 r l) = laneSum (A.row (gRow i r)) (6 * (i 1).val + 6) l.val := by
  have eL := fun q => blkL_apply h r q
  have eM := newM_apply h M r l hM
  unfold newS midS k0_pay22
  rw [show k0_pay16 (blkL i x0 x1 x2 x3 x4 x5) (k0_pay15 i x0 x1 x4 x5 x2 x3 M) = newM i x0 x1 x2 x3 x4 x5 M from rfl]
  generalize newM i x0 x1 x2 x3 x4 x5 M = M' at eM
  generalize blkL i x0 x1 x2 x3 x4 x5 = L at eL
  pointwise [k0_pay3, k0_pay1, k0_pay2, k0_pay17, k0_pay18, k0_pay19, k0_pay21, eL, hM, hS, eM]
  rw [laneSum_six]
  generalize (i 1).val = J
  simp only [show ∀ k, 128 * (6 * J + k) + l.val = 768 * J + (128 * k + l.val) from fun k => by ring,
    show 128 * (6 * J) + l.val = 768 * J + l.val by ring, Nat.reduceMul]

/-- The label's logit after the block. -/
theorem newP_apply (P : Vec Ideal S1024x128 .f32) (r : Fin 1024) (l : Fin 128)
    (hP : P (ix2 r l) = lanePick (A.pick (gRow i r)) (6 * (i 1).val) l.val) :
    newP i x0 x1 x2 x3 x4 x5 x6 P (ix2 r l) = lanePick (A.pick (gRow i r)) (6 * (i 1).val + 6) l.val := by
  have eL := fun q => blkL_apply h r q
  have e := fun q => pay13_apply i r q
  unfold newP
  generalize blkL i x0 x1 x2 x3 x4 x5 = L at eL
  generalize k0_pay13 i = v at e
  pointwise [k0_pay4, k0_pay1, k0_pay2, k0_pay17, k0_pay18, k0_pay19, k0_pay20, k0_pay21, k0_pay23, eL, hP, e, h.lab]
  rw [lanePick_six]
  unfold Args.pick
  generalize (i 1).val = J
  simp only [show ∀ k, 128 * (6 * J + k) + l.val = 768 * J + (128 * k + l.val) from fun k => by ring,
    show 128 * (6 * J) + l.val = 768 * J + l.val by ring, Nat.reduceMul, WordCmp.cmpi_eq_eq, Scalar.select,
    show ∀ p : Prop, ∀ [Decidable p], (BitVec.ofBool (decide p) = 1) = p from fun p _ => propext (WordCmp.ofBool_decide_eq_one_iff p)]

/-- The logsumexp of the row, all its groups seen. -/
theorem lse_apply (M S : Vec Ideal S1024x128 .f32) (r : Fin 1024) (hl : (i 1).val = 20)
    (hM : ∀ l, M (ix2 r l) = laneMax (A.row (gRow i r)) (6 * (i 1).val) l.val)
    (hS : ∀ l, S (ix2 r l) = laneSum (A.row (gRow i r)) (6 * (i 1).val) l.val) :
    lseOf i x0 x1 x2 x3 x4 x5 M S (ix2 r 0) = A.lse (gRow i r) := by
  have eM := fun l => newM_apply h M r l (hM l)
  have eS := fun l => newS_apply h M S r l (hM l) (hS l)
  unfold lseOf k0_pay8
  have hS' : k0_pay3 (blkL i x0 x1 x2 x3 x4 x5) (newM i x0 x1 x2 x3 x4 x5 M) (midS i x0 x1 x2 x3 x4 x5 M S)
    = newS i x0 x1 x2 x3 x4 x5 M S := rfl
  rw [hS']
  generalize newS i x0 x1 x2 x3 x4 x5 M S = S' at eS
  generalize newM i x0 x1 x2 x3 x4 x5 M = M' at eM
  rw [hl] at eM eS
  pointwise [eM, eS]
  rw [ofBits_bot, fold_max_eq_sup (fun l => laneMax (A.row (gRow i r)) 126 l),
    sum_fin (fun l => laneSum (A.row (gRow i r)) 126 l * Ideal.exp (laneMax (A.row (gRow i r)) 126 l
      - (Finset.range 128).sup fun l => laneMax (A.row (gRow i r)) 126 l)), max_lanes, total_lanes, show 128 * 126 = 16128 from rfl,
    sup_pad (n := 16032) (by omega) (fun c hc => A.row_pad _ hc),
    sum_pad (n := 16032) (by omega) (fun c hc _ => by rw [A.row_pad _ hc, exp_bot_sub])]
  rfl

/-- The label's log probability. -/
theorem lp_apply (M S P : Vec Ideal S1024x128 .f32) (r : Fin 1024) (hl : (i 1).val = 20)
    (hM : ∀ l, M (ix2 r l) = laneMax (A.row (gRow i r)) (6 * (i 1).val) l.val)
    (hS : ∀ l, S (ix2 r l) = laneSum (A.row (gRow i r)) (6 * (i 1).val) l.val)
    (hP : ∀ l, P (ix2 r l) = lanePick (A.pick (gRow i r)) (6 * (i 1).val) l.val) :
    lpOf i x0 x1 x2 x3 x4 x5 x6 M S P (ix2 r 0)
      = (∑ c ∈ Finset.range 16128, A.pick (gRow i r) c) - A.lse (gRow i r) := by
  have e := lse_apply h M S r hl hM hS
  have eP := fun l => newP_apply h P r l (hP l)
  unfold lpOf k0_pay9
  have hX : k0_pay8 (blkL i x0 x1 x2 x3 x4 x5) (newM i x0 x1 x2 x3 x4 x5 M) (midS i x0 x1 x2 x3 x4 x5 M S)
    = lseOf i x0 x1 x2 x3 x4 x5 M S := rfl
  have hP' : k0_pay4 (k0_pay13 i) (blkL i x0 x1 x2 x3 x4 x5) x6 (k0_pay20 (k0_pay13 i) (blkL i x0 x1 x2 x3 x4 x5) P x6)
    (k0_pay21 (blkL i x0 x1 x2 x3 x4 x5)) (k0_pay23 (k0_pay13 i) x6) = newP i x0 x1 x2 x3 x4 x5 x6 P := rfl
  rw [hX, hP']
  generalize lseOf i x0 x1 x2 x3 x4 x5 M S = X at e
  generalize newP i x0 x1 x2 x3 x4 x5 x6 P = P' at eP
  rw [hl] at eP
  pointwise [e, eP]
  rw [sum_fin (fun l => lanePick (A.pick (gRow i r)) 126 l), pick_lanes]

end

end Cert.ForwardIdeal.Hand

end
-- ==== Proof.Forward.Track.lean ====
/-
  What the forward call's run is followed by: at every point the staged blocks are the arguments' rows and columns, the three
  lane buffers hold the statistics of the column groups seen so far, and what is written back are the logits, the logsumexp
  and the label's log probability.
-/
module

public import proofs.«01_k».proof.Proof.Forward.Block
public import proofs.«01_k».proof.Proof.Gen.ForwardIdeal.Launch
public import proofs.«01_k».proof.Proof.Gen.ForwardIdeal.Points
public import proofs.«01_k».proof.Proof.Gen.ForwardIdeal.Frame
public import Idealize.ShloMosaic.Lib.Pipeline.FrameBody
public import Idealize.ShloMosaic.Lib.Pipeline.ArrRel
public import Idealize.ShloMosaic.Lib.Tactic

@[expose] public section

set_option maxRecDepth 16384

noncomputable section

namespace Cert.ForwardIdeal.Hand

open Cert.ForwardIdeal.Gen Cert.Lanes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

local notation "𝕄" => MT nD τ sig Unit (Elt Ideal) ℕ (UR sig nD τ) ℕ

variable (m : (ℓ : Loc nD τ sig) → Buf (Elt Ideal) ℓ) (ρ : Dev nD → PrngReg)

/-- The arguments as launched. -/
def argsOf (c : Dev nD) : Args where
  xq := m ((c : Thread nD τ).loc main_arg0)
  wq := m ((c : Thread nD τ).loc main_arg1)
  xs := m ((c : Thread nD τ).loc main_arg2)
  ws := m ((c : Thread nD τ).loc main_arg3)
  u := m ((c : Thread nD τ).loc main_arg4)
  b := m ((c : Thread nD τ).loc main_arg5)
  lab := m ((c : Thread nD τ).loc main_arg6)

/-! ### Points -/

theorem coords_eq : ∀ t : Fin cfg0.N, (grid0.coords t 0).val = t.val / 21 ∧ (grid0.coords t 1).val = t.val % 21 :=
  (by decide +kernel : ∀ t : Fin grid0.N, _)

theorem first_iff (t : Fin cfg0.N) : first (grid0.coords t) ↔ t.val % 21 = 0 := by
  have h := (coords_eq t).2
  show (Scalar.cmpi .ne (Scalar.extui (Scalar.cmpi .eq (BitVec.ofNat 32 (grid0.coords t 1).val) 0#32)) 0#32) = 1#1 ↔ _
  rw [h]; word_cmp

theorem last_iff (t : Fin cfg0.N) : last (grid0.coords t) ↔ t.val % 21 = 20 := by
  have h := (coords_eq t).2
  show k0_cond2 (grid0.coords t) = 1#1 ↔ _
  unfold k0_cond2
  rw [h]; word_cmp

/-! ### What is kept -/

/-- Before point `n` the lane buffers hold the statistics of the row block's columns seen so far (before a row block's first
    point: anything). -/
def Inv (A : Args) (n : ℕ) (y0 y1 y2 : Vec Ideal S1024x128 .f32) : Prop :=
  n % 21 ≠ 0 → ∀ (r : Fin 1024) (R : Fin 4096) (l : Fin 128), R.val = 1024 * (n / 21) + r.val →
    y0 (ix2 r l) = laneMax (A.row R) (6 * (n % 21)) l.val ∧ y1 (ix2 r l) = laneSum (A.row R) (6 * (n % 21)) l.val
      ∧ y2 (ix2 r l) = lanePick (A.pick R) (6 * (n % 21)) l.val

/-- The block of logits of point `n`. -/
def Out7 (A : Args) (t : Fin cfg0.N) (X : Vec Ideal S1024x768 .f32) : Prop :=
  ∀ (r : Fin 1024) (q : Fin 768), X (ix2 r q) = A.row (gRow (grid0.coords t) r) (768 * (grid0.coords t 1).val + q.val)

/-- After a row block's last point: its logsumexps. -/
def Out8 (A : Args) (t : Fin cfg0.N) (X : Vec Ideal S1024x1 .f32) : Prop :=
  t.val % 21 = 20 → ∀ r : Fin 1024, X (ix2 r 0) = A.lse (gRow (grid0.coords t) r)

/-- After a row block's last point: its labels' log probabilities. -/
def Out9 (A : Args) (t : Fin cfg0.N) (X : Vec Ideal S1024x1 .f32) : Prop :=
  t.val % 21 = 20 → ∀ r : Fin 1024, X (ix2 r 0)
    = (∑ c ∈ Finset.range 16128, A.pick (gRow (grid0.coords t) r) c) - A.lse (gRow (grid0.coords t) r)

/-- What a point may leave in a window's buffer, of what it found. -/
def after (A : Args) : (w : Fin cfg0.W) → Fin cfg0.N → (Y X : (cfg0.win w).block.Idx → Elt Ideal (cfg0.win w).elt) → Prop
  | ⟨0, _⟩ => fun _ Y X => X = Y
  | ⟨1, _⟩ => fun _ Y X => X = Y
  | ⟨2, _⟩ => fun _ Y X => X = Y
  | ⟨3, _⟩ => fun _ Y X => X = Y
  | ⟨4, _⟩ => fun _ Y X => X = Y
  | ⟨5, _⟩ => fun _ Y X => X = Y
  | ⟨6, _⟩ => fun _ Y X => X = Y
  | ⟨7, _⟩ => fun t _ X => Out7 A t X
  | ⟨8, _⟩ => fun t _ X => Out8 A t X
  | ⟨9, _⟩ => fun t _ X => Out9 A t X
  | ⟨_ + 10, h⟩ => fun _ _ _ => True

/-- The lane buffers at what they hold before point `n`, and the generator register. -/
def Phi (c : Dev nD) (A : Args) (n : ℕ) : sProp 𝕄 :=
  iprop(∃ y0 y1 y2, ⌜Inv A n y0 y1 y2⌝ ∗ (owns (c : Thread nD τ) (Memref.whole cc0_scratch0) fullShare y0
    ∗ owns (c : Thread nD τ) (Memref.whole cc0_scratch1) fullShare y1
    ∗ owns (c : Thread nD τ) (Memref.whole cc0_scratch2) fullShare y2) ∗ (∃ r, prngReg c r))

def rdat (c : Dev nD) : RDat τ (Elt Ideal) Unit ℕ (UR sig nD τ) ℕ cfg0 c where
  A w := V m c (Pipeline.arrRef spec0 w)
  after := after (argsOf m c)
  Φ t := Phi c (argsOf m c) t.val
  q _ := fullShare
  owed _ := 0

/-! ### What a point finds staged -/

theorem idx_eq : ∀ t : Fin cfg0.N,
    (win0_0.index t (0 : Fin 2) = t.val / 21 ∧ win0_0.index t (1 : Fin 2) = 0)
    ∧ (win0_1.index t (0 : Fin 2) = t.val % 21 ∧ win0_1.index t (1 : Fin 2) = 0)
    ∧ (win0_2.index t (0 : Fin 2) = t.val / 21 ∧ win0_2.index t (1 : Fin 2) = 0)
    ∧ (win0_3.index t (0 : Fin 2) = 0 ∧ win0_3.index t (1 : Fin 2) = t.val % 21)
    ∧ (win0_4.index t (0 : Fin 2) = t.val / 21 ∧ win0_4.index t (1 : Fin 2) = 0)
    ∧ (win0_5.index t (0 : Fin 2) = t.val % 21 ∧ win0_5.index t (1 : Fin 2) = 0)
    ∧ (win0_6.index t (0 : Fin 2) = t.val / 21 ∧ win0_6.index t (1 : Fin 2) = 0)
    ∧ (win0_7.index t (0 : Fin 2) = t.val / 21 ∧ win0_7.index t (1 : Fin 2) = t.val % 21)
    ∧ (win0_8.index t (0 : Fin 2) = t.val / 21 ∧ win0_8.index t (1 : Fin 2) = 0)
    ∧ (win0_9.index t (0 : Fin 2) = t.val / 21 ∧ win0_9.index t (1 : Fin 2) = 0) :=
  (by decide +kernel : ∀ t : Fin grid0.N, _)

section
variable {m} {c : Dev nD} {t : Fin cfg0.N}

theorem get0 {Y} (hY : (rdat m c).Finds 0 t Y) (r : Fin 1024) (k : Fin 8192) :
    (Y : Vec Ideal S1024x8192 .fp8e4m3) (ix2 r k) = (argsOf m c).xq (ix2 (gRow (grid0.coords t) r) k) := by
  obtain ⟨d, rfl⟩ := (rdat m c).finds_in_eq_fetched 0 rfl
    (fun _ _ _ => rfl)
    (fun _ _ _ h => h) t Y hY
  have e := (idx_eq t).1
  have hc := coords_eq t
  have ht : t.val < 84 := t.isLt
  have h0 := r.isLt
  have h1 := k.isLt
  unfold RDat.fetched Window.fill
  rw [dif_pos (Cert.Whole.moved_of _ rfl _ _ fun a => by
    match a with
    | ⟨0, _⟩ => show win0_0.index t (0 : Fin 2) * 1024 + r.val < 4096; omega
    | ⟨1, _⟩ => show win0_0.index t (1 : Fin 2) * 8192 + k.val < 8192; omega)]
  show (argsOf m c).xq (((cfg0.win 0).blk t).view.emb _) = _
  congr 1; funext a; apply Fin.ext
  match a with
  | ⟨0, _⟩ => show win0_0.index t (0 : Fin 2) * 1024 + 1 * r.val = 1024 * (grid0.coords t 0).val + r.val; omega
  | ⟨1, _⟩ => show win0_0.index t (1 : Fin 2) * 8192 + 1 * k.val = k.val; omega

theorem get1 {Y} (hY : (rdat m c).Finds 1 t Y) (q : Fin 768) (k : Fin 8192) (h : 768 * (grid0.coords t 1).val + q.val < 16032) :
    (Y : Vec Ideal S768x8192 .fp8e4m3) (ix2 q k) = (argsOf m c).wq (ix2 ⟨_, h⟩ k) := by
  obtain ⟨d, rfl⟩ := (rdat m c).finds_in_eq_fetched 1 rfl
    (fun t t' h => funext fun a => by
      show Pipeline.Clip.of (win0_1.index t a) _ _ = Pipeline.Clip.of (win0_1.index t' a) _ _
      rw [show win0_1.index t = win0_1.index t' from h])
    (fun _ _ _ h => h) t Y hY
  have e := (idx_eq t).2.1
  have hc := coords_eq t
  have ht : t.val < 84 := t.isLt
  have h0 := q.isLt
  have h1 := k.isLt
  unfold RDat.fetched Window.fill
  rw [dif_pos (Cert.Whole.moved_of _ rfl _ _ fun a => by
    match a with
    | ⟨0, _⟩ => show win0_1.index t (0 : Fin 2) * 768 + q.val < 16032; omega
    | ⟨1, _⟩ => show win0_1.index t (1 : Fin 2) * 8192 + k.val < 8192; omega)]
  show (argsOf m c).wq (((cfg0.win 1).blk t).view.emb _) = _
  congr 1; funext a; apply Fin.ext
  match a with
  | ⟨0, _⟩ => show win0_1.index t (0 : Fin 2) * 768 + 1 * q.val = 768 * (grid0.coords t 1).val + q.val; omega
  | ⟨1, _⟩ => show win0_1.index t (1 : Fin 2) * 8192 + 1 * k.val = k.val; omega

theorem get2 {Y} (hY : (rdat m c).Finds 2 t Y) (r : Fin 1024) (z : Fin 1) :
    (Y : Vec Ideal S1024x1 .f32) (ix2 r z) = (argsOf m c).xs (ix2 (gRow (grid0.coords t) r) z) := by
  obtain ⟨d, rfl⟩ := (rdat m c).finds_in_eq_fetched 2 rfl
    (fun _ _ _ => rfl)
    (fun _ _ _ h => h) t Y hY
  have e := (idx_eq t).2.2.1
  have hc := coords_eq t
  have ht : t.val < 84 := t.isLt
  have h0 := r.isLt
  have h1 := z.isLt
  unfold RDat.fetched Window.fill
  rw [dif_pos (Cert.Whole.moved_of _ rfl _ _ fun a => by
    match a with
    | ⟨0, _⟩ => show win0_2.index t (0 : Fin 2) * 1024 + r.val < 4096; omega
    | ⟨1, _⟩ => show win0_2.index t (1 : Fin 2) * 1 + z.val < 1; omega)]
  show (argsOf m c).xs (((cfg0.win 2).blk t).view.emb _) = _
  congr 1; funext a; apply Fin.ext
  match a with
  | ⟨0, _⟩ => show win0_2.index t (0 : Fin 2) * 1024 + 1 * r.val = 1024 * (grid0.coords t 0).val + r.val; omega
  | ⟨1, _⟩ => show win0_2.index t (1 : Fin 2) * 1 + 1 * z.val = z.val; omega

theorem get3 {Y} (hY : (rdat m c).Finds 3 t Y) (z : Fin 1) (q : Fin 768) (h : 768 * (grid0.coords t 1).val + q.val < 16032) :
    (Y : Vec Ideal S1x768 .f32) (ix2 z q) = (argsOf m c).ws (ix2 z ⟨_, h⟩) := by
  obtain ⟨d, rfl⟩ := (rdat m c).finds_in_eq_fetched 3 rfl
    (fun t t' h => funext fun a => by
      show Pipeline.Clip.of (win0_3.index t a) _ _ = Pipeline.Clip.of (win0_3.index t' a) _ _
      rw [show win0_3.index t = win0_3.index t' from h])
    (fun _ _ _ h => h) t Y hY
  have e := (idx_eq t).2.2.2.1
  have hc := coords_eq t
  have ht : t.val < 84 := t.isLt
  have h0 := z.isLt
  have h1 := q.isLt
  unfold RDat.fetched Window.fill
  rw [dif_pos (Cert.Whole.moved_of _ rfl _ _ fun a => by
    match a with
    | ⟨0, _⟩ => show win0_3.index t (0 : Fin 2) * 1 + z.val < 1; omega
    | ⟨1, _⟩ => show win0_3.index t (1 : Fin 2) * 768 + q.val < 16032; omega)]
  show (argsOf m c).ws (((cfg0.win 3).blk t).view.emb _) = _
  congr 1; funext a; apply Fin.ext
  match a with
  | ⟨0, _⟩ => show win0_3.index t (0 : Fin 2) * 1 + 1 * z.val = z.val; omega
  | ⟨1, _⟩ => show win0_3.index t (1 : Fin 2) * 768 + 1 * q.val = 768 * (grid0.coords t 1).val + q.val; omega

theorem get4 {Y} (hY : (rdat m c).Finds 4 t Y) (r : Fin 1024) (k : Fin 64) :
    (Y : Vec Ideal S1024x64 .bf16) (ix2 r k) = (argsOf m c).u (ix2 (gRow (grid0.coords t) r) k) := by
  obtain ⟨d, rfl⟩ := (rdat m c).finds_in_eq_fetched 4 rfl
    (fun _ _ _ => rfl)
    (fun _ _ _ h => h) t Y hY
  have e := (idx_eq t).2.2.2.2.1
  have hc := coords_eq t
  have ht : t.val < 84 := t.isLt
  have h0 := r.isLt
  have h1 := k.isLt
  unfold RDat.fetched Window.fill
  rw [dif_pos (Cert.Whole.moved_of _ rfl _ _ fun a => by
    match a with
    | ⟨0, _⟩ => show win0_4.index t (0 : Fin 2) * 1024 + r.val < 4096; omega
    | ⟨1, _⟩ => show win0_4.index t (1 : Fin 2) * 64 + k.val < 64; omega)]
  show (argsOf m c).u (((cfg0.win 4).blk t).view.emb _) = _
  congr 1; funext a; apply Fin.ext
  match a with
  | ⟨0, _⟩ => show win0_4.index t (0 : Fin 2) * 1024 + 1 * r.val = 1024 * (grid0.coords t 0).val + r.val; omega
  | ⟨1, _⟩ => show win0_4.index t (1 : Fin 2) * 64 + 1 * k.val = k.val; omega

theorem get5 {Y} (hY : (rdat m c).Finds 5 t Y) (q : Fin 768) (k : Fin 64) (h : 768 * (grid0.coords t 1).val + q.val < 16032) :
    (Y : Vec Ideal S768x64 .bf16) (ix2 q k) = (argsOf m c).b (ix2 ⟨_, h⟩ k) := by
  obtain ⟨d, rfl⟩ := (rdat m c).finds_in_eq_fetched 5 rfl
    (fun t t' h => funext fun a => by
      show Pipeline.Clip.of (win0_5.index t a) _ _ = Pipeline.Clip.of (win0_5.index t' a) _ _
      rw [show win0_5.index t = win0_5.index t' from h])
    (fun _ _ _ h => h) t Y hY
  have e := (idx_eq t).2.2.2.2.2.1
  have hc := coords_eq t
  have ht : t.val < 84 := t.isLt
  have h0 := q.isLt
  have h1 := k.isLt
  unfold RDat.fetched Window.fill
  rw [dif_pos (Cert.Whole.moved_of _ rfl _ _ fun a => by
    match a with
    | ⟨0, _⟩ => show win0_5.index t (0 : Fin 2) * 768 + q.val < 16032; omega
    | ⟨1, _⟩ => show win0_5.index t (1 : Fin 2) * 64 + k.val < 64; omega)]
  show (argsOf m c).b (((cfg0.win 5).blk t).view.emb _) = _
  congr 1; funext a; apply Fin.ext
  match a with
  | ⟨0, _⟩ => show win0_5.index t (0 : Fin 2) * 768 + 1 * q.val = 768 * (grid0.coords t 1).val + q.val; omega
  | ⟨1, _⟩ => show win0_5.index t (1 : Fin 2) * 64 + 1 * k.val = k.val; omega

theorem get6 {Y} (hY : (rdat m c).Finds 6 t Y) (r : Fin 1024) (z : Fin 1) :
    (Y : Vec Ideal S1024x1 .i32) (ix2 r z) = (argsOf m c).lab (ix2 (gRow (grid0.coords t) r) z) := by
  obtain ⟨d, rfl⟩ := (rdat m c).finds_in_eq_fetched 6 rfl
    (fun _ _ _ => rfl)
    (fun _ _ _ h => h) t Y hY
  have e := (idx_eq t).2.2.2.2.2.2.1
  have hc := coords_eq t
  have ht : t.val < 84 := t.isLt
  have h0 := r.isLt
  have h1 := z.isLt
  unfold RDat.fetched Window.fill
  rw [dif_pos (Cert.Whole.moved_of _ rfl _ _ fun a => by
    match a with
    | ⟨0, _⟩ => show win0_6.index t (0 : Fin 2) * 1024 + r.val < 4096; omega
    | ⟨1, _⟩ => show win0_6.index t (1 : Fin 2) * 1 + z.val < 1; omega)]
  show (argsOf m c).lab (((cfg0.win 6).blk t).view.emb _) = _
  congr 1; funext a; apply Fin.ext
  match a with
  | ⟨0, _⟩ => show win0_6.index t (0 : Fin 2) * 1024 + 1 * r.val = 1024 * (grid0.coords t 0).val + r.val; omega
  | ⟨1, _⟩ => show win0_6.index t (1 : Fin 2) * 1 + 1 * z.val = z.val; omega

/-- The staged blocks of a point hold the arguments' rows and columns. -/
theorem sees {Y0 Y1 Y2 Y3 Y4 Y5 Y6} (h0 : (rdat m c).Finds 0 t Y0) (h1 : (rdat m c).Finds 1 t Y1) (h2 : (rdat m c).Finds 2 t Y2)
    (h3 : (rdat m c).Finds 3 t Y3) (h4 : (rdat m c).Finds 4 t Y4) (h5 : (rdat m c).Finds 5 t Y5) (h6 : (rdat m c).Finds 6 t Y6) :
    Sees (argsOf m c) (grid0.coords t) Y0 Y1 Y2 Y3 Y4 Y5 Y6 :=
  ⟨get0 h0, get1 h1, fun r => get2 h2 r 0, fun q h => get3 h3 0 q h, get4 h4, get5 h5, fun r => get6 h6 r 0⟩
end

end Cert.ForwardIdeal.Hand

end
-- ==== Proof.Forward.Run.lean ====
/- THE RUN of the forward call over the reals: the tracking relation holds at every point, and the run ends with it. -/
module

public import proofs.«01_k».proof.Proof.Forward.Track

@[expose] public section

set_option maxRecDepth 16384

noncomputable section

namespace Cert.ForwardIdeal.Hand

open Cert.ForwardIdeal.Gen Cert.Lanes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

local notation "𝕄" => MT nD τ sig Unit (Elt Ideal) ℕ (UR sig nD τ) ℕ

variable (m : (ℓ : Loc nD τ sig) → Buf (Elt Ideal) ℓ) (ρ : Dev nD → PrngReg)

/-- Before a point the lane statistics are those so far, once a row block's first point has reset them. -/
theorem start {A : Args} {t : Fin cfg0.N} {y0 y1 y2 : Vec Ideal S1024x128 .f32} (h : Inv A t.val y0 y1 y2) :
    ∃ M S P : Vec Ideal S1024x128 .f32, (first (grid0.coords t) ∧ M = k0_pay10 (F := Ideal) ∧ S = k0_pay11 (F := Ideal) ∧ P = k0_pay12 (F := Ideal)
        ∨ ¬first (grid0.coords t) ∧ M = y0 ∧ S = y1 ∧ P = y2)
      ∧ ∀ (r : Fin 1024) (l : Fin 128),
        M (ix2 r l) = laneMax (A.row (gRow (grid0.coords t) r)) (6 * (grid0.coords t 1).val) l.val
        ∧ S (ix2 r l) = laneSum (A.row (gRow (grid0.coords t) r)) (6 * (grid0.coords t 1).val) l.val
        ∧ P (ix2 r l) = lanePick (A.pick (gRow (grid0.coords t) r)) (6 * (grid0.coords t 1).val) l.val := by
  have hc := coords_eq t
  by_cases hf : t.val % 21 = 0
  · refine ⟨k0_pay10 (F := Ideal), k0_pay11 (F := Ideal), k0_pay12 (F := Ideal), Or.inl ⟨(first_iff t).mpr hf, rfl, rfl, rfl⟩, fun r l => ?_⟩
    rw [hc.2, hf, Nat.mul_zero, laneMax_zero, laneSum_zero, lanePick_zero]
    exact ⟨pay10_apply r l, pay11_apply r l, pay12_apply r l⟩
  · refine ⟨y0, y1, y2, Or.inr ⟨fun h => hf ((first_iff t).mp h), rfl, rfl, rfl⟩, fun r l => ?_⟩
    rw [hc.2]
    exact h hf r _ l (by show 1024 * (grid0.coords t 0).val + r.val = _; rw [hc.1])

/-- A point moves the lane statistics by its six column groups. -/
theorem next {A : Args} {t : Fin cfg0.N} {x0 x1 x2 x3 x4 x5 x6} (hS : Sees A (grid0.coords t) x0 x1 x2 x3 x4 x5 x6)
    {M S P : Vec Ideal S1024x128 .f32} (hM : ∀ (r : Fin 1024) (l : Fin 128),
        M (ix2 r l) = laneMax (A.row (gRow (grid0.coords t) r)) (6 * (grid0.coords t 1).val) l.val
        ∧ S (ix2 r l) = laneSum (A.row (gRow (grid0.coords t) r)) (6 * (grid0.coords t 1).val) l.val
        ∧ P (ix2 r l) = lanePick (A.pick (gRow (grid0.coords t) r)) (6 * (grid0.coords t 1).val) l.val) :
    Inv A (t.val + 1) (newM (grid0.coords t) x0 x1 x2 x3 x4 x5 M) (newS (grid0.coords t) x0 x1 x2 x3 x4 x5 M S)
      (newP (grid0.coords t) x0 x1 x2 x3 x4 x5 x6 P) := fun hn r R l hR => by
  have hc := coords_eq t
  have hR' : R = gRow (grid0.coords t) r := Fin.ext (by
    show R.val = 1024 * (grid0.coords t 0).val + r.val
    omega)
  have e : 6 * ((t.val + 1) % 21) = 6 * (grid0.coords t 1).val + 6 := by omega
  subst hR'
  rw [e]
  obtain ⟨h0, h1, h2⟩ := hM r l
  exact ⟨newM_apply hS M r l h0, newS_apply hS M S r l h0 h1, newP_apply hS P r l h2⟩

/-- The scratch and the generator register, the scratch as memrefs. -/
theorem Phi_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

theorem Phi_in (c : Dev nD) (A : Args) : (Pipeline.ΦA spec0 c : sProp 𝕄) ⊢ Phi c A 0 := by
  rw [Phi_eq]; unfold Phi
  iintro ⟨⟨⟨%y0, H0⟩, ⟨%y1, H1⟩, ⟨%y2, H2⟩⟩, Hg⟩
  iexists y0; iexists y1; iexists y2
  isplitr; · ipureintro; exact fun h => absurd rfl h
  isplitl [H0 H1 H2]
  · isplitl [H0]; · iexact H0
    isplitl [H1]; · iexact H1
    iexact H2
  iexact Hg

theorem Phi_out (c : Dev nD) (A : Args) (n : ℕ) : Phi c A n ⊢ (Pipeline.ΦA spec0 c : sProp 𝕄) := by
  rw [Phi_eq]; unfold Phi
  iintro ⟨%y0, %y1, %y2, %hI, ⟨H0, H1, H2⟩, Hg⟩
  isplitl [H0 H1 H2]
  · isplitl [H0]; · iexists _; iexact H0
    isplitl [H1]; · iexists _; iexact H1
    iexists _; iexact H2
  iexact Hg

theorem defs₀_row (t : Fin cfg0.N) :
    defs₀ (F := Ideal) .tc cfg0.body (cfg0.bodyArgs t (cfg0.slots t)) = bodyAt0 t := by
  unfold defs₀; rw [Defs.onTc_tc]

set_option maxHeartbeats 4000000 in
/-- The body obligation at every point. -/
theorem body (c : Dev nD) : (rdat m c).BodyObligation (defs₀ (F := Ideal)) Variants.none () Set.univ := fun t Y hY => by
  rw [bigSep_W0, bigSep_W0, defs₀_row]
  rw [show (rdat m c).Φ t.castSucc = Phi c (argsOf m c) t.val from rfl,
    show (rdat m c).Φ t.succ = Phi c (argsOf m c) (t.val + 1) from rfl,
    show (rdat m c).owesAt () t.succ = (rdat m c).owesAt () t.castSucc from rfl]
  have hS := sees (hY 0) (hY 1) (hY 2) (hY 3) (hY 4) (hY 5) (hY 6)
  have hc := coords_eq t
  unfold bodyAt0 Phi
  iintro ⟨⟨%y0, %y1, %y2, %hI, ⟨HS0, HS1, HS2⟩, Hg⟩, Ho, H0, H1, H2, H3, H4, H5, H6, H7, H8, H9⟩
  obtain ⟨M, S, P, hd, hM⟩ := start hI
  iapply (run_point c (cfg0.grid.coords t) _ _ _ _ _ _ _ _ _ _ _ _ _ _ _ _ _ _ _ _ _ _ _ _ _ _ (Y 0) (Y 1) (Y 2) (Y 3) (Y 4) (Y 5) (Y 6)
    (Y 7) (Y 8) (Y 9) y0 y1 y2 M S P hd Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, ⟨%X8, %e8, H8⟩, ⟨%X9, %e9, H9⟩, HS0, HS1, HS2⟩
  isplitl [HS0 HS1 HS2 Hg]
  · iexists _; iexists _; iexists _
    isplitr; swap
    · isplitl [HS0 HS1 HS2]
      · isplitl [HS0]; · iexact HS0
        isplitl [HS1]; · iexact HS1
        iexact HS2
      iexact Hg
    ipureintro
    exact next hS hM
  isplitl [Ho]; · iexact Ho
  isplitl [H0]; · iexists _; isplitr; swap; · iexact H0
                  ipureintro; exact rfl
  isplitl [H1]; · iexists _; isplitr; swap; · iexact H1
                  ipureintro; exact rfl
  isplitl [H2]; · iexists _; isplitr; swap; · iexact H2
                  ipureintro; exact rfl
  isplitl [H3]; · iexists _; isplitr; swap; · iexact H3
                  ipureintro; exact rfl
  isplitl [H4]; · iexists _; isplitr; swap; · iexact H4
                  ipureintro; exact rfl
  isplitl [H5]; · iexists _; isplitr; swap; · iexact H5
                  ipureintro; exact rfl
  isplitl [H6]; · iexists _; isplitr; swap; · iexact H6
                  ipureintro; exact rfl
  isplitl [H7]; · iexists _; isplitr; swap; · iexact H7
                  ipureintro; exact fun r q => blkL_apply hS r q
  isplitl [H8]; · iexists _; isplitr; swap; · iexact H8
                  ipureintro; exact fun hl r => (congrFun (e8 ((last_iff t).mpr hl)) _).trans
                    (lse_apply hS M S r (hc.2.trans hl) (fun l => (hM r l).1) (fun l => (hM r l).2.1))
  iexists _; isplitr; swap; · iexact H9
  ipureintro; exact fun hl r => (congrFun (e9 ((last_iff t).mpr hl)) _).trans
    (lp_apply hS M S P r (hc.2.trans hl) (fun l => (hM r l).1) (fun l => (hM r l).2.1) (fun l => (hM r l).2.2))

set_option backward.isDefEq.respectTransparency.types false in
/-- THE LAUNCH: every execution ends with the arrays as the tracking relation allows and every semaphore at zero. -/
theorem run_main : θ_run defs (onTc (τ := τ) (main (F := Ideal))) (s₀ m ρ)
    (fun r => RDat.FramePost (cfgs 0) (rdat m) (V m) r ∧ r.2.sem = fun _ => 0) :=
  RDat.θ_run_frame_track (Q' := _) cfgs (0 : Fin 1) launch0 defs₀ Variants.none (rdat m) m ρ main
    (hbody := body m) (hshare := fun c => (rdat m c).share_full fun _ => rfl)
    (howed := fun _ _ => rfl) (V := V m) (hmain := hmain m Variants.none) (hA := fun _ _ => rfl)
    (hin := fun c => Phi_in c _) (hout := fun c => Phi_out c _ _)

/-- THE FRAME over the reals: the seven argument arrays end unchanged, and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨RDat.FramePost.arr_in h.1 c 0 rfl, RDat.FramePost.arr_in h.1 c 1 rfl,
    RDat.FramePost.arr_in h.1 c 2 rfl, RDat.FramePost.arr_in h.1 c 3 rfl, RDat.FramePost.arr_in h.1 c 4 rfl,
    RDat.FramePost.arr_in h.1 c 5 rfl, RDat.FramePost.arr_in h.1 c 6 rfl⟩, h.2⟩) (run_main m ρ)

end Cert.ForwardIdeal.Hand

end
-- ==== Proof.Forward.Arrays.lean ====
/- THE ARRAYS after the forward call over the reals: every row's logits, its logsumexp, its label's log probability. -/
module

public import proofs.«01_k».proof.Proof.Forward.Run

@[expose] public section

set_option maxRecDepth 16384

noncomputable section

namespace Cert.ForwardIdeal.Hand

open Cert.ForwardIdeal.Gen Cert.Lanes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

local notation "𝕄" => MT nD τ sig Unit (Elt Ideal) ℕ (UR sig nD τ) ℕ

variable (m : (ℓ : Loc nD τ sig) → Buf (Elt Ideal) ℓ) (ρ : Dev nD → PrngReg)

/-- The three results, of the arguments. -/
def T7 (A : Args) : Vec Ideal S4096x16128 .f32 := fun j => A.row (j 0) (j 1).val
def T8 (A : Args) : Vec Ideal S4096x1 .f32 := fun j => A.lse (j 0)
def T9 (A : Args) : Vec Ideal S4096x1 .f32 := fun j => (∑ c ∈ Finset.range 16128, A.pick (j 0) c) - A.lse (j 0)

/-! ### Output window 7 -/

/-- Where an index of the window's block lies in its array. -/
theorem emb7_val (t : Fin cfg0.N) (j : S1024x768.Idx) :
    ((((cfg0.win 7).blk t).view.emb j : S4096x16128.Idx) 0).val = t.val / 21 * 1024 + (j 0).val
      ∧ ((((cfg0.win 7).blk t).view.emb j : S4096x16128.Idx) 1).val = t.val % 21 * 768 + (j 1).val := by
  have e := (idx_eq t).2.2.2.2.2.2.2.1
  constructor
  · show win0_7.index t (0 : Fin 2) * 1024 + 1 * (j 0).val = _
    rw [e.1]; omega
  · show win0_7.index t (1 : Fin 2) * 768 + 1 * (j 1).val = _
    rw [e.2]; omega

theorem covered7 (i : S4096x16128.Idx) :
    ∃ t : Fin cfg0.N, (cfg0.win 7).flush t = true ∧ i ∈ ((cfg0.win 7).blk t).view.set := by
  have h0 : (i 0).val < 4096 := (i 0).isLt
  have h1 : (i 1).val < 16128 := (i 1).isLt
  let t : Fin cfg0.N := ⟨21 * ((i 0).val / 1024) + (i 1).val / 768, by show _ < 84; omega⟩
  have ht : t.val = 21 * ((i 0).val / 1024) + (i 1).val / 768 := rfl
  refine ⟨t, flush0_7 t, ?_⟩
  have h := ((cfg0.win 7).blk t).view.emb_mem_set (ix2 ⟨(i 0).val % 1024, by omega⟩ ⟨(i 1).val % 768, by omega⟩ : S1024x768.Idx)
  have hv := emb7_val t (ix2 ⟨(i 0).val % 1024, by omega⟩ ⟨(i 1).val % 768, by omega⟩ : S1024x768.Idx)
  have he : (((cfg0.win 7).blk t).view.emb (ix2 ⟨(i 0).val % 1024, by omega⟩ ⟨(i 1).val % 768, by omega⟩ : S1024x768.Idx) : S4096x16128.Idx) = i := by
    funext a; apply Fin.ext
    match a with
    | ⟨0, _⟩ =>
      refine hv.1.trans ?_
      show t.val / 21 * 1024 + (i 0).val % 1024 = (i 0).val
      omega
    | ⟨1, _⟩ =>
      refine hv.2.trans ?_
      show t.val % 21 * 768 + (i 1).val % 768 = (i 1).val
      omega
  rw [he] at h
  exact h

theorem flushed7 (c : Dev nD) (A : Args) (t : Fin cfg0.N) (X : Vec Ideal S1024x768 .f32) (hf : (cfg0.win 7).flush t = true) (hX : Out7 A t X) :
    (cfg0.win 7).cut (grid0.coords t) X = ((cfg0.win 7).blk t).view.read (Elt Ideal) (T7 A) := by
  have hc := coords_eq t
  funext j
  change S1024x768.Idx at j
  show X j = T7 A (((cfg0.win 7).blk t).view.emb j)
  have hv := emb7_val t j
  generalize ((cfg0.win 7).blk t).view.emb j = i at hv
  change S4096x16128.Idx at i
  idx_vars j
  rw [hX j0 j1]
  have e : i 0 = gRow (grid0.coords t) j0 := Fin.ext (by
    refine hv.1.trans ?_
    show t.val / 21 * 1024 + j0.val = 1024 * (grid0.coords t 0).val + j0.val
    omega)
  have e' : (i 1).val = 768 * (grid0.coords t 1).val + j1.val := by
    refine hv.2.trans ?_
    show t.val % 21 * 768 + j1.val = _
    omega
  unfold T7
  rw [e, e']

/-! ### Output window 8 -/

/-- Where an index of the window's block lies in its array. -/
theorem emb8_val (t : Fin cfg0.N) (j : S1024x1.Idx) :
    ((((cfg0.win 8).blk t).view.emb j : S4096x1.Idx) 0).val = t.val / 21 * 1024 + (j 0).val
      ∧ ((((cfg0.win 8).blk t).view.emb j : S4096x1.Idx) 1).val = (j 1).val := by
  have e := (idx_eq t).2.2.2.2.2.2.2.2.1
  constructor
  · show win0_8.index t (0 : Fin 2) * 1024 + 1 * (j 0).val = _
    rw [e.1]; omega
  · show win0_8.index t (1 : Fin 2) * 1 + 1 * (j 1).val = _
    rw [e.2]; omega

theorem covered8 (i : S4096x1.Idx) :
    ∃ t : Fin cfg0.N, (cfg0.win 8).flush t = true ∧ i ∈ ((cfg0.win 8).blk t).view.set := by
  have h0 : (i 0).val < 4096 := (i 0).isLt
  have h1 : (i 1).val < 1 := (i 1).isLt
  let t : Fin cfg0.N := ⟨21 * ((i 0).val / 1024) + 20, by show _ < 84; omega⟩
  have ht : t.val = 21 * ((i 0).val / 1024) + 20 := rfl
  refine ⟨t, (flush0_8 t).mpr (by omega), ?_⟩
  have h := ((cfg0.win 8).blk t).view.emb_mem_set (ix2 ⟨(i 0).val % 1024, by omega⟩ ⟨(i 1).val % 1, by omega⟩ : S1024x1.Idx)
  have hv := emb8_val t (ix2 ⟨(i 0).val % 1024, by omega⟩ ⟨(i 1).val % 1, by omega⟩ : S1024x1.Idx)
  have he : (((cfg0.win 8).blk t).view.emb (ix2 ⟨(i 0).val % 1024, by omega⟩ ⟨(i 1).val % 1, by omega⟩ : S1024x1.Idx) : S4096x1.Idx) = i := by
    funext a; apply Fin.ext
    match a with
    | ⟨0, _⟩ =>
      refine hv.1.trans ?_
      show t.val / 21 * 1024 + (i 0).val % 1024 = (i 0).val
      omega
    | ⟨1, _⟩ =>
      refine hv.2.trans ?_
      show (i 1).val % 1 = (i 1).val
      omega
  rw [he] at h
  exact h

theorem flushed8 (c : Dev nD) (A : Args) (t : Fin cfg0.N) (X : Vec Ideal S1024x1 .f32) (hf : (cfg0.win 8).flush t = true) (hX : Out8 A t X) :
    (cfg0.win 8).cut (grid0.coords t) X = ((cfg0.win 8).blk t).view.read (Elt Ideal) (T8 A) := by
  have hc := coords_eq t
  funext j
  change S1024x1.Idx at j
  show X j = T8 A (((cfg0.win 8).blk t).view.emb j)
  have hv := emb8_val t j
  generalize ((cfg0.win 8).blk t).view.emb j = i at hv
  change S4096x1.Idx at i
  idx_vars j
  have e : i 0 = gRow (grid0.coords t) j0 := Fin.ext (by
    refine hv.1.trans ?_
    show t.val / 21 * 1024 + j0.val = 1024 * (grid0.coords t 0).val + j0.val
    omega)
  obtain rfl : j1 = (0 : Fin 1) := Subsingleton.elim (α := Fin 1) _ _
  rw [hX ((flush0_8 t).mp hf) j0]
  unfold T8
  rw [e]

/-! ### Output window 9 -/

/-- Where an index of the window's block lies in its array. -/
theorem emb9_val (t : Fin cfg0.N) (j : S1024x1.Idx) :
    ((((cfg0.win 9).blk t).view.emb j : S4096x1.Idx) 0).val = t.val / 21 * 1024 + (j 0).val
      ∧ ((((cfg0.win 9).blk t).view.emb j : S4096x1.Idx) 1).val = (j 1).val := by
  have e := (idx_eq t).2.2.2.2.2.2.2.2.2
  constructor
  · show win0_9.index t (0 : Fin 2) * 1024 + 1 * (j 0).val = _
    rw [e.1]; omega
  · show win0_9.index t (1 : Fin 2) * 1 + 1 * (j 1).val = _
    rw [e.2]; omega

theorem covered9 (i : S4096x1.Idx) :
    ∃ t : Fin cfg0.N, (cfg0.win 9).flush t = true ∧ i ∈ ((cfg0.win 9).blk t).view.set := by
  have h0 : (i 0).val < 4096 := (i 0).isLt
  have h1 : (i 1).val < 1 := (i 1).isLt
  let t : Fin cfg0.N := ⟨21 * ((i 0).val / 1024) + 20, by show _ < 84; omega⟩
  have ht : t.val = 21 * ((i 0).val / 1024) + 20 := rfl
  refine ⟨t, (flush0_9 t).mpr (by omega), ?_⟩
  have h := ((cfg0.win 9).blk t).view.emb_mem_set (ix2 ⟨(i 0).val % 1024, by omega⟩ ⟨(i 1).val % 1, by omega⟩ : S1024x1.Idx)
  have hv := emb9_val t (ix2 ⟨(i 0).val % 1024, by omega⟩ ⟨(i 1).val % 1, by omega⟩ : S1024x1.Idx)
  have he : (((cfg0.win 9).blk t).view.emb (ix2 ⟨(i 0).val % 1024, by omega⟩ ⟨(i 1).val % 1, by omega⟩ : S1024x1.Idx) : S4096x1.Idx) = i := by
    funext a; apply Fin.ext
    match a with
    | ⟨0, _⟩ =>
      refine hv.1.trans ?_
      show t.val / 21 * 1024 + (i 0).val % 1024 = (i 0).val
      omega
    | ⟨1, _⟩ =>
      refine hv.2.trans ?_
      show (i 1).val % 1 = (i 1).val
      omega
  rw [he] at h
  exact h

theorem flushed9 (c : Dev nD) (A : Args) (t : Fin cfg0.N) (X : Vec Ideal S1024x1 .f32) (hf : (cfg0.win 9).flush t = true) (hX : Out9 A t X) :
    (cfg0.win 9).cut (grid0.coords t) X = ((cfg0.win 9).blk t).view.read (Elt Ideal) (T9 A) := by
  have hc := coords_eq t
  funext j
  change S1024x1.Idx at j
  show X j = T9 A (((cfg0.win 9).blk t).view.emb j)
  have hv := emb9_val t j
  generalize ((cfg0.win 9).blk t).view.emb j = i at hv
  change S4096x1.Idx at i
  idx_vars j
  have e : i 0 = gRow (grid0.coords t) j0 := Fin.ext (by
    refine hv.1.trans ?_
    show t.val / 21 * 1024 + j0.val = 1024 * (grid0.coords t 0).val + j0.val
    omega)
  obtain rfl : j1 = (0 : Fin 1) := Subsingleton.elim (α := Fin 1) _ _
  rw [hX ((flush0_9 t).mp hf) j0]
  unfold T9
  rw [e]

/-- THE RESULTS of a run, of the arguments as launched. -/
theorem results {r : PUnit × MemSt nD τ sig (Elt Ideal)} (h : RDat.FramePost (cfgs 0) (rdat m) (V m) r) (c : Dev nD) :
    r.2.mem ((c : Thread nD τ).loc main_v0_0) = T7 (argsOf m c) ∧ r.2.mem ((c : Thread nD τ).loc main_v0_1) = T8 (argsOf m c)
      ∧ r.2.mem ((c : Thread nD τ).loc main_v0_2) = T9 (argsOf m c) := by
  obtain ⟨aft, hL, hG⟩ := h.exists_exact c
  refine ⟨(hG 7).trans ?_, (hG 8).trans ?_, (hG 9).trans ?_⟩
  · refine ((rdat m c).withAfter aft).arrAt_eq_of_cover 7 (T7 (argsOf m c)) (fun t hf => ?_) covered7
    obtain ⟨Y, -, hX⟩ := hL 7 t hf
    exact flushed7 c (argsOf m c) t _ hf hX
  · refine ((rdat m c).withAfter aft).arrAt_eq_of_cover 8 (T8 (argsOf m c)) (fun t hf => ?_) covered8
    obtain ⟨Y, -, hX⟩ := hL 8 t hf
    exact flushed8 c (argsOf m c) t _ hf hX
  · refine ((rdat m c).withAfter aft).arrAt_eq_of_cover 9 (T9 (argsOf m c)) (fun t hf => ?_) covered9
    obtain ⟨Y, -, hX⟩ := hL 9 t hf
    exact flushed9 c (argsOf m c) t _ hf hX

end Cert.ForwardIdeal.Hand

end
-- ==== Proof.Forward.Same.lean ====
/- THE REFERENCE of the forward call over the reals computes the same three arrays, labels lying inside the vocabulary. -/
module

public import proofs.«01_k».proof.Proof.Forward.Arrays
public import proofs.«01_k».proof.Proof.Gen.ForwardRefIdeal.Value
public import proofs.«01_k».proof.Defs
public import Idealize.ShloMosaic.Lib.Pointwise
public import Idealize.ShloMosaic.Lib.WordCmp
public import Idealize.ShloMosaic.Lib.ReduceAll

@[expose] public section

set_option maxRecDepth 16384

noncomputable section

namespace Cert.ForwardRefIdeal.Hand

open Cert.ForwardRefIdeal.Gen Cert.Lanes
open Cert.ForwardIdeal.Hand (Args T7 T8 T9 argsOf ofBits_bot)
open Idealize.ShloMosaic Idealize.ShloMosaic.TcCoe

variable (A : Args)

theorem logit_apply (R : Fin 4096) (c : Fin 16032) :
    k0_pay2 A.xq A.wq A.u A.b A.xs A.ws (ix2 R c) = A.logit R c := by
  pointwise [k0_pay2]
  rfl

theorem pay6_eq : k0_pay6 A.xq A.wq A.xs A.ws A.u A.b A.lab = k0_pay3 A.xq A.wq A.u A.b A.xs A.ws := by
  unfold k0_pay6
  rw [View.ld_unit_zero (S := S4096x8192) Value.hz0 _ A.xq, View.ld_unit_zero (S := S16032x8192) Value.hz1 _ A.wq,
    View.ld_unit_zero (S := S4096x64) Value.hz4 _ A.u, View.ld_unit_zero (S := S16032x64) Value.hz5 _ A.b,
    View.ld_unit_zero (S := S4096x1) Value.hz2 _ A.xs, View.ld_unit_zero (S := S1x16032) Value.hz3 _ A.ws]

theorem logit_row (R : Fin 4096) (c : Fin 16032) : A.logit R c = A.row R c.val := by
  unfold Args.row; rw [dif_pos c.isLt]

theorem ref7 : Value.G7 A.xq A.wq A.xs A.ws A.u A.b A.lab = T7 A := by
  funext j
  unfold Value.G7 k0_pay5
  have e := logit_apply A
  generalize k0_pay2 A.xq A.wq A.u A.b A.xs A.ws = L at e
  idx_vars j
  pointwise [e]
  rw [show T7 A (ix2 j0 j1) = A.row j0 j1.val from rfl]
  unfold Args.row
  by_cases h : j1.val < 16032
  · rw [dif_pos h, dif_pos h]
  · rw [dif_neg h, dif_neg h]
    exact IdealRules.named_const.ideal_named_scalar _ _ _ _ rfl

/-- The maximum along a row, from −∞, whatever the row's length. -/
theorem max_row {n0 n1 : ℕ} (h : (⟨2, ![n0, n1]⟩ : Shape).Reduces [1] ⟨1, ![n0]⟩) (v : FVec Ideal ⟨2, ![n0, n1]⟩ .f32)
    (hφ : FKind.Formats .f32) (hacc : 0xFF800000#32 = FKind.maximumf.neutral .f32 hφ) (R : Fin n0) (g : ℕ → EReal)
    (hv : ∀ c : Fin n1, v (ix2 R c) = g c.val) :
    multiReduction .maximumf [1] ⟨1, ![n0]⟩ v 0xFF800000#32 h hφ hacc (ix1 R) = (Finset.range n1).sup g := by
  rw [multiReduction_maximumf_eq_fold, Shape.Reduces.fold_fiber_r2_a1, ← fold_max_eq_sup g, ← ofBits_bot]
  show Finset.fold (max : EReal → EReal → EReal) _ _ _ = _
  congr 1
  funext c
  exact hv c

theorem lse_of (R : Fin 4096) (s n : EReal) (hs : s = (Finset.range 16032).sup (A.row R))
    (hn : n = ∑ c ∈ Finset.range 16032, Ideal.exp (A.row R c - (Finset.range 16032).sup (A.row R))) :
    s + Ideal.log n = A.lse R := by
  unfold Args.lse
  rw [hs, hn]

theorem col_apply (M N : FVec Ideal S4096 .f32) (R : Fin 4096) :
    addf (shapeCast S4096x1 M shapeCasts_S4096_S4096x1) (log (shapeCast S4096x1 N shapeCasts_S4096_S4096x1)) (ix2 R 0)
      = M (ix1 R) + Ideal.log (N (ix1 R)) := by
  pointwise []

theorem pay3_apply (R : Fin 4096) : k0_pay3 A.xq A.wq A.u A.b A.xs A.ws (ix2 R 0) = A.lse R := by
  unfold k0_pay3
  have e := fun R c => (logit_apply A R c).trans (logit_row A R c)
  generalize k0_pay2 A.xq A.wq A.u A.b A.xs A.ws = L at e
  have hm : ∃ s : Fin 4096 → EReal, ∀ R, s R = (Finset.range 16032).sup (A.row R) := ⟨_, fun _ => rfl⟩
  obtain ⟨s, hs⟩ := hm
  have eM := fun R => (max_row reduces_S4096x16032_S4096 L (.inl rfl) rfl R (A.row R) (e R)).trans (hs R).symm
  generalize multiReduction .maximumf [1] S4096 L 0xFF800000#32 reduces_S4096x16032_S4096 (.inl rfl) rfl = M at eM ⊢
  have eB : ∀ (R : Fin 4096) (c : Fin 16032), exp (subf L (broadcastTo S4096x16032 (shapeCast S4096x1 M shapeCasts_S4096_S4096x1)
      broadcasts_S4096x1_S4096x16032)) (ix2 R c) = Ideal.exp (A.row R c.val - s R) := fun R c => by
    pointwise [e, eM]
  generalize exp (subf L (broadcastTo S4096x16032 (shapeCast S4096x1 M shapeCasts_S4096_S4096x1)
      broadcasts_S4096x1_S4096x16032)) = E at eB ⊢
  have eN : ∀ R : Fin 4096, multiReduction .add [1] S4096 E 0x00000000#32 reduces_S4096x16032_S4096 (.inl rfl) rfl (ix1 R)
      = ∑ c : Fin 16032, Ideal.exp (A.row R c.val - s R) := fun R => by
    pointwise [eB]
  generalize multiReduction .add [1] S4096 E 0x00000000#32 reduces_S4096x16032_S4096 (.inl rfl) rfl = N at eN ⊢
  exact (col_apply M N R).trans (lse_of A R _ _ ((eM R).trans (hs R)) ((eN R).trans (by rw [← hs]; exact sum_fin (n := 16032) (fun c => Ideal.exp (A.row R c - s R)))))

theorem ref8 : Value.G8 A.xq A.wq A.xs A.ws A.u A.b A.lab = T8 A := by
  funext j
  unfold Value.G8
  rw [pay6_eq]
  idx_vars j
  obtain rfl : j1 = (0 : Fin 1) := Subsingleton.elim (α := Fin 1) _ _
  exact pay3_apply A j0

/-- A sum over the vocabulary of the entries the label selects. -/
theorem pick_apply (R : Fin 4096) (c : Fin 16032) :
    Scalar.select (IntOp.cmpi .eq (BitVec.ofNat 32 c.val) (A.lab (ix2 R 0))) (A.row R c.val) 0 = A.pick R c.val := by
  unfold Args.pick Scalar.select
  rw [WordCmp.cmpi_eq_eq]
  by_cases h : BitVec.ofNat 32 c.val = A.lab (ix2 R 0)
  · rw [if_pos h, decide_eq_true h]; rfl
  · rw [if_neg h, decide_eq_false h]; rfl

theorem pay4_apply (R : Fin 4096) :
    k0_pay4 A.xq A.wq A.u A.b A.xs A.ws A.lab (ix2 R 0) = ∑ c ∈ Finset.range 16032, A.pick R c := by
  unfold k0_pay4
  have e := fun R c => (logit_apply A R c).trans (logit_row A R c)
  generalize k0_pay2 A.xq A.wq A.u A.b A.xs A.ws = L at e
  pointwise [e]
  rw [← sum_fin]
  exact Finset.sum_congr rfl fun c _ => pick_apply A R c

theorem ref9 (hl : ∀ R : Fin 4096, ∀ c : ℕ, 16032 ≤ c → c < 16128 → BitVec.ofNat 32 c ≠ A.lab (ix2 R 0)) :
    Value.G9 A.xq A.wq A.xs A.ws A.u A.b A.lab = T9 A := by
  funext j
  have e8 := fun R => congrFun (ref8 A) (ix2 R 0)
  have e4 := pay4_apply A
  unfold Value.G8 at e8
  unfold Value.G9 k0_pay1
  generalize k0_pay6 A.xq A.wq A.xs A.ws A.u A.b A.lab = L8 at e8
  generalize k0_pay4 A.xq A.wq A.u A.b A.xs A.ws A.lab = L4 at e4
  idx_vars j
  obtain rfl : j1 = (0 : Fin 1) := Subsingleton.elim (α := Fin 1) _ _
  show L4 (ix2 j0 0) - L8 (ix2 j0 0) = (∑ c ∈ Finset.range 16128, A.pick j0 c) - A.lse j0
  rw [e8, e4, sum_pad (g := A.pick j0) (n := 16032) (n' := 16128) (by omega) (fun c h h' => if_neg (hl _ c h h')),
    show T8 A (ix2 j0 0) = A.lse j0 from rfl]

/-- The precondition, read: no label is the number of a padding column. -/
theorem labels [Cert.Pre_labels_in_vocabulary.Facts] {m} (h : Cert.Pre_ForwardIdeal_labels_in_vocabulary m)
    (c : Dev Cert.ForwardIdeal.nD) (R : Fin 4096) (n : ℕ)
    (h1 : 16032 ≤ n) (h2 : n < 16128) : BitVec.ofNat 32 n ≠ (argsOf m c).lab (ix2 R 0) := by
  have e := congrFun (h c) default
  unfold Cert.Pre_labels_in_vocabulary.fn at e
  have : Subsingleton Cert.Pre_labels_in_vocabulary.S_.Idx := ⟨fun a b => funext fun x => x.elim0⟩
  have e' := Host.reduce_andi_all _ _ _ _ _ e (ix2 R 0)
  intro hn
  have e2 : IntOp.cmpi .slt ((argsOf m c).lab (ix2 R 0)) 16032#32 = 1#1 := e'
  rw [← hn, show (16032#32 : BitVec 32) = BitVec.ofNat 32 16032 from rfl, WordCmp.cmpi_slt_ofNat (by omega) (by omega),
    decide_eq_false (by omega)] at e2
  exact absurd e2 (by decide)

end Cert.ForwardRefIdeal.Hand

end
-- ==== Proof.Forward.Claims.lean ====
/- THE FORWARD CALL'S VALUE CLAIM: over the reals the call and its reference end with equal results. -/
module

public import proofs.«01_k».proof.Proof.Forward.Same
public import Idealize.ShloMosaic.Adequacy

@[expose] public section

set_option maxRecDepth 16384

noncomputable section

namespace Cert.Forward.Claims

open Idealize.ShloMosaic Idealize.SL.Sem
open Cert.ForwardIdeal.Hand (T7 T8 T9 argsOf)
open Idealize.ShloMosaic.Pipeline (RDat)

theorem algebraic [Cert.Pre_labels_in_vocabulary.Facts] :
    Cert.algebraic_ForwardIdeal_ForwardRefIdeal_pre_labels_in_vocabulary := fun m ρ m' ρ' hpre hag => by
  refine ⟨fun c => T7 (argsOf m c), fun c => T8 (argsOf m c), fun c => T9 (argsOf m c), ?_, ?_⟩
  · refine (θ_run _ _ _).mono (fun r h c => ?_) (Cert.ForwardIdeal.Hand.run_main m ρ)
    obtain ⟨h7, h8, h9⟩ := Cert.ForwardIdeal.Hand.results m h.1 c
    exact ⟨h7, h8, h9, RDat.FramePost.arr_in h.1 c 0 rfl, RDat.FramePost.arr_in h.1 c 1 rfl,
      RDat.FramePost.arr_in h.1 c 2 rfl, RDat.FramePost.arr_in h.1 c 3 rfl, RDat.FramePost.arr_in h.1 c 4 rfl,
      RDat.FramePost.arr_in h.1 c 5 rfl, RDat.FramePost.arr_in h.1 c 6 rfl⟩
  · refine (θ_run _ _ _).mono (fun r h c => ?_) (Cert.ForwardRefIdeal.Value.run m' ρ')
    obtain ⟨h7, h8, h9, hk⟩ := h c
    obtain ⟨e0, e1, e2, e3, e4, e5, e6⟩ := hag c
    refine ⟨h7.trans ?_, h8.trans ?_, h9.trans ?_, hk⟩ <;> rw [e0, e1, e2, e3, e4, e5, e6]
    · exact Cert.ForwardRefIdeal.Hand.ref7 (argsOf m c)
    · exact Cert.ForwardRefIdeal.Hand.ref8 (argsOf m c)
    · exact Cert.ForwardRefIdeal.Hand.ref9 (argsOf m c) (Cert.ForwardRefIdeal.Hand.labels hpre c)

end Cert.Forward.Claims

end
-- ==== Proof.Backward.Frame.lean ====
/-
  The FRAME of the backward call: on any memory its run ends, every argument array unchanged. What the body leaves in its
  buffers is not named here: the proof data relate nothing (`after := True`), and the run of one point is: from every
  buffer at any contents to every buffer at some contents, whichever of its four branches the point takes.
-/
module

public import proofs.«01_k».proof.Proof.Gen.Backward.Launch
public import proofs.«01_k».proof.Proof.Gen.Backward.Skeleton
public import proofs.«01_k».proof.Proof.Gen.Backward.Points
public import proofs.«01_k».proof.Proof.Gen.Backward.Frame
public import Idealize.ShloMosaic.Lib.Pipeline.FrameBody
public import Idealize.ShloMosaic.Lib.Tactic

@[expose] public section

set_option maxRecDepth 16384

noncomputable section

namespace Cert.Backward.Hand

open Cert.Backward.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c` owns the whole buffer `a` at some contents. -/
abbrev some_ (c : Dev nD) {sp : Space} {S : Shape} {e : EltTy} (a : Memref sig .tc sp S e) : sProp 𝕄 :=
  iprop(∃ d, owns (c : Thread nD τ) a fullShare d)

/-- The body's four branch conditions, from the grid coordinates: the first column block, the very first point, a column
    block but the last, the last one. -/
abbrev c0 (i : grid0.Coords) : Prop := k0_cond1 i = 1#1
abbrev c1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev c2 (i : grid0.Coords) : Prop := k0_cond3 i = 1#1
abbrev c3 (i : grid0.Coords) : Prop := k0_cond4 i = 1#1

set_option maxHeartbeats 4000000 in
/-- ONE POINT: the body, its buffers whole and owned at any contents, runs, and hands every buffer back at some contents. -/
theorem run_any (c : Dev nD) (i : grid0.Coords)
    (a2 : Memref sig .tc .vmem S512x768 .f32) (h2 : a2.IsWhole)
    (a3 : Memref sig .tc .vmem S768x8192 .fp8e4m3) (h3 : a3.IsWhole)
    (a4 : Memref sig .tc .vmem S1x768 .f32) (h4 : a4.IsWhole)
    (a5 : Memref sig .tc .vmem S768x64 .bf16) (h5 : a5.IsWhole)
    (a6 : Memref sig .tc .vmem S512x1 .i32) (h6 : a6.IsWhole)
    (a7 : Memref sig .tc .vmem S512x1 .f32) (h7 : a7.IsWhole)
    (a8 : Memref sig .tc .vmem S512x1 .f32) (h8 : a8.IsWhole)
    (a9 : Memref sig .tc .vmem S512x64 .bf16) (h9 : a9.IsWhole)
    (a10 : Memref sig .tc .smem S1 .f32) (h10 : a10.IsWhole)
    (a11 : Memref sig .tc .vmem S512x768 .fp8e5m2) (h11 : a11.IsWhole)
    (a12 : Memref sig .tc .vmem S512x8192 .f32) (h12 : a12.IsWhole)
    (a13 : Memref sig .tc .vmem S512x64 .f32) (h13 : a13.IsWhole)
    (a14 : Memref sig .tc .vmem S21x64x768 .f32) (h14 : a14.IsWhole)
    (a15 : Memref sig .tc .vmem S512x64 .bf16) (h15 : a15.IsWhole)
    (E : Set ℕ) (K : PUnit → sProp 𝕄) :
    iprop(some_ c a2 ∗ some_ c a3 ∗ some_ c a4 ∗ some_ c a5 ∗ some_ c a6 ∗ some_ c a7 ∗ some_ c a8 ∗ some_ c a9 ∗ some_ c a10 ∗ some_ c a11 ∗ some_ c a12 ∗ some_ c a13 ∗ some_ c a14 ∗ some_ c a15
        ∗ (iprop(some_ c a2 ∗ some_ c a3 ∗ some_ c a4 ∗ some_ c a5 ∗ some_ c a6 ∗ some_ c a7 ∗ some_ c a8 ∗ some_ c a9 ∗ some_ c a10 ∗ some_ c a11 ∗ some_ c a12 ∗ some_ c a13 ∗ some_ c a14 ∗ some_ c a15) -∗ K ⟨⟩))
      ⊢ wp frame (wpE (defs₀ (F := F)) Variants.none c none) E
          (cc0_backward i a2 h2 a3 h3 a4 h4 a5 h5 a6 h6 a7 h7 a8 h8 a9 h9 a10 h10 a11 h11 a12 h12 a13 h13 a14 h14 a15 h15) K := by
  simp only [cc0_backward_eq_skeleton]; unfold cc0_backward_skel
  simp only [k0_part1_eq_skeleton]
  unfold some_ owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  by_cases hc0 : c0 i <;> by_cases hc1 : c1 i <;> by_cases hc2 : c2 i <;> by_cases hc3 : c3 i
  all_goals
    sl_exec (disch := first | sl_exact hc0 | sl_exact hc1 | sl_exact hc2 | sl_exact hc3)
    sl_step
    iapply Hk
    isplitl [H2]; · iexists _, _; isplitr; swap; · iexact H2
                    ipureintro; rfl
    isplitl [H3]; · iexists _, _; isplitr; swap; · iexact H3
                    ipureintro; rfl
    isplitl [H4]; · iexists _, _; isplitr; swap; · iexact H4
                    ipureintro; rfl
    isplitl [H5]; · iexists _, _; isplitr; swap; · iexact H5
                    ipureintro; rfl
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    isplitl [H9]; · iexists _, _; isplitr; swap; · iexact H9
                    ipureintro; rfl
    isplitl [H10]; · iexists _, _; isplitr; swap; · iexact H10
                     ipureintro; rfl
    isplitl [H11]; · iexists _, _; isplitr; swap; · iexact H11
                     ipureintro; rfl
    isplitl [H12]; · iexists _, _; isplitr; swap; · iexact H12
                     ipureintro; rfl
    isplitl [H13]; · iexists _, _; isplitr; swap; · iexact H13
                     ipureintro; rfl
    isplitl [H14]; · iexists _, _; isplitr; swap; · iexact H14
                     ipureintro; rfl
    iexists _, _; isplitr; swap; · iexact H15
    ipureintro; rfl

/-- The proof data: the arrays as launched, nothing said of what the body leaves, the scratch at anything throughout. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The scratch and the generator register, the scratch as memrefs. -/
theorem Phi_eq (c : Dev nD) :
    (Pipeline.ΦA spec0 c : sProp 𝕄)
      = iprop(some_ c (Memref.whole cc0_scratch0) ∗ (∃ r, prngReg c r)) := by
  unfold Pipeline.ΦA some_; rw [scopedRest0_eq]; simp only [owns_whole]; try rfl

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body obligation at every point. -/
theorem body (c : Dev nD) : (rdat (F := F) m c).BodyObligation (defs₀ (F := F)) Variants.none () Set.univ := fun t Y hY => by
  rw [bigSep_W0, bigSep_W0, defs₀_row]
  rw [show (rdat m c).Φ t.castSucc = Pipeline.ΦA spec0 c from rfl, show (rdat m c).Φ t.succ = Pipeline.ΦA spec0 c from rfl,
    show (rdat m c).owesAt () t.succ = (rdat m c).owesAt () t.castSucc from rfl, Phi_eq]
  unfold bodyAt0
  iintro ⟨⟨HS0, Hg⟩, Ho, H0, H1, H2, H3, H4, H5, H6, H7, H8, H9, H10, H11, H12⟩
  iapply (run_any c (cfg0.grid.coords t) _ _ _ _ _ _ _ _ _ _ _ _ _ _ _ _ _ _ _ _ _ _ _ _ _ _ _ _ Set.univ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, HS0⟩
  isplitl [HS0 Hg]
  · isplitl [HS0]; · iexact HS0
    iexact Hg
  isplitl [Ho]; · iexact Ho
  isplitl [H0]; · iexists _; isplitr; swap; · iexact H0
                  ipureintro; trivial
  isplitl [H1]; · iexists _; isplitr; swap; · iexact H1
                  ipureintro; trivial
  isplitl [H2]; · iexists _; isplitr; swap; · iexact H2
                  ipureintro; trivial
  isplitl [H3]; · iexists _; isplitr; swap; · iexact H3
                  ipureintro; trivial
  isplitl [H4]; · iexists _; isplitr; swap; · iexact H4
                  ipureintro; trivial
  isplitl [H5]; · iexists _; isplitr; swap; · iexact H5
                  ipureintro; trivial
  isplitl [H6]; · iexists _; isplitr; swap; · iexact H6
                  ipureintro; trivial
  isplitl [H7]; · iexists _; isplitr; swap; · iexact H7
                  ipureintro; trivial
  isplitl [H8]; · iexists _; isplitr; swap; · iexact H8
                  ipureintro; trivial
  isplitl [H9]; · iexists _; isplitr; swap; · iexact H9
                  ipureintro; trivial
  isplitl [H10]; · iexists _; isplitr; swap; · iexact H10
                   ipureintro; trivial
  isplitl [H11]; · iexists _; isplitr; swap; · iexact H11
                   ipureintro; trivial
  iexists _; isplitr; swap; · iexact H12
  ipureintro; trivial

set_option backward.isDefEq.respectTransparency.types false in
/-- THE LAUNCH: every execution ends with the inputs' arrays as launched and every semaphore at zero. -/
theorem run_main : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := body m) (hshare := fun c => (rdat m c).share_full fun _ => rfl)
    (howed := fun _ _ => rfl) (V := V m) (hmain := hmain m Variants.none) (hA := fun _ _ => rfl) (hΦ := fun _ _ => rfl)

/-- THE FRAME: the nine argument arrays end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨RDat.FramePost.arr_in h.1 c 0 rfl, RDat.FramePost.arr_in h.1 c 1 rfl, RDat.FramePost.arr_in h.1 c 2 rfl, RDat.FramePost.arr_in h.1 c 3 rfl, RDat.FramePost.arr_in h.1 c 4 rfl, RDat.FramePost.arr_in h.1 c 5 rfl, RDat.FramePost.arr_in h.1 c 6 rfl, RDat.FramePost.arr_in h.1 c 7 rfl, RDat.FramePost.arr_in h.1 c 8 rfl⟩, h.2⟩) (run_main m ρ)

end Cert.Backward.Hand

end
-- ==== Proof.Backward.Point.lean ====
/-
  ONE POINT of the backward call: what the body leaves in each buffer, as a function of what it finds there.
-/
module

public import proofs.«01_k».proof.Proof.Whole
public import proofs.«01_k».proof.Proof.Gen.BackwardIdeal.Launch
public import proofs.«01_k».proof.Proof.Gen.BackwardIdeal.Skeleton
public import proofs.«01_k».proof.Proof.Gen.BackwardIdeal.Points
public import proofs.«01_k».proof.Proof.Gen.BackwardIdeal.Frame
public import Idealize.ShloMosaic.Lib.WritesUnit
public import Idealize.ShloMosaic.Lib.Pipeline.FrameBody
public import Idealize.ShloMosaic.Lib.Tactic
public import Idealize.ShloMosaic.Lib.Pipeline.ValueKit.Acc

@[expose] public section

set_option maxRecDepth 16384

noncomputable section

namespace Cert.BackwardIdeal.Hand

open Cert.BackwardIdeal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's four branch conditions, from the grid coordinates: the first column block, the very first point, a column
    block but the last, the last one. -/
abbrev c0 (i : grid0.Coords) : Prop := k0_cond1 i = 1#1
abbrev c1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev c2 (i : grid0.Coords) : Prop := k0_cond3 i = 1#1
abbrev c3 (i : grid0.Coords) : Prop := k0_cond4 i = 1#1

section Step

variable (i : grid0.Coords) (x0 : Vec F S512x768 .f32) (x1 : Vec F S768x8192 .fp8e4m3) (x2 : Vec F S1x768 .f32)
  (x3 : Vec F S768x64 .bf16) (x4 : Vec F S512x1 .i32) (x5 : Vec F S512x1 .f32) (x8 : Vec F S1 .f32)
  (G : Vec F S512x8192 .f32) (L : Vec F S512x64 .f32) (D : Vec F S21x64x768 .f32) (U : Vec F S512x64 .bf16)

/-- The one element of the scale. -/
def sc : Elt F .f32 :=
  View.ld x8 (Rect.unit (s := S1) ![0] S1.size inb_S1_S1_0) (Shape.Idx.first (numel1_S1.symm ▸ Nat.one_pos))
/-- The codes. -/
def newQ : Vec F S512x768 .fp8e5m2 := k0_pay11 i (sc x8) x0 x5 x4
/-- The codes widened. -/
def wideQ : Vec F S512x768 .bf16 := k0_pay12 i (sc x8) x0 x5 x4
/-- The hidden states' gradient after a column block but the last, -/
def newG : Vec F S512x8192 .f32 := k0_pay3 (wideQ i x0 x4 x5 x8) x2 G x1
/-- and after the last. -/
def endG : Vec F S512x8192 .f32 :=
  k0_pay5 (wideQ i x0 x4 x5 x8) x2 G (View.ld x1 (Rect.unit (s := S768x8192) ![0, 0] S672x8192.size inb_S768x8192_S672x8192_0_0))
/-- The product with the low-rank factor after a column block but the last, -/
def newL : Vec F S512x64 .f32 := k0_pay4 (wideQ i x0 x4 x5 x8) L x3
/-- and after the last. -/
def endL : Vec F S512x64 .f32 :=
  k0_pay6 (wideQ i x0 x4 x5 x8) L (View.ld x3 (Rect.unit (s := S768x64) ![0, 0] S672x64.size inb_S768x64_S672x64_0_0))
/-- A column block of the low-rank factor's gradient replaced. -/
def putD (W : Vec F S1x64x768 .f32) : Vec F S21x64x768 .f32 := fun y =>
  if h : ∀ a, k0_off1 i a ≤ (y a).val ∧ (y a).val < k0_off1 i a + S1x64x768.size a then
    W (Rect.unitLocal (s := S21x64x768) (off := k0_off1 i) (size := S1x64x768.size) y h)
  else D y
/-- The low-rank factor's gradient after the block: the column block's part of it moved. -/
def newD : Vec F S21x64x768 .f32 :=
  putD i D (k0_pay2 (wideQ i x0 x4 x5 x8)
    (View.ld D (Rect.unit (s := S21x64x768) (k0_off1 i) S1x64x768.size (k0_off1_inb i))) U)

/-- The buffer after a store of one column block reads the column block replaced. -/
theorem read_block {sp : Space} (v : View sig .tc sp S21x64x768 .f32) (f : v.ty.Contents (Elt F))
    (W : Vec F S1x64x768 .f32) (Ls : List (View.Piece (Elt F) S21x64x768 .f32)) (hD : v.read (Elt F) (v.writes (Elt F) f Ls) = D) :
    v.read (Elt F) (v.writes (Elt F) f ((⟨Rect.unit (s := S21x64x768) (k0_off1 i) S1x64x768.size (k0_off1_inb i), W⟩
      : View.Piece (Elt F) S21x64x768 .f32) :: Ls)) = putD i D W := by
  subst hD
  exact funext fun y => View.read_writes_cons_unit (s := S21x64x768) v f (off' := k0_off1 i) (size := S1x64x768.size)
    (k0_off1_inb i) W Ls y rfl

end Step

set_option maxHeartbeats 8000000 in
/-- ONE POINT: the codes, the gradients moved by the block (in a row block's first column block the row block's gradients
    are set to zero before, at the very first point the low-rank factor's). -/
theorem run_point (c : Dev nD) (i : grid0.Coords)
    (a2 : Memref sig .tc .vmem S512x768 .f32) (h2 : a2.IsWhole)
    (a3 : Memref sig .tc .vmem S768x8192 .fp8e4m3) (h3 : a3.IsWhole)
    (a4 : Memref sig .tc .vmem S1x768 .f32) (h4 : a4.IsWhole)
    (a5 : Memref sig .tc .vmem S768x64 .bf16) (h5 : a5.IsWhole)
    (a6 : Memref sig .tc .vmem S512x1 .i32) (h6 : a6.IsWhole)
    (a7 : Memref sig .tc .vmem S512x1 .f32) (h7 : a7.IsWhole)
    (a8 : Memref sig .tc .vmem S512x1 .f32) (h8 : a8.IsWhole)
    (a9 : Memref sig .tc .vmem S512x64 .bf16) (h9 : a9.IsWhole)
    (a10 : Memref sig .tc .smem S1 .f32) (h10 : a10.IsWhole)
    (a11 : Memref sig .tc .vmem S512x768 .fp8e5m2) (h11 : a11.IsWhole)
    (a12 : Memref sig .tc .vmem S512x8192 .f32) (h12 : a12.IsWhole)
    (a13 : Memref sig .tc .vmem S512x64 .f32) (h13 : a13.IsWhole)
    (a14 : Memref sig .tc .vmem S21x64x768 .f32) (h14 : a14.IsWhole)
    (a15 : Memref sig .tc .vmem S512x64 .bf16) (h15 : a15.IsWhole)
    (x0 : Vec F S512x768 .f32) (x1 : Vec F S768x8192 .fp8e4m3) (x2 : Vec F S1x768 .f32) (x3 : Vec F S768x64 .bf16) (x4 : Vec F S512x1 .i32) (x5 : Vec F S512x1 .f32) (x6 : Vec F S512x1 .f32) (x7 : Vec F S512x64 .bf16) (x8 : Vec F S1 .f32) (d9 : Vec F S512x768 .fp8e5m2) (g : Vec F S512x8192 .f32) (l : Vec F S512x64 .f32) (d : Vec F S21x64x768 .f32) (u : Vec F S512x64 .bf16)
    (G : Vec F S512x8192 .f32) (L : Vec F S512x64 .f32) (D : Vec F S21x64x768 .f32) (U : Vec F S512x64 .bf16)
    (h : c0 i ∧ G = k0_pay7 ∧ L = k0_pay8 ∧ U = k0_pay9 x7 x6 ∨ ¬c0 i ∧ G = g ∧ L = l ∧ U = u)
    (h' : c1 i ∧ D = k0_pay10 ∨ ¬c1 i ∧ D = d) (h'' : c2 i ∧ ¬c3 i ∨ ¬c2 i ∧ c3 i)
    (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare d9 ∗ owns (c : Thread nD τ) a12 fullShare g ∗ owns (c : Thread nD τ) a13 fullShare l ∗ owns (c : Thread nD τ) a14 fullShare d ∗ owns (c : Thread nD τ) a15 fullShare u
        ∗ (iprop(owns (c : Thread nD τ) a2 fullShare x0
            ∗ owns (c : Thread nD τ) a3 fullShare x1
            ∗ owns (c : Thread nD τ) a4 fullShare x2
            ∗ owns (c : Thread nD τ) a5 fullShare x3
            ∗ owns (c : Thread nD τ) a6 fullShare x4
            ∗ owns (c : Thread nD τ) a7 fullShare x5
            ∗ owns (c : Thread nD τ) a8 fullShare x6
            ∗ owns (c : Thread nD τ) a9 fullShare x7
            ∗ owns (c : Thread nD τ) a10 fullShare x8
            ∗ owns (c : Thread nD τ) a11 fullShare (newQ i x0 x4 x5 x8)
            ∗ (∃ X, ⌜(c2 i → X = newG i x0 x1 x2 x4 x5 x8 G) ∧ (c3 i → X = endG i x0 x1 x2 x4 x5 x8 G)⌝ ∗ owns (c : Thread nD τ) a12 fullShare X)
            ∗ (∃ X, ⌜(c2 i → X = newL i x0 x3 x4 x5 x8 L) ∧ (c3 i → X = endL i x0 x3 x4 x5 x8 L)⌝ ∗ owns (c : Thread nD τ) a13 fullShare X)
            ∗ owns (c : Thread nD τ) a14 fullShare (newD i x0 x4 x5 x8 D U)
            ∗ owns (c : Thread nD τ) a15 fullShare U) -∗ K ⟨⟩))
      ⊢ wp frame (wpE (defs₀ (F := F)) Variants.none c none) E
          (cc0_backward i a2 h2 a3 h3 a4 h4 a5 h5 a6 h6 a7 h7 a8 h8 a9 h9 a10 h10 a11 h11 a12 h12 a13 h13 a14 h14 a15 h15) K := by
  simp only [cc0_backward_eq_skeleton]; unfold cc0_backward_skel
  simp only [k0_part1_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  rcases h with ⟨hc0, rfl, rfl, rfl⟩ | ⟨hc0, rfl, rfl, rfl⟩ <;> rcases h' with ⟨hc1, rfl⟩ | ⟨hc1, rfl⟩ <;>
    rcases h'' with ⟨hc2, hc3⟩ | ⟨hc2, hc3⟩
  all_goals
    sl_exec (disch := first | sl_exact hc0 | sl_exact hc1 | sl_exact hc2 | sl_exact hc3)
    sl_step
    iapply Hk
    isplitl [H2]; · iexists _; isplitr; swap; · iexact H2
                    ipureintro; exact e2
    isplitl [H3]; · iexists _; isplitr; swap; · iexact H3
                    ipureintro; exact e3
    isplitl [H4]; · iexists _; isplitr; swap; · iexact H4
                    ipureintro; exact e4
    isplitl [H5]; · iexists _; isplitr; swap; · iexact H5
                    ipureintro; exact e5
    isplitl [H6]; · iexists _; isplitr; swap; · iexact H6
                    ipureintro; exact e6
    isplitl [H7]; · iexists _; isplitr; swap; · iexact H7
                    ipureintro; exact e7
    isplitl [H8]; · iexists _; isplitr; swap; · iexact H8
                    ipureintro; exact e8
    isplitl [H9]; · iexists _; isplitr; swap; · iexact H9
                    ipureintro; exact e9
    isplitl [H10]; · iexists _; isplitr; swap; · iexact H10
                     ipureintro; exact e10
    isplitl [H11]; · iexists _; isplitr; swap; · iexact H11
                     ipureintro
                     sl_unfold_words
                     rw [read_last _ _ hz2]
                     simp (disch := decide) only [View.readAt_eq_ld, e2, e3, e4, e5, e6, e7, e8, e9, e10, e11, e12, e13, e14, e15, View.ld_unit_lit']
                     rfl
    isplitl [H12]; · iexists _; isplitr; swap; · iexists _; isplitr; swap; · iexact H12
                                                 ipureintro; rfl
                     ipureintro
                     sl_unfold_words
                     refine ⟨fun hl => ?_, fun hl => ?_⟩ <;> first
                     | exact absurd hl hc2
                     | exact absurd hl hc3
                     | rw [read_last _ _ hz2]
                       simp (disch := decide) only [View.readAt_eq_ld, e2, e3, e4, e5, e6, e7, e8, e9, e10, e11, e12, e13, e14, e15, View.ld_unit_lit', View.readCov_unit_lit', View.readCov_cons_unit_lit']
                       rfl
    isplitl [H13]; · iexists _; isplitr; swap; · iexists _; isplitr; swap; · iexact H13
                                                 ipureintro; rfl
                     ipureintro
                     sl_unfold_words
                     refine ⟨fun hl => ?_, fun hl => ?_⟩ <;> first
                     | exact absurd hl hc2
                     | exact absurd hl hc3
                     | rw [read_last _ _ hz2]
                       simp (disch := decide) only [View.readAt_eq_ld, e2, e3, e4, e5, e6, e7, e8, e9, e10, e11, e12, e13, e14, e15, View.ld_unit_lit', View.readCov_unit_lit', View.readCov_cons_unit_lit']
                       rfl
    isplitl [H14]; · iexists _; isplitr; swap; · iexact H14
                     ipureintro
                     sl_unfold_words
                     first
                     | refine (read_block i D _ _ _ _ e14).trans (congrArg (putD i D) ?_)
                     | refine (read_block i k0_pay10 _ _ _ _ (read_last _ _ hz3 _ _ _)).trans (congrArg (putD i k0_pay10) ?_)
                     simp (disch := decide) only [View.readCov_eq_canon_ld, View.canon_cons_unit_lit', View.readAt_eq_ld, e2, e3, e4, e5, e6, e7, e8, e9, e10, e11, e12, e13, e14, e15, View.ld_unit_lit', View.readCov_unit_lit', View.readCov_cons_unit_lit']
                     first
                     | rfl
                     | exact congrArg (fun D' : Vec F S21x64x768 .f32 => k0_pay2 (wideQ i x0 x4 x5 x8) (View.ld D' (Rect.unit (s := S21x64x768) (k0_off1 i) S1x64x768.size (k0_off1_inb i))) _) (read_last _ _ hz3 _ _ _)
    iexists _; isplitr; swap; · iexact H15
    ipureintro
    first
    | exact e15
    | sl_unfold_words
      rw [read_last _ _ hz2]
      simp (disch := decide) only [View.readAt_eq_ld, e2, e3, e4, e5, e6, e7, e8, e9, e10, e11, e12, e13, e14, e15, View.ld_unit_lit', View.readCov_unit_lit', View.readCov_cons_unit_lit']
end Cert.BackwardIdeal.Hand

end
-- ==== Proof.Backward.Block.lean ====
/-
  ONE BLOCK of the backward call over the reals: the codes it computes are the row's codes at the block's columns, and the
  three gradients move by the block's part of their sums.
-/
module

public import proofs.«01_k».proof.Proof.Backward.Point
public import proofs.«01_k».proof.Proof.Forward.Lanes
public import Idealize.ShloMosaic.Lib.Pointwise
public import Idealize.ShloMosaic.Lib.WordCmp

@[expose] public section

set_option maxRecDepth 16384

noncomputable section

namespace Cert.BackwardIdeal.Hand

open Cert.BackwardIdeal.Gen Cert.Lanes
open Idealize.ShloMosaic Idealize.ShloMosaic.TcCoe

/-- A code: the gradient of a logit, times the reciprocal of the scale, clipped. -/
def codeOf (hi lo one zero x l s : EReal) (p : BitVec 1) : EReal :=
  min hi (max lo ((Ideal.exp (x - l) - Scalar.select p one zero) * Ideal.div one s))

/-- The call's arguments: the logits, the quantised table, its scales, the low-rank factor, the labels, the logsumexps, the
    tokens' weights, the low-rank activations, the scale of the codes. -/
structure Args where
  lg : Vec Ideal S4096x16128 .f32
  wq : Vec Ideal S16032x8192 .fp8e4m3
  ws : Vec Ideal S1x16032 .f32
  b : Vec Ideal S16032x64 .bf16
  lab : Vec Ideal S4096x1 .i32
  lse : Vec Ideal S4096x1 .f32
  k : Vec Ideal S4096x1 .f32
  u : Vec Ideal S4096x64 .bf16
  ds : Vec Ideal S1 .f32

namespace Args
variable (A : Args)

/-- The code of token `R` at column `c`. -/
def code (R : Fin 4096) (c : Fin 16128) : EReal :=
  codeOf (Scalar.ofBits .f32 0x47600000#32 : Ideal .f32) (Scalar.ofBits .f32 0xC7600000#32 : Ideal .f32)
    (Scalar.ofBits .f32 0x3F800000#32 : Ideal .f32) (Scalar.ofBits .f32 0x00000000#32 : Ideal .f32)
    (A.lg (ix2 R c)) (A.lse (ix2 R 0)) (A.ds (ix1 0)) (IntOp.cmpi .eq (BitVec.ofNat 32 c.val) (A.lab (ix2 R 0)))

/-- A row of codes by column number. -/
def row (R : Fin 4096) (c : ℕ) : EReal := if h : c < 16128 then A.code R ⟨c, h⟩ else 0

/-- One column's term of the hidden state's gradient, -/
def gTerm (R : Fin 4096) (d : Fin 8192) (c : ℕ) : EReal :=
  if h : c < 16032 then A.row R c * A.ws (ix2 0 ⟨c, h⟩) * A.wq (ix2 ⟨c, h⟩ d) else 0
/-- of the product with the low-rank factor, -/
def lTerm (R : Fin 4096) (d : Fin 64) (c : ℕ) : EReal :=
  if h : c < 16032 then A.row R c * A.b (ix2 ⟨c, h⟩ d) else 0
/-- and one token's term of the low-rank factor's gradient at column `c`. -/
def dTerm (r : Fin 64) (c : ℕ) (R : ℕ) : EReal :=
  if h : R < 4096 then A.u (ix2 ⟨R, h⟩ r) * A.k (ix2 ⟨R, h⟩ 0) * A.row ⟨R, h⟩ c else 0

end Args

/-- The row of the arrays that row `r` of row block `i` is. -/
def gRow (i : grid0.Coords) (r : Fin 512) : Fin 4096 :=
  ⟨512 * (i 0).val + r.val, by have h : (i 0).val < 8 := (i 0).isLt; have := r.isLt; omega⟩

/-- The staged blocks hold the arguments' rows and, as far as there are any, columns of the point. -/
structure Sees (A : Args) (i : grid0.Coords) (x0 : Vec Ideal S512x768 .f32) (x1 : Vec Ideal S768x8192 .fp8e4m3)
    (x2 : Vec Ideal S1x768 .f32) (x3 : Vec Ideal S768x64 .bf16) (x4 : Vec Ideal S512x1 .i32) (x5 x6 : Vec Ideal S512x1 .f32)
    (x7 : Vec Ideal S512x64 .bf16) (x8 : Vec Ideal S1 .f32) : Prop where
  lg : ∀ (r : Fin 512) (q : Fin 768) (h : 768 * (i 1).val + q.val < 16128), x0 (ix2 r q) = A.lg (ix2 (gRow i r) ⟨_, h⟩)
  wq : ∀ (q : Fin 768) k (h : 768 * (i 1).val + q.val < 16032), x1 (ix2 q k) = A.wq (ix2 ⟨_, h⟩ k)
  ws : ∀ (q : Fin 768) (h : 768 * (i 1).val + q.val < 16032), x2 (ix2 0 q) = A.ws (ix2 0 ⟨_, h⟩)
  b : ∀ (q : Fin 768) k (h : 768 * (i 1).val + q.val < 16032), x3 (ix2 q k) = A.b (ix2 ⟨_, h⟩ k)
  lab : ∀ r, x4 (ix2 r 0) = A.lab (ix2 (gRow i r) 0)
  lse : ∀ r, x5 (ix2 r 0) = A.lse (ix2 (gRow i r) 0)
  k : ∀ r, x6 (ix2 r 0) = A.k (ix2 (gRow i r) 0)
  u : ∀ r k, x7 (ix2 r k) = A.u (ix2 (gRow i r) k)
  ds : x8 (ix1 0) = A.ds (ix1 0)

/-- A code of the block, of the vectors it is computed from. -/
theorem code_apply (lg bl : FVec Ideal S512x768 .f32) (p : IVec S512x768 1) (one zero lo hi s : Ideal .f32)
    (hb : FTy.bits .fp8e5m2 < FTy.bits .f32) (r : Fin 512) (q : Fin 768) :
    truncf .fp8e5m2 (minimumf (broadcast S512x768 hi) (maximumf (broadcast S512x768 lo)
      (mulf (subf (exp (subf lg bl)) (select p (broadcast S512x768 one) (broadcast S512x768 zero)))
        (broadcast S512x768 (Scalar.divf one s))))) hb (ix2 r q)
      = codeOf hi lo one zero (lg (ix2 r q)) (bl (ix2 r q)) s (p (ix2 r q)) := rfl

theorem col_apply (i : grid0.Coords) (x4 : Vec Ideal S512x1 .i32) (r : Fin 512) (q : Fin 768) :
    cmpi .eq (addi (broadcast S512x768 (Scalar.muli (BitVec.ofNat 32 (i 1).val) 768#32)) (iota .tc S512x768 32 [1] iota_S512x768_d1_w32))
      (broadcastTo S512x768 x4 broadcasts_S512x1_S512x768) (ix2 r q)
      = IntOp.cmpi .eq (BitVec.ofNat 32 (768 * (i 1).val + q.val)) (x4 (ix2 r 0)) := by
  have h1 : (i 1).val < 21 := (i 1).isLt
  have hq := q.isLt
  pointwise []
  congr 1
  apply BitVec.eq_of_toNat_eq
  simp only [IntOp.addi, Scalar.muli, IntOp.muli, BitVec.toNat_add, BitVec.toNat_mul, BitVec.toNat_ofNat]
  omega

theorem bcast_apply (x5 : Vec Ideal S512x1 .f32) (r : Fin 512) (q : Fin 768) :
    broadcastTo S512x768 x5 broadcasts_S512x1_S512x768 (ix2 r q) = x5 (ix2 r 0) := by
  pointwise []

theorem sc_eq (x8 : Vec Ideal S1 .f32) : sc x8 = x8 (ix1 0) :=
  congrArg x8 (funext fun a => match a with | ⟨0, _⟩ => Subsingleton.elim (α := Fin 1) _ _)

theorem pay7_apply (r : Fin 512) (d : Fin 8192) : k0_pay7 (F := Ideal) (ix2 r d) = 0 := by
  pointwise [k0_pay7]
theorem pay8_apply (r : Fin 512) (d : Fin 64) : k0_pay8 (F := Ideal) (ix2 r d) = 0 := by
  pointwise [k0_pay8]
theorem pay10_apply (j : Fin 21) (r : Fin 64) (d : Fin 768) : k0_pay10 (F := Ideal) (ix3 j r d) = 0 := by
  pointwise [k0_pay10]

section
variable {A : Args} {i : grid0.Coords} {x0 : Vec Ideal S512x768 .f32} {x1 : Vec Ideal S768x8192 .fp8e4m3}
    {x2 : Vec Ideal S1x768 .f32} {x3 : Vec Ideal S768x64 .bf16} {x4 : Vec Ideal S512x1 .i32} {x5 x6 : Vec Ideal S512x1 .f32}
    {x7 : Vec Ideal S512x64 .bf16} {x8 : Vec Ideal S1 .f32} (h : Sees A i x0 x1 x2 x3 x4 x5 x6 x7 x8)
include h

/-- The block's codes. -/
theorem newQ_apply (r : Fin 512) (q : Fin 768) :
    newQ i x0 x4 x5 x8 (ix2 r q) = A.row (gRow i r) (768 * (i 1).val + q.val) := by
  have h1 : (i 1).val < 21 := (i 1).isLt
  have hq := q.isLt
  have hc : 768 * (i 1).val + q.val < 16128 := by omega
  unfold newQ k0_pay11
  rw [sc_eq]
  refine (code_apply _ _ _ _ _ _ _ _ _ _ _).trans ?_
  rw [bcast_apply, col_apply, h.lg r q hc, h.lab, h.lse, h.ds]
  unfold Args.row
  rw [dif_pos hc]
  rfl

theorem wideQ_apply (r : Fin 512) (q : Fin 768) :
    wideQ i x0 x4 x5 x8 (ix2 r q) = A.row (gRow i r) (768 * (i 1).val + q.val) := newQ_apply h r q

/-- The weighted low-rank activations. -/
theorem pay9_apply (r : Fin 512) (k : Fin 64) :
    k0_pay9 x7 x6 (ix2 r k) = A.u (ix2 (gRow i r) k) * A.k (ix2 (gRow i r) 0) := by
  pointwise [k0_pay9, h.u, h.k]

theorem newG_apply (G : Vec Ideal S512x8192 .f32) (r : Fin 512) (d : Fin 8192) (hl : (i 1).val < 20)
    (hG : G (ix2 r d) = ∑ c ∈ Finset.range (768 * (i 1).val), A.gTerm (gRow i r) d c) :
    newG i x0 x1 x2 x4 x5 x8 G (ix2 r d) = ∑ c ∈ Finset.range (768 * ((i 1).val + 1)), A.gTerm (gRow i r) d c := by
  have eQ := fun r q => wideQ_apply h r q
  unfold newG
  generalize wideQ i x0 x4 x5 x8 = Q at eQ
  pointwise [k0_pay3, k0_pay1, eQ, hG]
  rw [show 768 * ((i 1).val + 1) = 768 * (i 1).val + 768 by ring, Finset.sum_range_add, ← sum_fin (n := 768)]
  refine congrArg _ (Finset.sum_congr rfl fun q _ => ?_)
  have hc : 768 * (i 1).val + q.val < 16032 := by have := q.isLt; omega
  unfold Args.gTerm
  rw [dif_pos hc, h.ws q hc, h.wq q d hc]

theorem endG_apply (G : Vec Ideal S512x8192 .f32) (r : Fin 512) (d : Fin 8192) (hl : (i 1).val = 20)
    (hG : G (ix2 r d) = ∑ c ∈ Finset.range (768 * (i 1).val), A.gTerm (gRow i r) d c) :
    endG i x0 x1 x2 x4 x5 x8 G (ix2 r d) = ∑ c ∈ Finset.range 16032, A.gTerm (gRow i r) d c := by
  have eQ := fun r q => wideQ_apply h r q
  have eW : ∀ (q : Fin 672) (hc : 768 * (i 1).val + q.val < 16032),
      View.ld x1 (Rect.unit (s := S768x8192) ![0, 0] S672x8192.size inb_S768x8192_S672x8192_0_0) (ix2 q d) = A.wq (ix2 ⟨_, hc⟩ d) := fun q hc => by
    rw [← h.wq ⟨q.val, by have := q.isLt; omega⟩ d hc]
    refine congrArg x1 (funext fun a => Fin.ext ?_)
    match a with
    | ⟨0, _⟩ => show 0 + 1 * q.val = q.val; omega
    | ⟨1, _⟩ => show 0 + 1 * d.val = d.val; omega
  unfold endG
  generalize View.ld x1 (Rect.unit (s := S768x8192) ![0, 0] S672x8192.size inb_S768x8192_S672x8192_0_0) = W at eW
  generalize wideQ i x0 x4 x5 x8 = Q at eQ
  pointwise [k0_pay5, k0_pay1, eQ, hG]
  rw [show 16032 = 768 * (i 1).val + 672 by omega, Finset.sum_range_add, ← sum_fin (n := 672)]
  refine congrArg _ (Finset.sum_congr rfl fun q _ => ?_)
  have hc : 768 * (i 1).val + q.val < 16032 := by have := q.isLt; omega
  have e := h.ws ⟨q.val, by have := q.isLt; omega⟩ hc
  unfold Args.gTerm
  rw [dif_pos hc, eW q hc, ← e]

theorem newL_apply (L : Vec Ideal S512x64 .f32) (r : Fin 512) (d : Fin 64) (hl : (i 1).val < 20)
    (hL : L (ix2 r d) = ∑ c ∈ Finset.range (768 * (i 1).val), A.lTerm (gRow i r) d c) :
    newL i x0 x3 x4 x5 x8 L (ix2 r d) = ∑ c ∈ Finset.range (768 * ((i 1).val + 1)), A.lTerm (gRow i r) d c := by
  have eQ := fun r q => wideQ_apply h r q
  unfold newL
  generalize wideQ i x0 x4 x5 x8 = Q at eQ
  pointwise [k0_pay4, eQ, hL]
  rw [show 768 * ((i 1).val + 1) = 768 * (i 1).val + 768 by ring, Finset.sum_range_add, ← sum_fin (n := 768)]
  refine congrArg _ (Finset.sum_congr rfl fun q _ => ?_)
  have hc : 768 * (i 1).val + q.val < 16032 := by have := q.isLt; omega
  unfold Args.lTerm
  rw [dif_pos hc, h.b q d hc]

theorem endL_apply (L : Vec Ideal S512x64 .f32) (r : Fin 512) (d : Fin 64) (hl : (i 1).val = 20)
    (hL : L (ix2 r d) = ∑ c ∈ Finset.range (768 * (i 1).val), A.lTerm (gRow i r) d c) :
    endL i x0 x3 x4 x5 x8 L (ix2 r d) = ∑ c ∈ Finset.range 16032, A.lTerm (gRow i r) d c := by
  have eQ := fun r q => wideQ_apply h r q
  have eW : ∀ (q : Fin 672) (hc : 768 * (i 1).val + q.val < 16032),
      View.ld x3 (Rect.unit (s := S768x64) ![0, 0] S672x64.size inb_S768x64_S672x64_0_0) (ix2 q d) = A.b (ix2 ⟨_, hc⟩ d) := fun q hc => by
    rw [← h.b ⟨q.val, by have := q.isLt; omega⟩ d hc]
    refine congrArg x3 (funext fun a => Fin.ext ?_)
    match a with
    | ⟨0, _⟩ => show 0 + 1 * q.val = q.val; omega
    | ⟨1, _⟩ => show 0 + 1 * d.val = d.val; omega
  unfold endL
  generalize View.ld x3 (Rect.unit (s := S768x64) ![0, 0] S672x64.size inb_S768x64_S672x64_0_0) = W at eW
  generalize wideQ i x0 x4 x5 x8 = Q at eQ
  pointwise [k0_pay6, eQ, hL]
  rw [show 16032 = 768 * (i 1).val + 672 by omega, Finset.sum_range_add, ← sum_fin (n := 672)]
  refine congrArg _ (Finset.sum_congr rfl fun q _ => ?_)
  have hc : 768 * (i 1).val + q.val < 16032 := by have := q.isLt; omega
  unfold Args.lTerm
  rw [dif_pos hc, eW q hc]

/-- The column block's part of the low-rank factor's gradient, moved by the row block's tokens. -/
theorem pay2_apply (D : Vec Ideal S1x64x768 .f32) (U : Vec Ideal S512x64 .bf16) (r : Fin 64) (q : Fin 768)
    (hU : ∀ (R : Fin 512) (k : Fin 64), U (ix2 R k) = A.u (ix2 (gRow i R) k) * A.k (ix2 (gRow i R) 0))
    (hD : D (ix3 0 r q) = ∑ R ∈ Finset.range (512 * (i 0).val), A.dTerm r (768 * (i 1).val + q.val) R) :
    k0_pay2 (wideQ i x0 x4 x5 x8) D U (ix3 0 r q)
      = ∑ R ∈ Finset.range (512 * ((i 0).val + 1)), A.dTerm r (768 * (i 1).val + q.val) R := by
  have eQ := fun r q => wideQ_apply h r q
  have h0 : (i 0).val < 8 := (i 0).isLt
  generalize wideQ i x0 x4 x5 x8 = Q at eQ
  pointwise [k0_pay2, eQ, hD, hU]
  rw [show 512 * ((i 0).val + 1) = 512 * (i 0).val + 512 by ring, Finset.sum_range_add, ← sum_fin (n := 512)]
  refine congrArg _ (Finset.sum_congr rfl fun R _ => ?_)
  unfold Args.dTerm
  rw [dif_pos (show 512 * (i 0).val + R.val < 4096 by have := R.isLt; omega)]
  rfl

end

end Cert.BackwardIdeal.Hand

end
-- ==== Proof.Backward.Track.lean ====
/-
  What the backward call's run is followed by: at every point the staged blocks are the arguments' rows and columns, the
  scratch holds the row block's weighted activations, the three gradients' buffers hold the sums so far.
-/
module

public import proofs.«01_k».proof.Proof.Backward.Block
public import proofs.«01_k».proof.Proof.Gen.BackwardIdeal.Launch
public import proofs.«01_k».proof.Proof.Gen.BackwardIdeal.Points
public import proofs.«01_k».proof.Proof.Gen.BackwardIdeal.Frame
public import Idealize.ShloMosaic.Lib.Pipeline.FrameBody
public import Idealize.ShloMosaic.Lib.Pipeline.ArrRel
public import Idealize.ShloMosaic.Lib.Tactic

@[expose] public section

set_option maxRecDepth 16384

noncomputable section

namespace Cert.BackwardIdeal.Hand

open Cert.BackwardIdeal.Gen Cert.Lanes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

local notation "𝕄" => MT nD τ sig Unit (Elt Ideal) ℕ (UR sig nD τ) ℕ

variable (m : (ℓ : Loc nD τ sig) → Buf (Elt Ideal) ℓ) (ρ : Dev nD → PrngReg)

/-- The arguments as launched. -/
def argsOf (c : Dev nD) : Args where
  lg := m ((c : Thread nD τ).loc main_arg0)
  wq := m ((c : Thread nD τ).loc main_arg1)
  ws := m ((c : Thread nD τ).loc main_arg2)
  b := m ((c : Thread nD τ).loc main_arg3)
  lab := m ((c : Thread nD τ).loc main_arg4)
  lse := m ((c : Thread nD τ).loc main_arg5)
  k := m ((c : Thread nD τ).loc main_arg6)
  u := m ((c : Thread nD τ).loc main_arg7)
  ds := m ((c : Thread nD τ).loc main_arg8)

/-! ### Points -/

theorem coords_eq : ∀ t : Fin cfg0.N, (grid0.coords t 0).val = t.val / 21 ∧ (grid0.coords t 1).val = t.val % 21 :=
  (by decide +kernel : ∀ t : Fin grid0.N, _)

theorem c0_iff : ∀ t : Fin cfg0.N, c0 (grid0.coords t) ↔ t.val % 21 = 0 :=
  (by decide +kernel : ∀ t : Fin grid0.N, _)
theorem c1_iff : ∀ t : Fin cfg0.N, c1 (grid0.coords t) ↔ t.val = 0 :=
  (by decide +kernel : ∀ t : Fin grid0.N, _)
theorem c2_iff : ∀ t : Fin cfg0.N, c2 (grid0.coords t) ↔ t.val % 21 ≠ 20 :=
  (by decide +kernel : ∀ t : Fin grid0.N, _)
theorem c3_iff : ∀ t : Fin cfg0.N, c3 (grid0.coords t) ↔ t.val % 21 = 20 :=
  (by decide +kernel : ∀ t : Fin grid0.N, _)

/-! ### What is kept -/

/-- Before point `n` the scratch holds the row block's weighted activations (before a row block's first point: anything). -/
def Inv (A : Args) (n : ℕ) (u : Vec Ideal S512x64 .bf16) : Prop :=
  n % 21 ≠ 0 → ∀ (r : Fin 512) (R : Fin 4096) (k : Fin 64), R.val = 512 * (n / 21) + r.val →
    u (ix2 r k) = A.u (ix2 R k) * A.k (ix2 R 0)

/-- How many columns of the vocabulary the points up to `j` of a row block have seen. -/
def seen (j : ℕ) : ℕ := if j = 20 then 16032 else 768 * (j + 1)

/-- How many row blocks the points up to `n` have put in column block `j` of the low-rank factor's gradient. -/
def rows (n j : ℕ) : ℕ := if j ≤ n % 21 then n / 21 + 1 else n / 21

/-- The block of codes of point `t`. -/
def Out9 (A : Args) (t : Fin cfg0.N) (X : Vec Ideal S512x768 .fp8e5m2) : Prop :=
  ∀ (r : Fin 512) (q : Fin 768), X (ix2 r q) = A.row (gRow (grid0.coords t) r) (768 * (grid0.coords t 1).val + q.val)

/-- The hidden states' gradient so far, -/
def Out10 (A : Args) (t : Fin cfg0.N) (X : Vec Ideal S512x8192 .f32) : Prop :=
  ∀ (r : Fin 512) (d : Fin 8192) (R : Fin 4096), R.val = 512 * (t.val / 21) + r.val →
    X (ix2 r d) = ∑ c ∈ Finset.range (seen (t.val % 21)), A.gTerm R d c

/-- the product with the low-rank factor so far, -/
def Out11 (A : Args) (t : Fin cfg0.N) (X : Vec Ideal S512x64 .f32) : Prop :=
  ∀ (r : Fin 512) (d : Fin 64) (R : Fin 4096), R.val = 512 * (t.val / 21) + r.val →
    X (ix2 r d) = ∑ c ∈ Finset.range (seen (t.val % 21)), A.lTerm R d c

/-- and the low-rank factor's gradient so far. -/
def Out12 (A : Args) (t : Fin cfg0.N) (X : Vec Ideal S21x64x768 .f32) : Prop :=
  ∀ (j : Fin 21) (r : Fin 64) (q : Fin 768),
    X (ix3 j r q) = ∑ R ∈ Finset.range (512 * rows t.val j.val), A.dTerm r (768 * j.val + q.val) R

/-- What a point may leave in a window's buffer, of what it found. -/
def after (A : Args) : (w : Fin cfg0.W) → Fin cfg0.N → (Y X : (cfg0.win w).block.Idx → Elt Ideal (cfg0.win w).elt) → Prop
  | ⟨0, _⟩ => fun _ Y X => X = Y
  | ⟨1, _⟩ => fun _ Y X => X = Y
  | ⟨2, _⟩ => fun _ Y X => X = Y
  | ⟨3, _⟩ => fun _ Y X => X = Y
  | ⟨4, _⟩ => fun _ Y X => X = Y
  | ⟨5, _⟩ => fun _ Y X => X = Y
  | ⟨6, _⟩ => fun _ Y X => X = Y
  | ⟨7, _⟩ => fun _ Y X => X = Y
  | ⟨8, _⟩ => fun _ Y X => X = Y
  | ⟨9, _⟩ => fun t _ X => Out9 A t X
  | ⟨10, _⟩ => fun t _ X => Out10 A t X
  | ⟨11, _⟩ => fun t _ X => Out11 A t X
  | ⟨12, _⟩ => fun t _ X => Out12 A t X
  | ⟨_ + 13, h⟩ => fun _ _ _ => True

/-- The scratch at what it holds before point `n`, and the generator register. -/
def Phi (c : Dev nD) (A : Args) (n : ℕ) : sProp 𝕄 :=
  iprop(∃ u, ⌜Inv A n u⌝ ∗ owns (c : Thread nD τ) (Memref.whole cc0_scratch0) fullShare u ∗ (∃ r, prngReg c r))

def rdat (c : Dev nD) : RDat τ (Elt Ideal) Unit ℕ (UR sig nD τ) ℕ cfg0 c where
  A w := V m c (Pipeline.arrRef spec0 w)
  after := after (argsOf m c)
  Φ t := Phi c (argsOf m c) t.val
  q _ := fullShare
  owed _ := 0

/-! ### What a point finds staged -/

theorem idx_eq : ∀ t : Fin cfg0.N,
    (win0_0.index t (0 : Fin 2) = t.val / 21 ∧ win0_0.index t (1 : Fin 2) = t.val % 21)
    ∧ (win0_1.index t (0 : Fin 2) = t.val % 21 ∧ win0_1.index t (1 : Fin 2) = 0)
    ∧ (win0_2.index t (0 : Fin 2) = 0 ∧ win0_2.index t (1 : Fin 2) = t.val % 21)
    ∧ (win0_3.index t (0 : Fin 2) = t.val % 21 ∧ win0_3.index t (1 : Fin 2) = 0)
    ∧ (win0_4.index t (0 : Fin 2) = t.val / 21 ∧ win0_4.index t (1 : Fin 2) = 0)
    ∧ (win0_5.index t (0 : Fin 2) = t.val / 21 ∧ win0_5.index t (1 : Fin 2) = 0)
    ∧ (win0_6.index t (0 : Fin 2) = t.val / 21 ∧ win0_6.index t (1 : Fin 2) = 0)
    ∧ (win0_7.index t (0 : Fin 2) = t.val / 21 ∧ win0_7.index t (1 : Fin 2) = 0)
    ∧ (win0_8.index t (0 : Fin 1) = 0)
    ∧ (win0_9.index t (0 : Fin 2) = t.val / 21 ∧ win0_9.index t (1 : Fin 2) = t.val % 21)
    ∧ (win0_10.index t (0 : Fin 2) = t.val / 21 ∧ win0_10.index t (1 : Fin 2) = 0)
    ∧ (win0_11.index t (0 : Fin 2) = t.val / 21 ∧ win0_11.index t (1 : Fin 2) = 0)
    ∧ (win0_12.index t (0 : Fin 3) = 0 ∧ win0_12.index t (1 : Fin 3) = 0 ∧ win0_12.index t (2 : Fin 3) = 0) :=
  (by decide +kernel : ∀ t : Fin grid0.N, _)

section
variable {m} {c : Dev nD} {t : Fin cfg0.N}

theorem get0 {Y} (hY : (rdat m c).Finds 0 t Y) (r : Fin 512) (q : Fin 768) (h : 768 * (grid0.coords t 1).val + q.val < 16128) :
    (Y : Vec Ideal S512x768 .f32) (ix2 r q) = (argsOf m c).lg (ix2 (gRow (grid0.coords t) r) ⟨_, h⟩) := by
  obtain ⟨d, rfl⟩ := (rdat m c).finds_in_eq_fetched 0 rfl
    (fun _ _ _ => rfl)
    (fun _ _ _ h => h) t Y hY
  have e := (idx_eq t).1
  have hc := coords_eq t
  have ht : t.val < 168 := t.isLt
  have h0 := r.isLt
  have h1 := q.isLt
  unfold RDat.fetched Window.fill
  rw [dif_pos (Cert.Whole.moved_of _ rfl _ _ fun a => by
    match a with
    | ⟨0, _⟩ => show win0_0.index t (0 : Fin 2) * 512 + r.val < 4096; omega
    | ⟨1, _⟩ => show win0_0.index t (1 : Fin 2) * 768 + q.val < 16128; omega)]
  show (argsOf m c).lg (((cfg0.win 0).blk t).view.emb _) = _
  congr 1; funext a; apply Fin.ext
  match a with
  | ⟨0, _⟩ => show win0_0.index t (0 : Fin 2) * 512 + 1 * r.val = 512 * (grid0.coords t 0).val + r.val; omega
  | ⟨1, _⟩ => show win0_0.index t (1 : Fin 2) * 768 + 1 * q.val = 768 * (grid0.coords t 1).val + q.val; omega

theorem get1 {Y} (hY : (rdat m c).Finds 1 t Y) (q : Fin 768) (k : Fin 8192) (h : 768 * (grid0.coords t 1).val + q.val < 16032) :
    (Y : Vec Ideal S768x8192 .fp8e4m3) (ix2 q k) = (argsOf m c).wq (ix2 ⟨_, h⟩ k) := by
  obtain ⟨d, rfl⟩ := (rdat m c).finds_in_eq_fetched 1 rfl
    (fun t t' h => funext fun a => by
      show Pipeline.Clip.of (win0_1.index t a) _ _ = Pipeline.Clip.of (win0_1.index t' a) _ _
      rw [show win0_1.index t = win0_1.index t' from h])
    (fun _ _ _ h => h) t Y hY
  have e := (idx_eq t).2.1
  have hc := coords_eq t
  have ht : t.val < 168 := t.isLt
  have h0 := q.isLt
  have h1 := k.isLt
  unfold RDat.fetched Window.fill
  rw [dif_pos (Cert.Whole.moved_of _ rfl _ _ fun a => by
    match a with
    | ⟨0, _⟩ => show win0_1.index t (0 : Fin 2) * 768 + q.val < 16032; omega
    | ⟨1, _⟩ => show win0_1.index t (1 : Fin 2) * 8192 + k.val < 8192; omega)]
  show (argsOf m c).wq (((cfg0.win 1).blk t).view.emb _) = _
  congr 1; funext a; apply Fin.ext
  match a with
  | ⟨0, _⟩ => show win0_1.index t (0 : Fin 2) * 768 + 1 * q.val = 768 * (grid0.coords t 1).val + q.val; omega
  | ⟨1, _⟩ => show win0_1.index t (1 : Fin 2) * 8192 + 1 * k.val = k.val; omega

theorem get2 {Y} (hY : (rdat m c).Finds 2 t Y) (z : Fin 1) (q : Fin 768) (h : 768 * (grid0.coords t 1).val + q.val < 16032) :
    (Y : Vec Ideal S1x768 .f32) (ix2 z q) = (argsOf m c).ws (ix2 z ⟨_, h⟩) := by
  obtain ⟨d, rfl⟩ := (rdat m c).finds_in_eq_fetched 2 rfl
    (fun t t' h => funext fun a => by
      show Pipeline.Clip.of (win0_2.index t a) _ _ = Pipeline.Clip.of (win0_2.index t' a) _ _
      rw [show win0_2.index t = win0_2.index t' from h])
    (fun _ _ _ h => h) t Y hY
  have e := (idx_eq t).2.2.1
  have hc := coords_eq t
  have ht : t.val < 168 := t.isLt
  have h0 := z.isLt
  have h1 := q.isLt
  unfold RDat.fetched Window.fill
  rw [dif_pos (Cert.Whole.moved_of _ rfl _ _ fun a => by
    match a with
    | ⟨0, _⟩ => show win0_2.index t (0 : Fin 2) * 1 + z.val < 1; omega
    | ⟨1, _⟩ => show win0_2.index t (1 : Fin 2) * 768 + q.val < 16032; omega)]
  show (argsOf m c).ws (((cfg0.win 2).blk t).view.emb _) = _
  congr 1; funext a; apply Fin.ext
  match a with
  | ⟨0, _⟩ => show win0_2.index t (0 : Fin 2) * 1 + 1 * z.val = z.val; omega
  | ⟨1, _⟩ => show win0_2.index t (1 : Fin 2) * 768 + 1 * q.val = 768 * (grid0.coords t 1).val + q.val; omega

theorem get3 {Y} (hY : (rdat m c).Finds 3 t Y) (q : Fin 768) (k : Fin 64) (h : 768 * (grid0.coords t 1).val + q.val < 16032) :
    (Y : Vec Ideal S768x64 .bf16) (ix2 q k) = (argsOf m c).b (ix2 ⟨_, h⟩ k) := by
  obtain ⟨d, rfl⟩ := (rdat m c).finds_in_eq_fetched 3 rfl
    (fun t t' h => funext fun a => by
      show Pipeline.Clip.of (win0_3.index t a) _ _ = Pipeline.Clip.of (win0_3.index t' a) _ _
      rw [show win0_3.index t = win0_3.index t' from h])
    (fun _ _ _ h => h) t Y hY
  have e := (idx_eq t).2.2.2.1
  have hc := coords_eq t
  have ht : t.val < 168 := t.isLt
  have h0 := q.isLt
  have h1 := k.isLt
  unfold RDat.fetched Window.fill
  rw [dif_pos (Cert.Whole.moved_of _ rfl _ _ fun a => by
    match a with
    | ⟨0, _⟩ => show win0_3.index t (0 : Fin 2) * 768 + q.val < 16032; omega
    | ⟨1, _⟩ => show win0_3.index t (1 : Fin 2) * 64 + k.val < 64; omega)]
  show (argsOf m c).b (((cfg0.win 3).blk t).view.emb _) = _
  congr 1; funext a; apply Fin.ext
  match a with
  | ⟨0, _⟩ => show win0_3.index t (0 : Fin 2) * 768 + 1 * q.val = 768 * (grid0.coords t 1).val + q.val; omega
  | ⟨1, _⟩ => show win0_3.index t (1 : Fin 2) * 64 + 1 * k.val = k.val; omega

theorem get4 {Y} (hY : (rdat m c).Finds 4 t Y) (r : Fin 512) (z : Fin 1) :
    (Y : Vec Ideal S512x1 .i32) (ix2 r z) = (argsOf m c).lab (ix2 (gRow (grid0.coords t) r) z) := by
  obtain ⟨d, rfl⟩ := (rdat m c).finds_in_eq_fetched 4 rfl
    (fun _ _ _ => rfl)
    (fun _ _ _ h => h) t Y hY
  have e := (idx_eq t).2.2.2.2.1
  have hc := coords_eq t
  have ht : t.val < 168 := t.isLt
  have h0 := r.isLt
  have h1 := z.isLt
  unfold RDat.fetched Window.fill
  rw [dif_pos (Cert.Whole.moved_of _ rfl _ _ fun a => by
    match a with
    | ⟨0, _⟩ => show win0_4.index t (0 : Fin 2) * 512 + r.val < 4096; omega
    | ⟨1, _⟩ => show win0_4.index t (1 : Fin 2) * 1 + z.val < 1; omega)]
  show (argsOf m c).lab (((cfg0.win 4).blk t).view.emb _) = _
  congr 1; funext a; apply Fin.ext
  match a with
  | ⟨0, _⟩ => show win0_4.index t (0 : Fin 2) * 512 + 1 * r.val = 512 * (grid0.coords t 0).val + r.val; omega
  | ⟨1, _⟩ => show win0_4.index t (1 : Fin 2) * 1 + 1 * z.val = z.val; omega

theorem get5 {Y} (hY : (rdat m c).Finds 5 t Y) (r : Fin 512) (z : Fin 1) :
    (Y : Vec Ideal S512x1 .f32) (ix2 r z) = (argsOf m c).lse (ix2 (gRow (grid0.coords t) r) z) := by
  obtain ⟨d, rfl⟩ := (rdat m c).finds_in_eq_fetched 5 rfl
    (fun _ _ _ => rfl)
    (fun _ _ _ h => h) t Y hY
  have e := (idx_eq t).2.2.2.2.2.1
  have hc := coords_eq t
  have ht : t.val < 168 := t.isLt
  have h0 := r.isLt
  have h1 := z.isLt
  unfold RDat.fetched Window.fill
  rw [dif_pos (Cert.Whole.moved_of _ rfl _ _ fun a => by
    match a with
    | ⟨0, _⟩ => show win0_5.index t (0 : Fin 2) * 512 + r.val < 4096; omega
    | ⟨1, _⟩ => show win0_5.index t (1 : Fin 2) * 1 + z.val < 1; omega)]
  show (argsOf m c).lse (((cfg0.win 5).blk t).view.emb _) = _
  congr 1; funext a; apply Fin.ext
  match a with
  | ⟨0, _⟩ => show win0_5.index t (0 : Fin 2) * 512 + 1 * r.val = 512 * (grid0.coords t 0).val + r.val; omega
  | ⟨1, _⟩ => show win0_5.index t (1 : Fin 2) * 1 + 1 * z.val = z.val; omega

theorem get6 {Y} (hY : (rdat m c).Finds 6 t Y) (r : Fin 512) (z : Fin 1) :
    (Y : Vec Ideal S512x1 .f32) (ix2 r z) = (argsOf m c).k (ix2 (gRow (grid0.coords t) r) z) := by
  obtain ⟨d, rfl⟩ := (rdat m c).finds_in_eq_fetched 6 rfl
    (fun _ _ _ => rfl)
    (fun _ _ _ h => h) t Y hY
  have e := (idx_eq t).2.2.2.2.2.2.1
  have hc := coords_eq t
  have ht : t.val < 168 := t.isLt
  have h0 := r.isLt
  have h1 := z.isLt
  unfold RDat.fetched Window.fill
  rw [dif_pos (Cert.Whole.moved_of _ rfl _ _ fun a => by
    match a with
    | ⟨0, _⟩ => show win0_6.index t (0 : Fin 2) * 512 + r.val < 4096; omega
    | ⟨1, _⟩ => show win0_6.index t (1 : Fin 2) * 1 + z.val < 1; omega)]
  show (argsOf m c).k (((cfg0.win 6).blk t).view.emb _) = _
  congr 1; funext a; apply Fin.ext
  match a with
  | ⟨0, _⟩ => show win0_6.index t (0 : Fin 2) * 512 + 1 * r.val = 512 * (grid0.coords t 0).val + r.val; omega
  | ⟨1, _⟩ => show win0_6.index t (1 : Fin 2) * 1 + 1 * z.val = z.val; omega

theorem get7 {Y} (hY : (rdat m c).Finds 7 t Y) (r : Fin 512) (k : Fin 64) :
    (Y : Vec Ideal S512x64 .bf16) (ix2 r k) = (argsOf m c).u (ix2 (gRow (grid0.coords t) r) k) := by
  obtain ⟨d, rfl⟩ := (rdat m c).finds_in_eq_fetched 7 rfl
    (fun _ _ _ => rfl)
    (fun _ _ _ h => h) t Y hY
  have e := (idx_eq t).2.2.2.2.2.2.2.1
  have hc := coords_eq t
  have ht : t.val < 168 := t.isLt
  have h0 := r.isLt
  have h1 := k.isLt
  unfold RDat.fetched Window.fill
  rw [dif_pos (Cert.Whole.moved_of _ rfl _ _ fun a => by
    match a with
    | ⟨0, _⟩ => show win0_7.index t (0 : Fin 2) * 512 + r.val < 4096; omega
    | ⟨1, _⟩ => show win0_7.index t (1 : Fin 2) * 64 + k.val < 64; omega)]
  show (argsOf m c).u (((cfg0.win 7).blk t).view.emb _) = _
  congr 1; funext a; apply Fin.ext
  match a with
  | ⟨0, _⟩ => show win0_7.index t (0 : Fin 2) * 512 + 1 * r.val = 512 * (grid0.coords t 0).val + r.val; omega
  | ⟨1, _⟩ => show win0_7.index t (1 : Fin 2) * 64 + 1 * k.val = k.val; omega

theorem get8 {Y} (hY : (rdat m c).Finds 8 t Y) (z : Fin 1) :
    (Y : Vec Ideal S1 .f32) (ix1 z) = (argsOf m c).ds (ix1 z) := by
  obtain ⟨d, rfl⟩ := (rdat m c).finds_in_eq_fetched 8 rfl
    (fun _ _ _ => rfl)
    (fun _ _ _ h => h) t Y hY
  have e := (idx_eq t).2.2.2.2.2.2.2.2.1
  have hc := coords_eq t
  have ht : t.val < 168 := t.isLt
  have h0 := z.isLt
  unfold RDat.fetched Window.fill
  rw [dif_pos (Cert.Whole.moved_of _ rfl _ _ fun a => by
    match a with
    | ⟨0, _⟩ => show win0_8.index t (0 : Fin 1) * 1 + z.val < 1; omega)]
  show (argsOf m c).ds (((cfg0.win 8).blk t).view.emb _) = _
  congr 1; funext a; apply Fin.ext
  match a with
  | ⟨0, _⟩ => show win0_8.index t (0 : Fin 1) * 1 + 1 * z.val = z.val; omega

/-- The staged blocks of a point hold the arguments' rows and columns. -/
theorem sees {Y0 Y1 Y2 Y3 Y4 Y5 Y6 Y7 Y8} (h0 : (rdat m c).Finds 0 t Y0) (h1 : (rdat m c).Finds 1 t Y1) (h2 : (rdat m c).Finds 2 t Y2) (h3 : (rdat m c).Finds 3 t Y3) (h4 : (rdat m c).Finds 4 t Y4) (h5 : (rdat m c).Finds 5 t Y5) (h6 : (rdat m c).Finds 6 t Y6) (h7 : (rdat m c).Finds 7 t Y7) (h8 : (rdat m c).Finds 8 t Y8) :
    Sees (argsOf m c) (grid0.coords t) Y0 Y1 Y2 Y3 Y4 Y5 Y6 Y7 Y8 :=
  ⟨get0 h0, get1 h1, fun q h => get2 h2 0 q h, get3 h3, fun r => get4 h4 r 0, fun r => get5 h5 r 0, fun r => get6 h6 r 0,
    get7 h7, get8 h8 0⟩

/-- A buffer that is neither fetched nor written back between two points is found as it was left. -/
theorem found (w : Fin cfg0.W) (hw : (cfg0.win w).fetch t = false) (ht : t.val ≠ 0)
    (hf : (cfg0.win w).flush ⟨t.val - 1, Nat.lt_of_le_of_lt (Nat.sub_le _ _) t.isLt⟩ = false) {Y} (hY : (rdat m c).Finds w t Y) :
    ∃ Z, after (argsOf m c) w ⟨t.val - 1, Nat.lt_of_le_of_lt (Nat.sub_le _ _) t.isLt⟩ Z Y := by
  rcases ((rdat m c).finds_of_pos hw ht Y).mp hY with h | ⟨Z, -, h⟩
  · rw [hf] at h; exact absurd h Bool.false_ne_true
  · exact ⟨Z, h⟩

theorem found10 (hj : t.val % 21 ≠ 0) {Y} (hY : (rdat m c).Finds 10 t Y) (r : Fin 512) (d : Fin 8192) :
    (Y : Vec Ideal S512x8192 .f32) (ix2 r d)
      = ∑ n ∈ Finset.range (768 * (grid0.coords t 1).val), (argsOf m c).gTerm (gRow (grid0.coords t) r) d n := by
  have hc := coords_eq t
  have ht : t.val < 168 := t.isLt
  obtain ⟨Z, h⟩ := found 10 (by rfl) (by omega) (Bool.eq_false_iff.mpr fun h => by have := (flush0_10 _).mp h; dsimp only at this; omega) hY
  have h : Out10 (argsOf m c) _ Y := h
  have e := h r d (gRow (grid0.coords t) r) (by show 512 * (grid0.coords t 0).val + r.val = 512 * ((t.val - 1) / 21) + r.val; omega)
  rw [e]; unfold seen; dsimp only
  rw [if_neg (by omega), show 768 * ((t.val - 1) % 21 + 1) = 768 * (grid0.coords t 1).val by omega]

theorem found11 (hj : t.val % 21 ≠ 0) {Y} (hY : (rdat m c).Finds 11 t Y) (r : Fin 512) (d : Fin 64) :
    (Y : Vec Ideal S512x64 .f32) (ix2 r d)
      = ∑ n ∈ Finset.range (768 * (grid0.coords t 1).val), (argsOf m c).lTerm (gRow (grid0.coords t) r) d n := by
  have hc := coords_eq t
  have ht : t.val < 168 := t.isLt
  obtain ⟨Z, h⟩ := found 11 (by rfl) (by omega) (Bool.eq_false_iff.mpr fun h => by have := (flush0_11 _).mp h; dsimp only at this; omega) hY
  have h : Out11 (argsOf m c) _ Y := h
  have e := h r d (gRow (grid0.coords t) r) (by show 512 * (grid0.coords t 0).val + r.val = 512 * ((t.val - 1) / 21) + r.val; omega)
  rw [e]; unfold seen; dsimp only
  rw [if_neg (by omega), show 768 * ((t.val - 1) % 21 + 1) = 768 * (grid0.coords t 1).val by omega]

theorem found12 (hj : t.val ≠ 0) {Y} (hY : (rdat m c).Finds 12 t Y) (j : Fin 21) (r : Fin 64) (q : Fin 768) :
    (Y : Vec Ideal S21x64x768 .f32) (ix3 j r q)
      = ∑ R ∈ Finset.range (512 * rows (t.val - 1) j.val), (argsOf m c).dTerm r (768 * j.val + q.val) R := by
  have ht : t.val < 168 := t.isLt
  obtain ⟨Z, h⟩ := found 12 (by rfl) hj (Bool.eq_false_iff.mpr fun h => by have := (flush0_12 _).mp h; dsimp only at this; omega) hY
  have h : Out12 (argsOf m c) _ Y := h
  exact h j r q
end

end Cert.BackwardIdeal.Hand

end
-- ==== Proof.Backward.Run.lean ====
/- THE RUN of the backward call over the reals: the tracking relation holds at every point, and the run ends with it. -/
module

public import proofs.«01_k».proof.Proof.Backward.Track

@[expose] public section

set_option maxRecDepth 16384

noncomputable section

namespace Cert.BackwardIdeal.Hand

open Cert.BackwardIdeal.Gen Cert.Lanes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

local notation "𝕄" => MT nD τ sig Unit (Elt Ideal) ℕ (UR sig nD τ) ℕ

variable (m : (ℓ : Loc nD τ sig) → Buf (Elt Ideal) ℓ) (ρ : Dev nD → PrngReg)

/-- The sums a point starts from, in the three gradients' buffers and the scratch. -/
structure Start (A : Args) (t : Fin cfg0.N) (G : Vec Ideal S512x8192 .f32) (L : Vec Ideal S512x64 .f32)
    (D : Vec Ideal S21x64x768 .f32) (U : Vec Ideal S512x64 .bf16) : Prop where
  hG : ∀ (r : Fin 512) (d : Fin 8192), G (ix2 r d)
    = ∑ n ∈ Finset.range (768 * (grid0.coords t 1).val), A.gTerm (gRow (grid0.coords t) r) d n
  hL : ∀ (r : Fin 512) (d : Fin 64), L (ix2 r d)
    = ∑ n ∈ Finset.range (768 * (grid0.coords t 1).val), A.lTerm (gRow (grid0.coords t) r) d n
  hU : ∀ (r : Fin 512) (k : Fin 64), U (ix2 r k) = A.u (ix2 (gRow (grid0.coords t) r) k) * A.k (ix2 (gRow (grid0.coords t) r) 0)
  hD : ∀ (j : Fin 21) (r : Fin 64) (q : Fin 768), D (ix3 j r q)
    = ∑ R ∈ Finset.range (512 * (if j.val < t.val % 21 then t.val / 21 + 1 else t.val / 21)), A.dTerm r (768 * j.val + q.val) R

/-- The row block's gradients and the scratch before a point: set anew at a row block's first point, else as found. -/
theorem startG {c : Dev nD} {t : Fin cfg0.N} {x0 x1 x2 x3 x4 x5 x6 x7 x8} (hS : Sees (argsOf m c) (grid0.coords t) x0 x1 x2 x3 x4 x5 x6 x7 x8)
    {Y10} (h10 : (rdat m c).Finds 10 t Y10) {Y11} (h11 : (rdat m c).Finds 11 t Y11) {u : Vec Ideal S512x64 .bf16} (hI : Inv (argsOf m c) t.val u) :
    ∃ (G : Vec Ideal S512x8192 .f32) (L : Vec Ideal S512x64 .f32) (U : Vec Ideal S512x64 .bf16),
      (c0 (grid0.coords t) ∧ G = k0_pay7 (F := Ideal) ∧ L = k0_pay8 (F := Ideal) ∧ U = k0_pay9 x7 x6
        ∨ ¬c0 (grid0.coords t) ∧ G = Y10 ∧ L = Y11 ∧ U = u)
      ∧ (∀ (r : Fin 512) (d : Fin 8192), G (ix2 r d)
        = ∑ n ∈ Finset.range (768 * (grid0.coords t 1).val), (argsOf m c).gTerm (gRow (grid0.coords t) r) d n)
      ∧ (∀ (r : Fin 512) (d : Fin 64), L (ix2 r d)
        = ∑ n ∈ Finset.range (768 * (grid0.coords t 1).val), (argsOf m c).lTerm (gRow (grid0.coords t) r) d n)
      ∧ (∀ (r : Fin 512) (k : Fin 64), U (ix2 r k)
        = (argsOf m c).u (ix2 (gRow (grid0.coords t) r) k) * (argsOf m c).k (ix2 (gRow (grid0.coords t) r) 0)) := by
  have hc := coords_eq t
  by_cases hf : t.val % 21 = 0
  · refine ⟨k0_pay7 (F := Ideal), k0_pay8 (F := Ideal), k0_pay9 x7 x6, Or.inl ⟨(c0_iff t).mpr hf, rfl, rfl, rfl⟩,
      fun r d => ?_, fun r d => ?_, fun r k => pay9_apply hS r k⟩
    · rw [hc.2, hf, Nat.mul_zero, Finset.range_zero, Finset.sum_empty]; exact pay7_apply r d
    · rw [hc.2, hf, Nat.mul_zero, Finset.range_zero, Finset.sum_empty]; exact pay8_apply r d
  · exact ⟨Y10, Y11, u, Or.inr ⟨fun h => hf ((c0_iff t).mp h), rfl, rfl, rfl⟩, found10 hf h10, found11 hf h11,
      fun r k => hI hf r _ k (by show 512 * (grid0.coords t 0).val + r.val = _; rw [hc.1])⟩

/-- The low-rank factor's gradient before a point: set to zero at the very first, else as found. -/
theorem startD {c : Dev nD} {t : Fin cfg0.N} {Y12} (h12 : (rdat m c).Finds 12 t Y12) :
    ∃ D : Vec Ideal S21x64x768 .f32, (c1 (grid0.coords t) ∧ D = k0_pay10 (F := Ideal) ∨ ¬c1 (grid0.coords t) ∧ D = Y12)
      ∧ ∀ (j : Fin 21) (r : Fin 64) (q : Fin 768), D (ix3 j r q)
        = ∑ R ∈ Finset.range (512 * (if j.val < t.val % 21 then t.val / 21 + 1 else t.val / 21)), (argsOf m c).dTerm r (768 * j.val + q.val) R := by
  by_cases hf : t.val = 0
  · refine ⟨k0_pay10 (F := Ideal), Or.inl ⟨(c1_iff t).mpr hf, rfl⟩, fun j r q => ?_⟩
    rw [if_neg (by omega), hf, Nat.zero_div, Nat.mul_zero, Finset.range_zero, Finset.sum_empty]
    exact pay10_apply j r q
  · refine ⟨Y12, Or.inr ⟨fun h => hf ((c1_iff t).mp h), rfl⟩, fun j r q => ?_⟩
    rw [found12 hf h12 j r q]
    have e : rows (t.val - 1) j.val = if j.val < t.val % 21 then t.val / 21 + 1 else t.val / 21 := by
      have := j.isLt
      unfold rows
      split <;> split <;> omega
    rw [e]

section
variable {A : Args} {t : Fin cfg0.N} {x0 x1 x2 x3 x4 x5 x6 x7 x8} (hS : Sees A (grid0.coords t) x0 x1 x2 x3 x4 x5 x6 x7 x8)
  {G : Vec Ideal S512x8192 .f32} {L : Vec Ideal S512x64 .f32} {D : Vec Ideal S21x64x768 .f32} {U : Vec Ideal S512x64 .bf16}
  (h : Start A t G L D U)
include hS h

theorem out10 {X : Vec Ideal S512x8192 .f32} (e : (c2 (grid0.coords t) → X = newG (grid0.coords t) x0 x1 x2 x4 x5 x8 G)
    ∧ (c3 (grid0.coords t) → X = endG (grid0.coords t) x0 x1 x2 x4 x5 x8 G)) : Out10 A t X := fun r d R hR => by
  have hc := coords_eq t
  obtain rfl : R = gRow (grid0.coords t) r := Fin.ext (by show R.val = 512 * (grid0.coords t 0).val + r.val; omega)
  unfold seen
  by_cases hl : t.val % 21 = 20
  · rw [if_pos hl, e.2 ((c3_iff t).mpr hl)]
    exact endG_apply hS G r d (hc.2.trans hl) (h.hG r d)
  · rw [if_neg hl, e.1 ((c2_iff t).mpr hl), ← hc.2]
    exact newG_apply hS G r d (by omega) (h.hG r d)

theorem out11 {X : Vec Ideal S512x64 .f32} (e : (c2 (grid0.coords t) → X = newL (grid0.coords t) x0 x3 x4 x5 x8 L)
    ∧ (c3 (grid0.coords t) → X = endL (grid0.coords t) x0 x3 x4 x5 x8 L)) : Out11 A t X := fun r d R hR => by
  have hc := coords_eq t
  obtain rfl : R = gRow (grid0.coords t) r := Fin.ext (by show R.val = 512 * (grid0.coords t 0).val + r.val; omega)
  unfold seen
  by_cases hl : t.val % 21 = 20
  · rw [if_pos hl, e.2 ((c3_iff t).mpr hl)]
    exact endL_apply hS L r d (hc.2.trans hl) (h.hL r d)
  · rw [if_neg hl, e.1 ((c2_iff t).mpr hl), ← hc.2]
    exact newL_apply hS L r d (by omega) (h.hL r d)

omit hS h in
theorem off_eq : ∀ t : Fin cfg0.N, k0_off1 (grid0.coords t) 0 = t.val % 21 :=
  (by decide +kernel : ∀ t : Fin grid0.N, _)

theorem out12 : Out12 A t (newD (grid0.coords t) x0 x4 x5 x8 D U) := fun j r q => by
  have hc := coords_eq t
  have hD := h.hD
  have ho := off_eq t
  unfold newD putD
  by_cases hj : j.val = t.val % 21
  · have hj' : j.val = (grid0.coords t 1).val := hj.trans hc.2.symm
    rw [dif_pos (fun a => by
      match a with
      | ⟨0, _⟩ => show k0_off1 (grid0.coords t) 0 ≤ j.val ∧ j.val < k0_off1 (grid0.coords t) 0 + 1; omega
      | ⟨1, _⟩ => show 0 ≤ r.val ∧ r.val < 0 + 64; have := r.isLt; omega
      | ⟨2, _⟩ => show 0 ≤ q.val ∧ q.val < 0 + 768; have := q.isLt; omega)]
    have e := pay2_apply hS (View.ld D (Rect.unit (s := S21x64x768) (k0_off1 (grid0.coords t)) S1x64x768.size (k0_off1_inb (grid0.coords t))))
      U r q h.hU (by
        have e1 : View.ld D (Rect.unit (s := S21x64x768) (k0_off1 (grid0.coords t)) S1x64x768.size (k0_off1_inb (grid0.coords t))) (ix3 0 r q)
            = D (ix3 j r q) := by
          refine congrArg D (funext fun a => Fin.ext ?_)
          match a with
          | ⟨0, _⟩ => show k0_off1 (grid0.coords t) 0 + 1 * 0 = j.val; omega
          | ⟨1, _⟩ => show 0 + 1 * r.val = r.val; omega
          | ⟨2, _⟩ => show 0 + 1 * q.val = q.val; omega
        rw [e1, hD j r q, if_neg (by omega), hc.1, hj'])
    unfold rows
    rw [if_pos (by omega)]
    rw [hc.1, ← hj'] at e
    refine Eq.trans (congrArg _ (funext fun a => Fin.ext ?_)) e
    match a with
    | ⟨0, _⟩ => show j.val - k0_off1 (grid0.coords t) 0 = 0; omega
    | ⟨1, _⟩ => show r.val - 0 = r.val; omega
    | ⟨2, _⟩ => show q.val - 0 = q.val; omega
  · rw [dif_neg (fun hh => by
      have h0 : k0_off1 (grid0.coords t) 0 ≤ j.val ∧ j.val < k0_off1 (grid0.coords t) 0 + 1 := hh 0
      omega)]
    rw [hD j r q]
    have e : (if j.val < t.val % 21 then t.val / 21 + 1 else t.val / 21) = rows t.val j.val := by
      unfold rows
      split <;> split <;> omega
    rw [e]

theorem next : Inv A (t.val + 1) U := fun hn r R k hR => by
  have hc := coords_eq t
  obtain rfl : R = gRow (grid0.coords t) r := Fin.ext (by show R.val = 512 * (grid0.coords t 0).val + r.val; omega)
  exact h.hU r k
end

/-- The scratch and the generator register, the scratch as a memref. -/
theorem Phi_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

theorem Phi_in (c : Dev nD) (A : Args) : (Pipeline.ΦA spec0 c : sProp 𝕄) ⊢ Phi c A 0 := by
  rw [Phi_eq]; unfold Phi
  iintro ⟨⟨%u, H0⟩, Hg⟩
  iexists u
  isplitr; · ipureintro; exact fun h => absurd rfl h
  isplitl [H0]; · iexact H0
  iexact Hg

theorem Phi_out (c : Dev nD) (A : Args) (n : ℕ) : Phi c A n ⊢ (Pipeline.ΦA spec0 c : sProp 𝕄) := by
  rw [Phi_eq]; unfold Phi
  iintro ⟨%u, %hI, H0, Hg⟩
  isplitl [H0]; · iexists _; iexact H0
  iexact Hg

theorem defs₀_row (t : Fin cfg0.N) :
    defs₀ (F := Ideal) .tc cfg0.body (cfg0.bodyArgs t (cfg0.slots t)) = bodyAt0 t := by
  unfold defs₀; rw [Defs.onTc_tc]

theorem either (t : Fin cfg0.N) : c2 (grid0.coords t) ∧ ¬c3 (grid0.coords t) ∨ ¬c2 (grid0.coords t) ∧ c3 (grid0.coords t) := by
  by_cases hl : t.val % 21 = 20
  · exact Or.inr ⟨fun h => (c2_iff t).mp h hl, (c3_iff t).mpr hl⟩
  · exact Or.inl ⟨(c2_iff t).mpr hl, fun h => hl ((c3_iff t).mp h)⟩

set_option maxHeartbeats 4000000 in
/-- The body obligation at every point. -/
theorem body (c : Dev nD) : (rdat m c).BodyObligation (defs₀ (F := Ideal)) Variants.none () Set.univ := fun t Y hY => by
  rw [bigSep_W0, bigSep_W0, defs₀_row]
  rw [show (rdat m c).Φ t.castSucc = Phi c (argsOf m c) t.val from rfl,
    show (rdat m c).Φ t.succ = Phi c (argsOf m c) (t.val + 1) from rfl,
    show (rdat m c).owesAt () t.succ = (rdat m c).owesAt () t.castSucc from rfl]
  have hS := sees (hY 0) (hY 1) (hY 2) (hY 3) (hY 4) (hY 5) (hY 6) (hY 7) (hY 8)
  unfold bodyAt0 Phi
  iintro ⟨⟨%u, %hI, HS0, Hg⟩, Ho, H0, H1, H2, H3, H4, H5, H6, H7, H8, H9, H10, H11, H12⟩
  obtain ⟨G, L, U, hd, hG, hL, hU⟩ := startG m hS (hY 10) (hY 11) hI
  obtain ⟨D, hd', hD⟩ := startD m (hY 12)
  have hst : Start (argsOf m c) t G L D U := ⟨hG, hL, hU, hD⟩
  iapply (run_point c (cfg0.grid.coords t) _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) u
    G L D U hd hd' (either t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, ⟨%X10, %e10, H10⟩, ⟨%X11, %e11, H11⟩, H12, HS0⟩
  isplitl [HS0 Hg]
  · iexists _
    isplitr; swap
    · isplitl [HS0]; · iexact HS0
      iexact Hg
    ipureintro
    exact next hS hst
  isplitl [Ho]; · iexact Ho
  isplitl [H0]; · iexists _; isplitr; swap; · iexact H0
                  ipureintro; exact rfl
  isplitl [H1]; · iexists _; isplitr; swap; · iexact H1
                  ipureintro; exact rfl
  isplitl [H2]; · iexists _; isplitr; swap; · iexact H2
                  ipureintro; exact rfl
  isplitl [H3]; · iexists _; isplitr; swap; · iexact H3
                  ipureintro; exact rfl
  isplitl [H4]; · iexists _; isplitr; swap; · iexact H4
                  ipureintro; exact rfl
  isplitl [H5]; · iexists _; isplitr; swap; · iexact H5
                  ipureintro; exact rfl
  isplitl [H6]; · iexists _; isplitr; swap; · iexact H6
                  ipureintro; exact rfl
  isplitl [H7]; · iexists _; isplitr; swap; · iexact H7
                  ipureintro; exact rfl
  isplitl [H8]; · iexists _; isplitr; swap; · iexact H8
                  ipureintro; exact rfl
  isplitl [H9]; · iexists _; isplitr; swap; · iexact H9
                  ipureintro; exact fun r q => newQ_apply hS r q
  isplitl [H10]; · iexists _; isplitr; swap; · iexact H10
                   ipureintro; exact out10 hS hst e10
  isplitl [H11]; · iexists _; isplitr; swap; · iexact H11
                   ipureintro; exact out11 hS hst e11
  iexists _; isplitr; swap; · iexact H12
  ipureintro; exact out12 hS hst

set_option backward.isDefEq.respectTransparency.types false in
/-- THE LAUNCH: every execution ends with the arrays as the tracking relation allows and every semaphore at zero. -/
theorem run_main : θ_run defs (onTc (τ := τ) (main (F := Ideal))) (s₀ m ρ)
    (fun r => RDat.FramePost (cfgs 0) (rdat m) (V m) r ∧ r.2.sem = fun _ => 0) :=
  RDat.θ_run_frame_track (Q' := _) cfgs (0 : Fin 1) launch0 defs₀ Variants.none (rdat m) m ρ main
    (hbody := body m) (hshare := fun c => (rdat m c).share_full fun _ => rfl)
    (howed := fun _ _ => rfl) (V := V m) (hmain := hmain m Variants.none) (hA := fun _ _ => rfl)
    (hin := fun c => Phi_in c _) (hout := fun c => Phi_out c _ _)

/-- THE FRAME over the reals: the nine argument arrays end unchanged, and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨RDat.FramePost.arr_in h.1 c 0 rfl, RDat.FramePost.arr_in h.1 c 1 rfl, RDat.FramePost.arr_in h.1 c 2 rfl, RDat.FramePost.arr_in h.1 c 3 rfl, RDat.FramePost.arr_in h.1 c 4 rfl, RDat.FramePost.arr_in h.1 c 5 rfl, RDat.FramePost.arr_in h.1 c 6 rfl, RDat.FramePost.arr_in h.1 c 7 rfl, RDat.FramePost.arr_in h.1 c 8 rfl⟩, h.2⟩) (run_main m ρ)

end Cert.BackwardIdeal.Hand

end
-- ==== Proof.Backward.Arrays.lean ====
/- THE ARRAYS after the backward call over the reals: the codes, and the three gradients' sums whole. -/
module

public import proofs.«01_k».proof.Proof.Backward.Run

@[expose] public section

set_option maxRecDepth 16384

noncomputable section

namespace Cert.BackwardIdeal.Hand

open Cert.BackwardIdeal.Gen Cert.Lanes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

local notation "𝕄" => MT nD τ sig Unit (Elt Ideal) ℕ (UR sig nD τ) ℕ

variable (m : (ℓ : Loc nD τ sig) → Buf (Elt Ideal) ℓ) (ρ : Dev nD → PrngReg)

/-- The four results, of the arguments. -/
def T9 (A : Args) : Vec Ideal S4096x16032 .fp8e5m2 := fun j => A.row (j 0) (j 1).val
def T10 (A : Args) : Vec Ideal S4096x8192 .f32 := fun j => ∑ c ∈ Finset.range 16032, A.gTerm (j 0) (j 1) c
def T11 (A : Args) : Vec Ideal S4096x64 .f32 := fun j => ∑ c ∈ Finset.range 16032, A.lTerm (j 0) (j 1) c
def T12 (A : Args) : Vec Ideal S21x64x768 .f32 := fun j => ∑ R ∈ Finset.range 4096, A.dTerm (j 1) (768 * (j 0).val + (j 2).val) R

/-! ### The codes -/

/-- Where an index of the window's block lies in its array. -/
theorem emb9_val (t : Fin cfg0.N) (j : ((cfg0.win 9).xblock (grid0.coords t)).Idx) :
    ((((cfg0.win 9).blk t).view.emb j : S4096x16032.Idx) 0).val = t.val / 21 * 512 + (j (0 : Fin 2)).val
      ∧ ((((cfg0.win 9).blk t).view.emb j : S4096x16032.Idx) 1).val = t.val % 21 * 768 + (j (1 : Fin 2)).val := by
  have e := (idx_eq t).2.2.2.2.2.2.2.2.2.1
  constructor
  · show win0_9.index t (0 : Fin 2) * 512 + 1 * (j (0 : Fin 2)).val = _
    rw [e.1]; omega
  · show win0_9.index t (1 : Fin 2) * 768 + 1 * (j (1 : Fin 2)).val = _
    rw [e.2]; omega

theorem covered9 (i : S4096x16032.Idx) :
    ∃ t : Fin cfg0.N, (cfg0.win 9).flush t = true ∧ i ∈ ((cfg0.win 9).blk t).view.set := by
  have h0 : (i 0).val < 4096 := (i 0).isLt
  have h1 : (i 1).val < 16032 := (i 1).isLt
  let t : Fin cfg0.N := ⟨21 * ((i 0).val / 512) + (i 1).val / 768, by show _ < 168; omega⟩
  have ht : t.val = 21 * ((i 0).val / 512) + (i 1).val / 768 := rfl
  refine ⟨t, flush0_9 t, ?_⟩
  have e := (idx_eq t).2.2.2.2.2.2.2.2.2.1
  have hm := ((cfg0.win 9).moved_iff (grid0.coords t) (ix2 ⟨(i 0).val % 512, by omega⟩ ⟨(i 1).val % 768, by omega⟩ : S512x768.Idx)).mp
    (Cert.Whole.moved_of _ rfl _ _ fun a => by
      match a with
      | ⟨0, _⟩ => show win0_9.index t (0 : Fin 2) * 512 + (i 0).val % 512 < 4096; omega
      | ⟨1, _⟩ => show win0_9.index t (1 : Fin 2) * 768 + (i 1).val % 768 < 16032; omega)
  have hx : ∃ j : ((cfg0.win 9).xblock (grid0.coords t)).Idx,
      (j (0 : Fin 2)).val = (i 0).val % 512 ∧ (j (1 : Fin 2)).val = (i 1).val % 768 :=
    ⟨fun a => ⟨_, hm a⟩, rfl, rfl⟩
  obtain ⟨j, hj0, hj1⟩ := hx
  have h := ((cfg0.win 9).blk t).view.emb_mem_set j
  have hv := emb9_val t j
  have he : (((cfg0.win 9).blk t).view.emb j : S4096x16032.Idx) = i := by
    funext a; apply Fin.ext
    match a with
    | ⟨0, _⟩ => exact hv.1.trans (by show t.val / 21 * 512 + (j (0 : Fin 2)).val = (i 0).val; omega)
    | ⟨1, _⟩ => exact hv.2.trans (by show t.val % 21 * 768 + (j (1 : Fin 2)).val = (i 1).val; omega)
  rw [he] at h
  exact h

theorem flushed9 (c : Dev nD) (A : Args) (t : Fin cfg0.N) (X : Vec Ideal S512x768 .fp8e5m2) (hX : Out9 A t X) :
    (cfg0.win 9).cut (grid0.coords t) X = ((cfg0.win 9).blk t).view.read (Elt Ideal) (T9 A) := by
  have hc := coords_eq t
  funext j
  show X ((cfg0.win 9).xinj (grid0.coords t) j) = T9 A (((cfg0.win 9).blk t).view.emb j)
  have hv := emb9_val t j
  have h0 : ((cfg0.win 9).xinj (grid0.coords t) j (0 : Fin 2)).val = (j (0 : Fin 2)).val := rfl
  have h1 : ((cfg0.win 9).xinj (grid0.coords t) j (1 : Fin 2)).val = (j (1 : Fin 2)).val := rfl
  generalize ((cfg0.win 9).blk t).view.emb j = i at hv
  change S4096x16032.Idx at i
  generalize (cfg0.win 9).xinj (grid0.coords t) j = b at h0 h1
  change S512x768.Idx at b
  idx_vars b
  have h0 : b0.val = (j (0 : Fin 2)).val := h0
  have h1 : b1.val = (j (1 : Fin 2)).val := h1
  rw [hX b0 b1]
  have e : i 0 = gRow (grid0.coords t) b0 := Fin.ext (by
    refine hv.1.trans ?_
    show _ = 512 * (grid0.coords t 0).val + b0.val
    omega)
  have e' : (i 1).val = 768 * (grid0.coords t 1).val + b1.val := by
    refine hv.2.trans ?_
    omega
  unfold T9
  rw [e, e']

/-! ### Output window 10 -/

/-- Where an index of the window's block lies in its array. -/
theorem emb10_val (t : Fin cfg0.N) (j : S512x8192.Idx) :
    ((((cfg0.win 10).blk t).view.emb j : S4096x8192.Idx) 0).val = t.val / 21 * 512 + (j 0).val
      ∧ ((((cfg0.win 10).blk t).view.emb j : S4096x8192.Idx) 1).val = (j 1).val := by
  have e := (idx_eq t).2.2.2.2.2.2.2.2.2.2.1
  constructor
  · show win0_10.index t (0 : Fin 2) * 512 + 1 * (j 0).val = _
    rw [e.1]; omega
  · show win0_10.index t (1 : Fin 2) * 8192 + 1 * (j 1).val = _
    rw [e.2]; omega

theorem covered10 (i : S4096x8192.Idx) :
    ∃ t : Fin cfg0.N, (cfg0.win 10).flush t = true ∧ i ∈ ((cfg0.win 10).blk t).view.set := by
  have h0 : (i 0).val < 4096 := (i 0).isLt
  have h1 : (i 1).val < 8192 := (i 1).isLt
  let t : Fin cfg0.N := ⟨21 * ((i 0).val / 512) + 20, by show _ < 168; omega⟩
  have ht : t.val = 21 * ((i 0).val / 512) + 20 := rfl
  refine ⟨t, (flush0_10 t).mpr (by omega), ?_⟩
  have h := ((cfg0.win 10).blk t).view.emb_mem_set (ix2 ⟨(i 0).val % 512, by omega⟩ ⟨(i 1).val, h1⟩ : S512x8192.Idx)
  have hv := emb10_val t (ix2 ⟨(i 0).val % 512, by omega⟩ ⟨(i 1).val, h1⟩ : S512x8192.Idx)
  have he : (((cfg0.win 10).blk t).view.emb (ix2 ⟨(i 0).val % 512, by omega⟩ ⟨(i 1).val, h1⟩ : S512x8192.Idx) : S4096x8192.Idx) = i := by
    funext a; apply Fin.ext
    match a with
    | ⟨0, _⟩ =>
      refine hv.1.trans ?_
      show t.val / 21 * 512 + (i 0).val % 512 = (i 0).val
      omega
    | ⟨1, _⟩ => exact hv.2
  rw [he] at h
  exact h

theorem flushed10 (c : Dev nD) (A : Args) (t : Fin cfg0.N) (X : Vec Ideal S512x8192 .f32) (hf : (cfg0.win 10).flush t = true) (hX : Out10 A t X) :
    (cfg0.win 10).cut (grid0.coords t) X = ((cfg0.win 10).blk t).view.read (Elt Ideal) (T10 A) := by
  funext j
  change S512x8192.Idx at j
  show X j = T10 A (((cfg0.win 10).blk t).view.emb j)
  have hv := emb10_val t j
  generalize ((cfg0.win 10).blk t).view.emb j = i at hv
  change S4096x8192.Idx at i
  idx_vars j
  have hl := (flush0_10 t).mp hf
  have e1 : i 1 = j1 := Fin.ext hv.2
  rw [hX j0 j1 (i 0) (by
    refine hv.1.trans ?_
    show t.val / 21 * 512 + j0.val = 512 * (t.val / 21) + j0.val
    omega)]
  unfold T10 seen
  rw [if_pos hl, e1]

/-! ### Output window 11 -/

/-- Where an index of the window's block lies in its array. -/
theorem emb11_val (t : Fin cfg0.N) (j : S512x64.Idx) :
    ((((cfg0.win 11).blk t).view.emb j : S4096x64.Idx) 0).val = t.val / 21 * 512 + (j 0).val
      ∧ ((((cfg0.win 11).blk t).view.emb j : S4096x64.Idx) 1).val = (j 1).val := by
  have e := (idx_eq t).2.2.2.2.2.2.2.2.2.2.2.1
  constructor
  · show win0_11.index t (0 : Fin 2) * 512 + 1 * (j 0).val = _
    rw [e.1]; omega
  · show win0_11.index t (1 : Fin 2) * 64 + 1 * (j 1).val = _
    rw [e.2]; omega

theorem covered11 (i : S4096x64.Idx) :
    ∃ t : Fin cfg0.N, (cfg0.win 11).flush t = true ∧ i ∈ ((cfg0.win 11).blk t).view.set := by
  have h0 : (i 0).val < 4096 := (i 0).isLt
  have h1 : (i 1).val < 64 := (i 1).isLt
  let t : Fin cfg0.N := ⟨21 * ((i 0).val / 512) + 20, by show _ < 168; omega⟩
  have ht : t.val = 21 * ((i 0).val / 512) + 20 := rfl
  refine ⟨t, (flush0_11 t).mpr (by omega), ?_⟩
  have h := ((cfg0.win 11).blk t).view.emb_mem_set (ix2 ⟨(i 0).val % 512, by omega⟩ ⟨(i 1).val, h1⟩ : S512x64.Idx)
  have hv := emb11_val t (ix2 ⟨(i 0).val % 512, by omega⟩ ⟨(i 1).val, h1⟩ : S512x64.Idx)
  have he : (((cfg0.win 11).blk t).view.emb (ix2 ⟨(i 0).val % 512, by omega⟩ ⟨(i 1).val, h1⟩ : S512x64.Idx) : S4096x64.Idx) = i := by
    funext a; apply Fin.ext
    match a with
    | ⟨0, _⟩ =>
      refine hv.1.trans ?_
      show t.val / 21 * 512 + (i 0).val % 512 = (i 0).val
      omega
    | ⟨1, _⟩ => exact hv.2
  rw [he] at h
  exact h

theorem flushed11 (c : Dev nD) (A : Args) (t : Fin cfg0.N) (X : Vec Ideal S512x64 .f32) (hf : (cfg0.win 11).flush t = true) (hX : Out11 A t X) :
    (cfg0.win 11).cut (grid0.coords t) X = ((cfg0.win 11).blk t).view.read (Elt Ideal) (T11 A) := by
  funext j
  change S512x64.Idx at j
  show X j = T11 A (((cfg0.win 11).blk t).view.emb j)
  have hv := emb11_val t j
  generalize ((cfg0.win 11).blk t).view.emb j = i at hv
  change S4096x64.Idx at i
  idx_vars j
  have hl := (flush0_11 t).mp hf
  have e1 : i 1 = j1 := Fin.ext hv.2
  rw [hX j0 j1 (i 0) (by
    refine hv.1.trans ?_
    show t.val / 21 * 512 + j0.val = 512 * (t.val / 21) + j0.val
    omega)]
  unfold T11 seen
  rw [if_pos hl, e1]

/-! ### Output window 12 -/

/-- The window's block is its whole array. -/
theorem emb12_val (t : Fin cfg0.N) (j : S21x64x768.Idx) : (((cfg0.win 12).blk t).view.emb j : S21x64x768.Idx) = j := by
  have e := (idx_eq t).2.2.2.2.2.2.2.2.2.2.2.2
  funext a; apply Fin.ext
  match a with
  | ⟨0, _⟩ => show win0_12.index t (0 : Fin 3) * 21 + 1 * (j 0).val = _; rw [e.1]; show 0 * 21 + 1 * (j 0).val = (j 0).val; omega
  | ⟨1, _⟩ => show win0_12.index t (1 : Fin 3) * 64 + 1 * (j 1).val = _; rw [e.2.1]; show 0 * 64 + 1 * (j 1).val = (j 1).val; omega
  | ⟨2, _⟩ => show win0_12.index t (2 : Fin 3) * 768 + 1 * (j 2).val = _; rw [e.2.2]; show 0 * 768 + 1 * (j 2).val = (j 2).val; omega

theorem covered12 (i : S21x64x768.Idx) :
    ∃ t : Fin cfg0.N, (cfg0.win 12).flush t = true ∧ i ∈ ((cfg0.win 12).blk t).view.set := by
  let t : Fin cfg0.N := ⟨167, by show _ < 168; omega⟩
  refine ⟨t, (flush0_12 t).mpr rfl, ?_⟩
  have h := ((cfg0.win 12).blk t).view.emb_mem_set i
  rw [emb12_val t i] at h
  exact h

theorem flushed12 (c : Dev nD) (A : Args) (t : Fin cfg0.N) (X : Vec Ideal S21x64x768 .f32) (hf : (cfg0.win 12).flush t = true) (hX : Out12 A t X) :
    (cfg0.win 12).cut (grid0.coords t) X = ((cfg0.win 12).blk t).view.read (Elt Ideal) (T12 A) := by
  have ht : t.val < 168 := t.isLt
  funext j
  change S21x64x768.Idx at j
  show X j = T12 A (((cfg0.win 12).blk t).view.emb j)
  rw [emb12_val t j]
  idx_vars j
  have hl := (flush0_12 t).mp hf
  have e : 512 * rows t.val j0.val = 4096 := by
    have := j0.isLt
    unfold rows
    split <;> omega
  rw [hX j0 j1 j2, e]
  rfl

/-- THE RESULTS of a run, of the arguments as launched. -/
theorem results {r : PUnit × MemSt nD τ sig (Elt Ideal)} (h : RDat.FramePost (cfgs 0) (rdat m) (V m) r) (c : Dev nD) :
    r.2.mem ((c : Thread nD τ).loc main_v0_0) = T9 (argsOf m c) ∧ r.2.mem ((c : Thread nD τ).loc main_v0_1) = T10 (argsOf m c)
      ∧ r.2.mem ((c : Thread nD τ).loc main_v0_2) = T11 (argsOf m c) ∧ r.2.mem ((c : Thread nD τ).loc main_v0_3) = T12 (argsOf m c) := by
  obtain ⟨aft, hL, hG⟩ := h.exists_exact c
  refine ⟨(hG 9).trans ?_, (hG 10).trans ?_, (hG 11).trans ?_, (hG 12).trans ?_⟩
  · refine ((rdat m c).withAfter aft).arrAt_eq_of_cover 9 (T9 (argsOf m c)) (fun t hf => ?_) covered9
    obtain ⟨Y, -, hX⟩ := hL 9 t hf
    exact flushed9 c (argsOf m c) t _ hX
  · refine ((rdat m c).withAfter aft).arrAt_eq_of_cover 10 (T10 (argsOf m c)) (fun t hf => ?_) covered10
    obtain ⟨Y, -, hX⟩ := hL 10 t hf
    exact flushed10 c (argsOf m c) t _ hf hX
  · refine ((rdat m c).withAfter aft).arrAt_eq_of_cover 11 (T11 (argsOf m c)) (fun t hf => ?_) covered11
    obtain ⟨Y, -, hX⟩ := hL 11 t hf
    exact flushed11 c (argsOf m c) t _ hf hX
  · refine ((rdat m c).withAfter aft).arrAt_eq_of_cover 12 (T12 (argsOf m c)) (fun t hf => ?_) covered12
    obtain ⟨Y, -, hX⟩ := hL 12 t hf
    exact flushed12 c (argsOf m c) t _ hf hX

end Cert.BackwardIdeal.Hand

end
-- ==== Proof.Backward.Same.lean ====
/- THE REFERENCE of the backward call over the reals computes the same four arrays, the codes' scale not being zero. -/
module

public import proofs.«01_k».proof.Proof.Backward.Arrays
public import proofs.«01_k».proof.Proof.Gen.BackwardRefIdeal.Value
public import proofs.«01_k».proof.Defs
public import Idealize.ShloMosaic.Lib.Pointwise
public import Idealize.ShloMosaic.Lib.WordCmp
public import Idealize.ShloMosaic.Lib.ReduceAll
public import Idealize.ShloMosaic.Lib.IdealHost
public import Idealize.ShloMosaic.Lib.Claim

@[expose] public section

set_option maxRecDepth 16384

noncomputable section

namespace Cert.BackwardRefIdeal.Hand

open Cert.BackwardRefIdeal.Gen Cert.Lanes Cert.Whole
open Cert.BackwardIdeal.Hand (Args codeOf T9 T10 T11 T12 argsOf)
open Idealize.ShloMosaic Idealize.ShloMosaic.TcCoe

/-- A code of the reference, of the vectors it is computed from. -/
theorem code_apply (lg bl s : FVec Ideal S4096x16128 .f32) (p : IVec S4096x16128 1) (lo hi : Ideal .f32)
    (hb : FTy.bits .fp8e5m2 < FTy.bits .f32) (h1 : 1 < 32) (R : Fin 4096) (c : Fin 16128) :
    truncf .fp8e5m2 (minimumf (broadcast S4096x16128 hi) (maximumf (broadcast S4096x16128 lo)
      (divf (subf (exp (subf lg bl)) (sitofp .f32 (extui 32 p h1))) s))) hb (ix2 R c)
      = min hi (max lo (Ideal.div (Ideal.exp (lg (ix2 R c) - bl (ix2 R c)) - (((p (ix2 R c)).setWidth 32).toInt : ℝ)) (s (ix2 R c)))) := rfl

/-- The one-hot entry as a number is the selection between one and zero. -/
theorem onehot (p : BitVec 1) : (((p.setWidth 32).toInt : ℝ) : EReal) = Scalar.select p (1 : EReal) 0 := by
  have h : p = 0#1 ∨ p = 1#1 := by revert p; decide
  rcases h with rfl | rfl
  · show (((0 : ℤ) : ℝ) : EReal) = 0
    simp
  · show (((1 : ℤ) : ℝ) : EReal) = 1
    simp

/-- Dividing by the scale is multiplying by its reciprocal. -/
theorem code_eq {x l s hi lo one zero : EReal} {p : BitVec 1} (hs : s ≠ 0) (h1 : one = 1) (h0 : zero = 0) :
    min hi (max lo (Ideal.div (Ideal.exp (x - l) - ((p.setWidth 32).toInt : ℝ)) s)) = codeOf hi lo one zero x l s p := by
  unfold codeOf
  rw [h1, h0, onehot, Ideal.mul_one_div hs]

theorem col_apply (lab : Vec Ideal S4096x1 .i32) (R : Fin 4096) (c : Fin 16128) :
    cmpi .eq (iota .tc S4096x16128 32 [1] iota_S4096x16128_d1_w32) (broadcastTo S4096x16128 lab broadcasts_S4096x1_S4096x16128) (ix2 R c)
      = IntOp.cmpi .eq (BitVec.ofNat 32 c.val) (lab (ix2 R 0)) := by
  pointwise []

theorem bcast_apply (l : Vec Ideal S4096x1 .f32) (R : Fin 4096) (c : Fin 16128) :
    broadcastTo S4096x16128 l broadcasts_S4096x1_S4096x16128 (ix2 R c) = l (ix2 R 0) := by
  pointwise []

theorem scal_apply (d : Vec Ideal S1x1 .f32) (R : Fin 4096) (c : Fin 16128) :
    broadcastTo S4096x16128 (shapeCast S1x1 d shapeCasts_S1x1_S1x1) broadcasts_S1x1_S4096x16128 (ix2 R c) = d (ix2 0 0) := by
  pointwise []

section
variable {A : Args} {W : Vec Ideal S16032x1 .f32} {d : Vec Ideal S1x1 .f32} (hW : ∀ c : Fin 16032, W (ix2 c 0) = A.ws (ix2 0 c))
  (hd : d (ix2 0 0) = A.ds (ix1 0)) (hs : A.ds (ix1 0) ≠ 0)

include hd hs in
theorem pay4_apply (R : Fin 4096) (c : Fin 16128) : k0_pay4 A.lg A.lab A.lse d (ix2 R c) = A.row R c.val := by
  unfold k0_pay4
  refine (code_apply _ _ _ _ _ _ _ _ _ _).trans ?_
  rw [bcast_apply, col_apply, scal_apply, hd]
  unfold Args.row
  rw [dif_pos c.isLt]
  exact code_eq hs Ideal.ofBits_one_f32 Ideal.ofBits_zero_f32

include hd hs in
theorem pay5_eq : k0_pay5 A.lg A.lab A.lse d = T9 A := by
  have e := pay4_apply hd hs
  unfold k0_pay5
  generalize k0_pay4 A.lg A.lab A.lse d = Q at e
  funext j
  idx_vars j
  pointwise [e]
  rfl

include hW hd hs in
theorem pay1_eq : k0_pay1 (k0_pay8 A.wq W) (k0_pay9 A.lg A.lab A.lse d) (constant S4096x8192 .f32 0x00000000#32) = T10 A := by
  have e := pay4_apply hd hs
  unfold k0_pay9 k0_pay6
  generalize k0_pay4 A.lg A.lab A.lse d = Q at e
  funext j
  idx_vars j
  pointwise [k0_pay1, k0_pay8, e, hW]
  show _ = ∑ c ∈ Finset.range 16032, A.gTerm j0 j1 c
  rw [← sum_fin]
  refine Finset.sum_congr rfl fun c _ => ?_
  unfold Args.gTerm
  rw [dif_pos c.isLt, mul_assoc, mul_comm (A.ws _)]

include hd hs in
theorem pay2_eq : k0_pay2 (k0_pay6 A.lg A.lab A.lse d) A.b = T11 A := by
  have e := pay4_apply hd hs
  unfold k0_pay6
  generalize k0_pay4 A.lg A.lab A.lse d = Q at e
  funext j
  idx_vars j
  pointwise [k0_pay2, e]
  show _ = ∑ c ∈ Finset.range 16032, A.lTerm j0 j1 c
  rw [← sum_fin]
  refine Finset.sum_congr rfl fun c _ => ?_
  unfold Args.lTerm
  rw [dif_pos c.isLt]

include hd hs in
theorem pay3_eq : k0_pay3 (k0_pay6 A.lg A.lab A.lse d) (k0_pay7 A.u A.k) = T12 A := by
  have e := pay4_apply hd hs
  unfold k0_pay6
  generalize k0_pay4 A.lg A.lab A.lse d = Q at e
  funext j
  idx_vars j
  pointwise [k0_pay3, k0_pay7, e]
  show _ = ∑ R ∈ Finset.range 4096, A.dTerm j1 (768 * j0.val + j2.val) R
  rw [← sum_fin]
  refine Finset.sum_congr rfl fun R _ => ?_
  unfold Args.dTerm
  rw [dif_pos R.isLt, Nat.mul_comm 768]
end

/-! ### The arrays -/

section
variable {A : Args} {W : Vec Ideal S16032x1 .f32} {d : Vec Ideal S1x1 .f32} (hW : ∀ c : Fin 16032, W (ix2 c 0) = A.ws (ix2 0 c))
  (hd : d (ix2 0 0) = A.ds (ix1 0)) (hs : A.ds (ix1 0) ≠ 0)
include hd hs

theorem pay10_eq : k0_pay10 A.lg A.wq W A.b A.lab A.lse A.k A.u d = k0_pay6 A.lg A.lab A.lse d := by
  unfold k0_pay10
  rw [View.ld_unit_zero (S := S4096x16128) hz2 _ A.lg, View.ld_unit_zero (S := S4096x1) hz2 _ A.lab,
    View.ld_unit_zero (S := S4096x1) hz2 _ A.lse, View.ld_unit_zero (S := S1x1) hz2 _ d]

theorem out9_eq : out0_9 A.lg A.wq W A.b A.lab A.lse A.k A.u d = T9 A := by
  unfold out0_9
  rw [View.canon_cons_unit_zero hz2,
    View.ld_unit_zero (S := S4096x16128) hz2 _ A.lg, View.ld_unit_zero (S := S4096x1) hz2 _ A.lab,
    View.ld_unit_zero (S := S4096x1) hz2 _ A.lse, View.ld_unit_zero (S := S1x1) hz2 _ d]
  exact pay5_eq hd hs

include hW in
theorem out10_eq : out0_10 A.lg A.wq W A.b A.lab A.lse A.k A.u d = T10 A := by
  unfold out0_10
  rw [View.canon_cons_unit_zero hz2,
    View.ld_unit_zero (S := S4096x16128) hz2 _ A.lg, View.ld_unit_zero (S := S4096x1) hz2 _ A.lab,
    View.ld_unit_zero (S := S4096x1) hz2 _ A.lse, View.ld_unit_zero (S := S1x1) hz2 _ d,
    View.ld_unit_zero (S := S16032x8192) hz2 _ A.wq, View.ld_unit_zero (S := S16032x1) hz2 _ W]
  exact pay1_eq hW hd hs

theorem out11_eq : out0_11 A.lg A.wq W A.b A.lab A.lse A.k A.u d = T11 A := by
  unfold out0_11
  rw [View.canon_cons_unit_zero hz2, pay10_eq hd hs, View.ld_unit_zero (S := S16032x64) hz2 _ A.b]
  exact pay2_eq hd hs

theorem out12_eq : out0_12 A.lg A.wq W A.b A.lab A.lse A.k A.u d = T12 A := by
  unfold out0_12
  rw [View.canon_cons_unit_zero hz3, pay10_eq hd hs, View.ld_unit_zero (S := S4096x64) hz2 _ A.u,
    View.ld_unit_zero (S := S4096x1) hz2 _ A.k]
  exact pay3_eq hd hs
end

section
variable (m : (ℓ : Loc nD τ sig) → Buf (Elt Ideal) ℓ)

/-- The one point's blocks are the whole arrays. -/
theorem idx_eq : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 3) = 0 ∧ win0_12.index t (1 : Fin 3) = 0 ∧ win0_12.index t (2 : Fin 3) = 0) :=
  (by decide +kernel : ∀ t : Fin grid0.N, _)

theorem emb0 (t : Fin cfg0.N) (j : S4096x16128.Idx) : (((cfg0.win 0).blk t).view.emb j : S4096x16128.Idx) = j := by
  have e := (idx_eq t).1
  funext a; apply Fin.ext
  match a with
  | ⟨0, _⟩ => show win0_0.index t (0 : Fin 2) * 4096 + 1 * (j 0).val = (j 0).val; omega
  | ⟨1, _⟩ => show win0_0.index t (1 : Fin 2) * 16128 + 1 * (j 1).val = (j 1).val; omega

theorem emb1 (t : Fin cfg0.N) (j : S16032x8192.Idx) : (((cfg0.win 1).blk t).view.emb j : S16032x8192.Idx) = j := by
  have e := (idx_eq t).2.1
  funext a; apply Fin.ext
  match a with
  | ⟨0, _⟩ => show win0_1.index t (0 : Fin 2) * 16032 + 1 * (j 0).val = (j 0).val; omega
  | ⟨1, _⟩ => show win0_1.index t (1 : Fin 2) * 8192 + 1 * (j 1).val = (j 1).val; omega

theorem emb2 (t : Fin cfg0.N) (j : S16032x1.Idx) : (((cfg0.win 2).blk t).view.emb j : S16032x1.Idx) = j := by
  have e := (idx_eq t).2.2.1
  funext a; apply Fin.ext
  match a with
  | ⟨0, _⟩ => show win0_2.index t (0 : Fin 2) * 16032 + 1 * (j 0).val = (j 0).val; omega
  | ⟨1, _⟩ => show win0_2.index t (1 : Fin 2) * 1 + 1 * (j 1).val = (j 1).val; omega

theorem emb3 (t : Fin cfg0.N) (j : S16032x64.Idx) : (((cfg0.win 3).blk t).view.emb j : S16032x64.Idx) = j := by
  have e := (idx_eq t).2.2.2.1
  funext a; apply Fin.ext
  match a with
  | ⟨0, _⟩ => show win0_3.index t (0 : Fin 2) * 16032 + 1 * (j 0).val = (j 0).val; omega
  | ⟨1, _⟩ => show win0_3.index t (1 : Fin 2) * 64 + 1 * (j 1).val = (j 1).val; omega

theorem emb4 (t : Fin cfg0.N) (j : S4096x1.Idx) : (((cfg0.win 4).blk t).view.emb j : S4096x1.Idx) = j := by
  have e := (idx_eq t).2.2.2.2.1
  funext a; apply Fin.ext
  match a with
  | ⟨0, _⟩ => show win0_4.index t (0 : Fin 2) * 4096 + 1 * (j 0).val = (j 0).val; omega
  | ⟨1, _⟩ => show win0_4.index t (1 : Fin 2) * 1 + 1 * (j 1).val = (j 1).val; omega

theorem emb5 (t : Fin cfg0.N) (j : S4096x1.Idx) : (((cfg0.win 5).blk t).view.emb j : S4096x1.Idx) = j := by
  have e := (idx_eq t).2.2.2.2.2.1
  funext a; apply Fin.ext
  match a with
  | ⟨0, _⟩ => show win0_5.index t (0 : Fin 2) * 4096 + 1 * (j 0).val = (j 0).val; omega
  | ⟨1, _⟩ => show win0_5.index t (1 : Fin 2) * 1 + 1 * (j 1).val = (j 1).val; omega

theorem emb6 (t : Fin cfg0.N) (j : S4096x1.Idx) : (((cfg0.win 6).blk t).view.emb j : S4096x1.Idx) = j := by
  have e := (idx_eq t).2.2.2.2.2.2.1
  funext a; apply Fin.ext
  match a with
  | ⟨0, _⟩ => show win0_6.index t (0 : Fin 2) * 4096 + 1 * (j 0).val = (j 0).val; omega
  | ⟨1, _⟩ => show win0_6.index t (1 : Fin 2) * 1 + 1 * (j 1).val = (j 1).val; omega

theorem emb7 (t : Fin cfg0.N) (j : S4096x64.Idx) : (((cfg0.win 7).blk t).view.emb j : S4096x64.Idx) = j := by
  have e := (idx_eq t).2.2.2.2.2.2.2.1
  funext a; apply Fin.ext
  match a with
  | ⟨0, _⟩ => show win0_7.index t (0 : Fin 2) * 4096 + 1 * (j 0).val = (j 0).val; omega
  | ⟨1, _⟩ => show win0_7.index t (1 : Fin 2) * 64 + 1 * (j 1).val = (j 1).val; omega

theorem emb8 (t : Fin cfg0.N) (j : S1x1.Idx) : (((cfg0.win 8).blk t).view.emb j : S1x1.Idx) = j := by
  have e := (idx_eq t).2.2.2.2.2.2.2.2.1
  funext a; apply Fin.ext
  match a with
  | ⟨0, _⟩ => show win0_8.index t (0 : Fin 2) * 1 + 1 * (j 0).val = (j 0).val; omega
  | ⟨1, _⟩ => show win0_8.index t (1 : Fin 2) * 1 + 1 * (j 1).val = (j 1).val; omega

theorem emb9 (t : Fin cfg0.N) (j : S4096x16032.Idx) : (((cfg0.win 9).blk t).view.emb j : S4096x16032.Idx) = j := by
  have e := (idx_eq t).2.2.2.2.2.2.2.2.2.1
  funext a; apply Fin.ext
  match a with
  | ⟨0, _⟩ => show win0_9.index t (0 : Fin 2) * 4096 + 1 * (j 0).val = (j 0).val; omega
  | ⟨1, _⟩ => show win0_9.index t (1 : Fin 2) * 16032 + 1 * (j 1).val = (j 1).val; omega

theorem emb10 (t : Fin cfg0.N) (j : S4096x8192.Idx) : (((cfg0.win 10).blk t).view.emb j : S4096x8192.Idx) = j := by
  have e := (idx_eq t).2.2.2.2.2.2.2.2.2.2.1
  funext a; apply Fin.ext
  match a with
  | ⟨0, _⟩ => show win0_10.index t (0 : Fin 2) * 4096 + 1 * (j 0).val = (j 0).val; omega
  | ⟨1, _⟩ => show win0_10.index t (1 : Fin 2) * 8192 + 1 * (j 1).val = (j 1).val; omega

theorem emb11 (t : Fin cfg0.N) (j : S4096x64.Idx) : (((cfg0.win 11).blk t).view.emb j : S4096x64.Idx) = j := by
  have e := (idx_eq t).2.2.2.2.2.2.2.2.2.2.2.1
  funext a; apply Fin.ext
  match a with
  | ⟨0, _⟩ => show win0_11.index t (0 : Fin 2) * 4096 + 1 * (j 0).val = (j 0).val; omega
  | ⟨1, _⟩ => show win0_11.index t (1 : Fin 2) * 64 + 1 * (j 1).val = (j 1).val; omega

theorem emb12 (t : Fin cfg0.N) (j : S21x64x768.Idx) : (((cfg0.win 12).blk t).view.emb j : S21x64x768.Idx) = j := by
  have e := (idx_eq t).2.2.2.2.2.2.2.2.2.2.2.2
  funext a; apply Fin.ext
  match a with
  | ⟨0, _⟩ => show win0_12.index t (0 : Fin 3) * 21 + 1 * (j 0).val = (j 0).val; omega
  | ⟨1, _⟩ => show win0_12.index t (1 : Fin 3) * 64 + 1 * (j 1).val = (j 1).val; omega
  | ⟨2, _⟩ => show win0_12.index t (2 : Fin 3) * 768 + 1 * (j 2).val = (j 2).val; omega

theorem blk0 (c : Dev nD) (t : Fin cfg0.N) : (iblk m c 0 t : Vec Ideal S4096x16128 .f32) = V m c (Pipeline.arrRef spec0 0) :=
  funext fun j => congrArg (V m c (Pipeline.arrRef spec0 0)) (emb0 t j)

theorem blk1 (c : Dev nD) (t : Fin cfg0.N) : (iblk m c 1 t : Vec Ideal S16032x8192 .fp8e4m3) = V m c (Pipeline.arrRef spec0 1) :=
  funext fun j => congrArg (V m c (Pipeline.arrRef spec0 1)) (emb1 t j)

theorem blk2 (c : Dev nD) (t : Fin cfg0.N) : (iblk m c 2 t : Vec Ideal S16032x1 .f32) = V m c (Pipeline.arrRef spec0 2) :=
  funext fun j => congrArg (V m c (Pipeline.arrRef spec0 2)) (emb2 t j)

theorem blk3 (c : Dev nD) (t : Fin cfg0.N) : (iblk m c 3 t : Vec Ideal S16032x64 .bf16) = V m c (Pipeline.arrRef spec0 3) :=
  funext fun j => congrArg (V m c (Pipeline.arrRef spec0 3)) (emb3 t j)

theorem blk4 (c : Dev nD) (t : Fin cfg0.N) : (iblk m c 4 t : Vec Ideal S4096x1 .i32) = V m c (Pipeline.arrRef spec0 4) :=
  funext fun j => congrArg (V m c (Pipeline.arrRef spec0 4)) (emb4 t j)

theorem blk5 (c : Dev nD) (t : Fin cfg0.N) : (iblk m c 5 t : Vec Ideal S4096x1 .f32) = V m c (Pipeline.arrRef spec0 5) :=
  funext fun j => congrArg (V m c (Pipeline.arrRef spec0 5)) (emb5 t j)

theorem blk6 (c : Dev nD) (t : Fin cfg0.N) : (iblk m c 6 t : Vec Ideal S4096x1 .f32) = V m c (Pipeline.arrRef spec0 6) :=
  funext fun j => congrArg (V m c (Pipeline.arrRef spec0 6)) (emb6 t j)

theorem blk7 (c : Dev nD) (t : Fin cfg0.N) : (iblk m c 7 t : Vec Ideal S4096x64 .bf16) = V m c (Pipeline.arrRef spec0 7) :=
  funext fun j => congrArg (V m c (Pipeline.arrRef spec0 7)) (emb7 t j)

theorem blk8 (c : Dev nD) (t : Fin cfg0.N) : (iblk m c 8 t : Vec Ideal S1x1 .f32) = V m c (Pipeline.arrRef spec0 8) :=
  funext fun j => congrArg (V m c (Pipeline.arrRef spec0 8)) (emb8 t j)

theorem v0_apply (c : Dev nD) (n : Fin 16032) : (V m c main_v0 : Vec Ideal S16032x1 .f32) (ix2 n 0) = (m ((c : Thread nD τ).loc main_arg2) : Vec Ideal S1x16032 .f32) (ix2 0 n) := by
  entry_read
  pointwise []

theorem v1_apply (c : Dev nD) : (V m c main_v1 : Vec Ideal S1x1 .f32) (ix2 0 0) = (m ((c : Thread nD τ).loc main_arg8) : Vec Ideal S1 .f32) (ix1 0) := by
  entry_read
  pointwise []

/-- The reference's arguments, as the call's. -/
def refArgs (c : Dev nD) : Args where
  lg := m ((c : Thread nD τ).loc main_arg0)
  wq := m ((c : Thread nD τ).loc main_arg1)
  ws := m ((c : Thread nD τ).loc main_arg2)
  b := m ((c : Thread nD τ).loc main_arg3)
  lab := m ((c : Thread nD τ).loc main_arg4)
  lse := m ((c : Thread nD τ).loc main_arg5)
  k := m ((c : Thread nD τ).loc main_arg6)
  u := m ((c : Thread nD τ).loc main_arg7)
  ds := m ((c : Thread nD τ).loc main_arg8)

theorem ref9 (c : Dev nD) (hs : (refArgs m c).ds (ix1 0) ≠ 0) : (dats m 0 c).arrAt 9 cfg0.N = T9 (refArgs m c) := by
  refine (dats m 0 c).arrAt_eq_of_cover 9 (T9 (refArgs m c)) (fun t hf => ?_) (fun i => ⟨⟨0, by decide⟩, by rfl, ?_⟩)
  · rw [Value.flushed9 m c t, blk0 m c t, blk1 m c t, blk2 m c t, blk3 m c t, blk4 m c t, blk5 m c t, blk6 m c t, blk7 m c t, blk8 m c t]
    have e := out9_eq (A := refArgs m c) (W := V m c main_v0) (d := V m c main_v1) (v1_apply m c) hs
    funext j
    refine (congrFun e j).trans ?_
    exact (congrArg (T9 (refArgs m c)) (emb9 t j)).symm
  · have h := ((cfg0.win 9).blk ⟨0, by decide⟩).view.emb_mem_set i
    rw [emb9 _ i] at h
    exact h

theorem ref10 (c : Dev nD) (hs : (refArgs m c).ds (ix1 0) ≠ 0) : (dats m 0 c).arrAt 10 cfg0.N = T10 (refArgs m c) := by
  refine (dats m 0 c).arrAt_eq_of_cover 10 (T10 (refArgs m c)) (fun t hf => ?_) (fun i => ⟨⟨0, by decide⟩, by rfl, ?_⟩)
  · rw [Value.flushed10 m c t, blk0 m c t, blk1 m c t, blk2 m c t, blk3 m c t, blk4 m c t, blk5 m c t, blk6 m c t, blk7 m c t, blk8 m c t]
    have e := out10_eq (A := refArgs m c) (W := V m c main_v0) (d := V m c main_v1) (v0_apply m c) (v1_apply m c) hs
    funext j
    refine (congrFun e j).trans ?_
    exact (congrArg (T10 (refArgs m c)) (emb10 t j)).symm
  · have h := ((cfg0.win 10).blk ⟨0, by decide⟩).view.emb_mem_set i
    rw [emb10 _ i] at h
    exact h

theorem ref11 (c : Dev nD) (hs : (refArgs m c).ds (ix1 0) ≠ 0) : (dats m 0 c).arrAt 11 cfg0.N = T11 (refArgs m c) := by
  refine (dats m 0 c).arrAt_eq_of_cover 11 (T11 (refArgs m c)) (fun t hf => ?_) (fun i => ⟨⟨0, by decide⟩, by rfl, ?_⟩)
  · rw [Value.flushed11 m c t, blk0 m c t, blk1 m c t, blk2 m c t, blk3 m c t, blk4 m c t, blk5 m c t, blk6 m c t, blk7 m c t, blk8 m c t]
    have e := out11_eq (A := refArgs m c) (W := V m c main_v0) (d := V m c main_v1) (v1_apply m c) hs
    funext j
    refine (congrFun e j).trans ?_
    exact (congrArg (T11 (refArgs m c)) (emb11 t j)).symm
  · have h := ((cfg0.win 11).blk ⟨0, by decide⟩).view.emb_mem_set i
    rw [emb11 _ i] at h
    exact h

theorem ref12 (c : Dev nD) (hs : (refArgs m c).ds (ix1 0) ≠ 0) : (dats m 0 c).arrAt 12 cfg0.N = T12 (refArgs m c) := by
  refine (dats m 0 c).arrAt_eq_of_cover 12 (T12 (refArgs m c)) (fun t hf => ?_) (fun i => ⟨⟨0, by decide⟩, by rfl, ?_⟩)
  · rw [Value.flushed12 m c t, blk0 m c t, blk1 m c t, blk2 m c t, blk3 m c t, blk4 m c t, blk5 m c t, blk6 m c t, blk7 m c t, blk8 m c t]
    have e := out12_eq (A := refArgs m c) (W := V m c main_v0) (d := V m c main_v1) (v1_apply m c) hs
    funext j
    refine (congrFun e j).trans ?_
    exact (congrArg (T12 (refArgs m c)) (emb12 t j)).symm
  · have h := ((cfg0.win 12).blk ⟨0, by decide⟩).view.emb_mem_set i
    rw [emb12 _ i] at h
    exact h

end

/-- The precondition, read: the scale is not zero. -/
theorem scale [Cert.Pre_scale_nonzero.Facts] {m} (h : Cert.Pre_BackwardIdeal_scale_nonzero m)
    (c : Dev Cert.BackwardIdeal.nD) : (argsOf m c).ds (ix1 0) ≠ 0 := by
  have e := congrFun (h c) default
  unfold Cert.Pre_scale_nonzero.fn at e
  have : Subsingleton Cert.Pre_scale_nonzero.S_.Idx := ⟨fun a b => funext fun x => x.elim0⟩
  have e' := Host.reduce_andi_all _ _ _ _ _ e (ix1 0)
  intro hn
  have e2 : (FloatOps.cmpf .une ((argsOf m c).ds (ix1 0)) (Scalar.ofBits .f32 0x00000000#32 : Ideal .f32) : BitVec 1) = 1#1 := e'
  rw [hn] at e2
  have e3 : (Scalar.ofBits .f32 0x00000000#32 : Ideal .f32) = (0 : EReal) := Ideal.ofBits_zero_f32
  rw [e3] at e2
  have e4 : (FloatOps.cmpf (F := Ideal) (φ := .f32) .une (0 : EReal) (0 : EReal) : BitVec 1) = 0#1 := by
    show Ideal.cmp .une (0 : EReal) (0 : EReal) = 0#1
    simp [Ideal.cmp]
  rw [e4] at e2
  exact absurd e2 (by decide)

end Cert.BackwardRefIdeal.Hand

end
-- ==== Proof.Backward.Claims.lean ====
/- THE BACKWARD CALL'S VALUE CLAIM: over the reals the call and its reference end with equal results. -/
module

public import proofs.«01_k».proof.Proof.Backward.Same
public import Idealize.ShloMosaic.Adequacy

@[expose] public section

set_option maxRecDepth 16384

noncomputable section

namespace Cert.Backward.Claims

open Idealize.ShloMosaic Idealize.SL.Sem
open Cert.BackwardIdeal.Hand (T9 T10 T11 T12 argsOf)
open Idealize.ShloMosaic.Pipeline (RDat)

theorem algebraic [Cert.Pre_scale_nonzero.Facts] :
    Cert.algebraic_BackwardIdeal_BackwardRefIdeal_pre_scale_nonzero := fun m ρ m' ρ' hpre hag => by
  refine ⟨fun c => T9 (argsOf m c), fun c => T10 (argsOf m c), fun c => T11 (argsOf m c), fun c => T12 (argsOf m c), ?_, ?_⟩
  · refine (θ_run _ _ _).mono (fun r h c => ?_) (Cert.BackwardIdeal.Hand.run_main m ρ)
    obtain ⟨h9, h10, h11, h12⟩ := Cert.BackwardIdeal.Hand.results m h.1 c
    exact ⟨h9, h10, h11, h12, RDat.FramePost.arr_in h.1 c 0 rfl, RDat.FramePost.arr_in h.1 c 1 rfl, RDat.FramePost.arr_in h.1 c 2 rfl, RDat.FramePost.arr_in h.1 c 3 rfl, RDat.FramePost.arr_in h.1 c 4 rfl, RDat.FramePost.arr_in h.1 c 5 rfl, RDat.FramePost.arr_in h.1 c 6 rfl, RDat.FramePost.arr_in h.1 c 7 rfl, RDat.FramePost.arr_in h.1 c 8 rfl⟩
  · refine (θ_run _ _ _).mono (fun r h c => ?_) (Cert.BackwardRefIdeal.Value.run_blocks m' ρ')
    obtain ⟨h9, h10, h11, h12, hk⟩ := h c
    obtain ⟨e0, e1, e2, e3, e4, e5, e6, e7, e8⟩ := hag c
    have e : Cert.BackwardRefIdeal.Hand.refArgs m' c = argsOf m c := by
      unfold Cert.BackwardRefIdeal.Hand.refArgs argsOf
      rw [e0, e1, e2, e3, e4, e5, e6, e7, e8]
      try rfl
    have hs : (Cert.BackwardRefIdeal.Hand.refArgs m' c).ds (ix1 0) ≠ 0 := by
      rw [e]; exact Cert.BackwardRefIdeal.Hand.scale hpre c
    refine ⟨h9.trans ?_, h10.trans ?_, h11.trans ?_, h12.trans ?_, hk⟩
    · exact (Cert.BackwardRefIdeal.Hand.ref9 m' c hs).trans (congrArg T9 e)
    · exact (Cert.BackwardRefIdeal.Hand.ref10 m' c hs).trans (congrArg T10 e)
    · exact (Cert.BackwardRefIdeal.Hand.ref11 m' c hs).trans (congrArg T11 e)
    · exact (Cert.BackwardRefIdeal.Hand.ref12 m' c hs).trans (congrArg T12 e)

end Cert.Backward.Claims

end
-- ==== Proof.lean ====
/- The certificate's claims, assembled. -/
module

public import proofs.«01_k».proof.Defs
public import proofs.«01_k».proof.Proof.Gen.ForwardRefIdeal.Value
public import proofs.«01_k».proof.Proof.Gen.BackwardRefIdeal.Value
public import proofs.«01_k».proof.Proof.Gen.Pre_labels_in_vocabulary
public import proofs.«01_k».proof.Proof.Gen.Pre_scale_nonzero
public import proofs.«01_k».proof.Proof.Gen.Pre_segments_distinct
public import proofs.«01_k».proof.Proof.Gen.Norm.Frame
public import proofs.«01_k».proof.Proof.Gen.Final.Frame
public import proofs.«01_k».proof.Proof.Gen.FinalIdeal.Value
public import proofs.«01_k».proof.Proof.Gen.FinalRefIdeal.Run
public import proofs.«01_k».proof.Proof.Final.Claims
public import proofs.«01_k».proof.Proof.Gen.Pairs.Frame
public import proofs.«01_k».proof.Proof.Gen.PairsIdeal.Value
public import proofs.«01_k».proof.Proof.Gen.PairsRefIdeal.Run
public import proofs.«01_k».proof.Proof.Pairs.Claims
public import proofs.«01_k».proof.Proof.Gen.LoraB.Run
public import proofs.«01_k».proof.Proof.Gen.LoraBIdeal.Run
public import proofs.«01_k».proof.Proof.Gen.LoraBRefIdeal.Run
public import proofs.«01_k».proof.Proof.LoraB.Claims
public import proofs.«01_k».proof.Proof.Norm.Claims
public import proofs.«01_k».proof.Proof.Forward.Frame
public import proofs.«01_k».proof.Proof.Forward.Claims
public import proofs.«01_k».proof.Proof.Backward.Frame
public import proofs.«01_k».proof.Proof.Backward.Claims

@[expose] public section

noncomputable section

namespace Cert.Proof

open Idealize.ShloMosaic Idealize.SL.Sem

theorem claim : Cert.Claim :=
  ⟨Cert.Norm.Gen.facts, Cert.NormIdeal.Gen.facts, Cert.NormRefIdeal.Gen.facts, Cert.Forward.Gen.facts, Cert.ForwardIdeal.Gen.facts, Cert.ForwardRefIdeal.Gen.facts, Cert.Backward.Gen.facts, Cert.BackwardIdeal.Gen.facts, Cert.BackwardRefIdeal.Gen.facts, Cert.Final.Gen.facts, Cert.FinalIdeal.Gen.facts, Cert.FinalRefIdeal.Gen.facts, Cert.Pairs.Gen.facts, Cert.PairsIdeal.Gen.facts, Cert.PairsRefIdeal.Gen.facts, Cert.LoraB.Gen.facts, Cert.LoraBIdeal.Gen.facts, Cert.LoraBRefIdeal.Gen.facts, Cert.Pre_labels_in_vocabulary.Gen.facts, Cert.Pre_scale_nonzero.Gen.facts, Cert.Pre_segments_distinct.Gen.facts,
    fun m ρ _ => Cert.Norm.Gen.frame m ρ,
    fun m ρ _ => Cert.NormIdeal.Gen.frame m ρ,
    fun m ρ _ => Cert.NormRefIdeal.Gen.frame m ρ,
    fun m ρ _ => Cert.Forward.Hand.frame m ρ,
    fun m ρ _ => Cert.ForwardIdeal.Hand.frame m ρ,
    fun m ρ _ => Cert.ForwardIdeal.Hand.frame m ρ,
    fun m ρ _ => Cert.ForwardRefIdeal.Gen.frame m ρ,
    fun m ρ _ => Cert.ForwardRefIdeal.Gen.frame m ρ,
    fun m ρ _ => Cert.Backward.Hand.frame m ρ,
    fun m ρ _ => Cert.BackwardIdeal.Hand.frame m ρ,
    fun m ρ _ => Cert.BackwardIdeal.Hand.frame m ρ,
    fun m ρ _ => Cert.BackwardRefIdeal.Gen.frame m ρ,
    fun m ρ _ => Cert.BackwardRefIdeal.Gen.frame m ρ,
    fun m ρ _ => Cert.Final.Gen.frame m ρ,
    fun m ρ _ => Cert.FinalIdeal.Gen.frame m ρ,
    Cert.FinalRefIdeal.Hand.frame,
    fun m ρ _ => Cert.Pairs.Gen.frame m ρ,
    fun m ρ _ => Cert.PairsIdeal.Gen.frame m ρ,
    fun m ρ _ => Cert.PairsIdeal.Gen.frame m ρ,
    Cert.PairsRefIdeal.Hand.frame,
    fun m ρ _ => Cert.PairsRefIdeal.Hand.frame m ρ trivial,
    Cert.LoraB.Hand.frame,
    Cert.LoraB.Hand.frame_ideal,
    Cert.LoraB.Hand.frame_ref,
    trivial,
    Cert.NormIdeal.Hand.algebraic,
    IdealRules.named_const.statement Cert.ForwardIdeal.κ "mask" .f32 0xF149F2CA#32 ⊥ rfl,
    Cert.Forward.Claims.algebraic,
    trivial,
    Cert.Backward.Claims.algebraic,
    trivial,
    Cert.FinalIdeal.Hand.algebraic,
    trivial,
    Cert.PairsIdeal.Hand.algebraic,
    trivial,
    Cert.LoraB.Hand.algebraic⟩

end Cert.Proof

end
